-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S4x8192x8x64 : Shape := ⟨4, ![4, 8192, 8, 64]⟩
abbrev S4x8192x8x32 : Shape := ⟨4, ![4, 8192, 8, 32]⟩
abbrev S4x8192x32 : Shape := ⟨3, ![4, 8192, 32]⟩
abbrev S_ : Shape := ⟨0, ![]⟩

class Facts : Prop where
  bcast_S_S4x8192x8x64 : S_.BroadcastsInDim S4x8192x8x64 (![] : Fin 0 → Fin S4x8192x8x64.rank)
  reducesTo_S4x8192x8x64_S_d0_1_2_3 : S4x8192x8x64.ReducesTo [0, 1, 2, 3] S_
  h_S_ : 0 < S_.numel
  bcast_S_S4x8192x8x32 : S_.BroadcastsInDim S4x8192x8x32 (![] : Fin 0 → Fin S4x8192x8x32.rank)
  reducesTo_S4x8192x8x32_S_d0_1_2_3 : S4x8192x8x32.ReducesTo [0, 1, 2, 3] S_
  bcast_S_S4x8192x32 : S_.BroadcastsInDim S4x8192x32 (![] : Fin 0 → Fin S4x8192x32.rank)
  reducesTo_S4x8192x32_S_d0_1_2 : S4x8192x32.ReducesTo [0, 1, 2] S_

variable [Facts]

def fn_part1 {F : FTy → Type} [FloatOps F] (main_v13 : IVec S_ 1) (main_v16 : IVec S4x8192x32 1) : IVec S_ 1 :=
  let main_c_5 : IVec S_ 1 := constantI S_ 1 1#1
  let main_v17 : IVec S_ 1 := (fun x v => Host.reduce IntOp.andi x v reducesTo_S4x8192x32_S_d0_1_2 h_S_) main_v16 main_c_5
  let main_v18 : IVec S_ 1 := andi main_v13 main_v17
  main_v18

def fn {F : FTy → Type} [FloatOps F] (main_arg0 : FVec F S4x8192x8x64 .f32) (main_arg1 : FVec F S4x8192x8x32 .f32) (main_arg2 : FVec F S4x8192x8x64 .f32) (main_arg3 : FVec F S4x8192x32 .f32) (main_arg4 : FVec F S4x8192x8x64 .f32) : IVec S_ 1 :=
  let main_v0 : FVec F S4x8192x8x64 .f32 := Host.absf main_arg0
  let main_cst : FVec F S_ .f32 := constant S_ .f32 0x7F800000#32
  let main_v1 : FVec F S4x8192x8x64 .f32 := broadcastInDim S4x8192x8x64 ![] bcast_S_S4x8192x8x64 main_cst
  let main_v2 : IVec S4x8192x8x64 1 := cmpf .olt main_v0 main_v1
  let main_c : IVec S_ 1 := constantI S_ 1 1#1
  let main_v3 : IVec S_ 1 := (fun x v => Host.reduce IntOp.andi x v reducesTo_S4x8192x8x64_S_d0_1_2_3 h_S_) main_v2 main_c
  let main_v4 : FVec F S4x8192x8x32 .f32 := Host.absf main_arg1
  let main_cst_0 : FVec F S_ .f32 := constant S_ .f32 0x7F800000#32
  let main_v5 : FVec F S4x8192x8x32 .f32 := broadcastInDim S4x8192x8x32 ![] bcast_S_S4x8192x8x32 main_cst_0
  let main_v6 : IVec S4x8192x8x32 1 := cmpf .olt main_v4 main_v5
  let main_c_1 : IVec S_ 1 := constantI S_ 1 1#1
  let main_v7 : IVec S_ 1 := (fun x v => Host.reduce IntOp.andi x v reducesTo_S4x8192x8x32_S_d0_1_2_3 h_S_) main_v6 main_c_1
  let main_v8 : IVec S_ 1 := andi main_v3 main_v7
  let main_v9 : FVec F S4x8192x8x64 .f32 := Host.absf main_arg2
  let main_cst_2 : FVec F S_ .f32 := constant S_ .f32 0x7F800000#32
  let main_v10 : FVec F S4x8192x8x64 .f32 := broadcastInDim S4x8192x8x64 ![] bcast_S_S4x8192x8x64 main_cst_2
  let main_v11 : IVec S4x8192x8x64 1 := cmpf .olt main_v9 main_v10
  let main_c_3 : IVec S_ 1 := constantI S_ 1 1#1
  let main_v12 : IVec S_ 1 := (fun x v => Host.reduce IntOp.andi x v reducesTo_S4x8192x8x64_S_d0_1_2_3 h_S_) main_v11 main_c_3
  let main_v13 : IVec S_ 1 := andi main_v8 main_v12
  let main_v14 : FVec F S4x8192x32 .f32 := Host.absf main_arg3
  let main_cst_4 : FVec F S_ .f32 := constant S_ .f32 0x7F800000#32
  let main_v15 : FVec F S4x8192x32 .f32 := broadcastInDim S4x8192x32 ![] bcast_S_S4x8192x32 main_cst_4
  let main_v16 : IVec S4x8192x32 1 := cmpf .olt main_v14 main_v15
  fn_part1 (F := F) main_v13 main_v16
-- ==== Kernel.lean ====
abbrev S4x8192x8x64 : Shape := ⟨4, ![4, 8192, 8, 64]⟩
abbrev S4x8192x8x32 : Shape := ⟨4, ![4, 8192, 8, 32]⟩
abbrev S4x8192x32 : Shape := ⟨3, ![4, 8192, 32]⟩
abbrev S_ : Shape := ⟨0, ![]⟩
abbrev S4x8192x8x128 : Shape := ⟨4, ![4, 8192, 8, 128]⟩
abbrev S4x8192x1024 : Shape := ⟨3, ![4, 8192, 1024]⟩
abbrev S4x8192x1x32 : Shape := ⟨4, ![4, 8192, 1, 32]⟩
abbrev S4x16x512x8x64 : Shape := ⟨5, ![4, 16, 512, 8, 64]⟩
abbrev S4x16x8x64x512 : Shape := ⟨5, ![4, 16, 8, 64, 512]⟩
abbrev S4x16x8x16x512 : Shape := ⟨5, ![4, 16, 8, 16, 512]⟩
abbrev S4x16x8x80x512 : Shape := ⟨5, ![4, 16, 8, 80, 512]⟩
abbrev S4x16x640x512 : Shape := ⟨4, ![4, 16, 640, 512]⟩
abbrev S4x8192x512 : Shape := ⟨3, ![4, 8192, 512]⟩
abbrev S1x512x512 : Shape := ⟨3, ![1, 512, 512]⟩
abbrev S1x8192x512 : Shape := ⟨3, ![1, 8192, 512]⟩
abbrev S1x16x320x512 : Shape := ⟨4, ![1, 16, 320, 512]⟩
abbrev S1x512x256 : Shape := ⟨3, ![1, 512, 256]⟩
abbrev S512x512 : Shape := ⟨2, ![512, 512]⟩
abbrev S1x512 : Shape := ⟨2, ![1, 512]⟩
abbrev S80x512 : Shape := ⟨2, ![80, 512]⟩
abbrev S1x512x128 : Shape := ⟨3, ![1, 512, 128]⟩
abbrev S512x128 : Shape := ⟨2, ![512, 128]⟩
abbrev S512 : Shape := ⟨1, ![512]⟩
abbrev S1x1x80x512 : Shape := ⟨4, ![1, 1, 80, 512]⟩
abbrev S64x512 : Shape := ⟨2, ![64, 512]⟩
abbrev S256x512 : Shape := ⟨2, ![256, 512]⟩
abbrev S512x256 : Shape := ⟨2, ![512, 256]⟩

abbrev nBuf : Space → Nat
  | .hbm => 34
  | .vmem => 12
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x32, .f32⟩
  | .hbm, ⟨2, _⟩ => ⟨S4x8192x8x64, .f32⟩
  | .hbm, ⟨3, _⟩ => ⟨S4x8192x32, .f32⟩
  | .hbm, ⟨4, _⟩ => ⟨S4x8192x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x8192x8x32, .f32⟩
  | .hbm, ⟨14, _⟩ => ⟨S4x8192x8x64, .f32⟩
  | .hbm, ⟨15, _⟩ => ⟨S4x8192x8x64, .f32⟩
  | .hbm, ⟨16, _⟩ => ⟨S4x8192x8x32, .f32⟩
  | .hbm, ⟨17, _⟩ => ⟨S4x8192x8x32, .f32⟩
  | .hbm, ⟨18, _⟩ => ⟨S4x8192x8x128, .f32⟩
  | .hbm, ⟨19, _⟩ => ⟨S4x8192x1024, .f32⟩
  | .hbm, ⟨20, _⟩ => ⟨S4x8192x1024, .bf16⟩
  | .hbm, ⟨21, _⟩ => ⟨S4x8192x1x32, .f32⟩
  | .hbm, ⟨22, _⟩ => ⟨S4x8192x8x32, .f32⟩
  | .hbm, ⟨23, _⟩ => ⟨S4x8192x8x128, .f32⟩
  | .hbm, ⟨24, _⟩ => ⟨S4x8192x1024, .f32⟩
  | .hbm, ⟨25, _⟩ => ⟨S4x8192x1024, .bf16⟩
  | .hbm, ⟨26, _⟩ => ⟨S4x16x512x8x64, .f32⟩
  | .hbm, ⟨27, _⟩ => ⟨S4x16x8x64x512, .f32⟩
  | .hbm, ⟨28, _⟩ => ⟨S_, .f32⟩
  | .hbm, ⟨29, _⟩ => ⟨S4x16x8x16x512, .f32⟩
  | .hbm, ⟨30, _⟩ => ⟨S4x16x8x80x512, .f32⟩
  | .hbm, ⟨31, _⟩ => ⟨S4x16x640x512, .f32⟩
  | .hbm, ⟨32, _⟩ => ⟨S4x16x640x512, .bf16⟩
  | .hbm, ⟨33, _⟩ => ⟨S4x8192x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x16x320x512, .bf16⟩
  | .local _ .vmem, ⟨5, _⟩ => ⟨S1x16x320x512, .bf16⟩
  | .local _ .vmem, ⟨6, _⟩ => ⟨S1x512x256, .bf16⟩
  | .local _ .vmem, ⟨7, _⟩ => ⟨S1x512x256, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 16], ![false, false, false]⟩

def k0_mult1 : BitVec 32 :=
  let c0_i32 : BitVec 32 := 0#32
  c0_i32
@[reducible] def k0_t1_loop (i : grid0.Coords) : Scf.Loop 32 :=
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_15 : BitVec 32 := 1#32
  ⟨c0_i32_13, v33, c1_i32_15⟩
def k0_mult2 (i : grid0.Coords) (k0_t1 : Fin (k0_t1_loop i).trips) : BitVec 32 :=
  let c4_i32_83 : BitVec 32 := 4#32
  let c0_i32_13 : BitVec 32 := 0#32
  let c1_i32_15 : BitVec 32 := 1#32
  let arg11 : BitVec 32 := Scf.iv c0_i32_13 c1_i32_15 k0_t1
  let v204 : BitVec 32 := Scalar.muli c4_i32_83 arg11
  let c0_i32_84 : BitVec 32 := 0#32
  let v205 : BitVec 32 := Scalar.addi v204 c0_i32_84
  let c512_i32_85 : BitVec 32 := 512#32
  let v206 : BitVec 32 := Scalar.muli v205 c512_i32_85
  v206
def k0_off1 (i : grid0.Coords) (k0_t1 : Fin (k0_t1_loop i).trips) (c0_i32_84 : BitVec 32) : Fin 3 → Nat :=
  let c0_86 : Index := 0#32
  let c4_i32_83 : BitVec 32 := 4#32
  let c0_i32_13 : BitVec 32 := 0#32
  let c1_i32_15 : BitVec 32 := 1#32
  let arg11 : BitVec 32 := Scf.iv c0_i32_13 c1_i32_15 k0_t1
  let v204 : BitVec 32 := Scalar.muli c4_i32_83 arg11
  let v205 : BitVec 32 := Scalar.addi v204 c0_i32_84
  let c512_i32_85 : BitVec 32 := 512#32
  let v206 : BitVec 32 := Scalar.muli v205 c512_i32_85
  let v207 : BitVec 32 := v206
  let v208 : Index := Scalar.indexCast v207
  let c128_87 : Index := 128#32
  ![0, v208.toNat, 128]
def k0_off2 (i : grid0.Coords) (k0_t1 : Fin (k0_t1_loop i).trips) (c0_i32_84 : BitVec 32) : Fin 4 → Nat :=
  let c0_97 : Index := 0#32
  let c4_i32_83 : BitVec 32 := 4#32
  let c0_i32_13 : BitVec 32 := 0#32
  let c1_i32_15 : BitVec 32 := 1#32
  let arg11 : BitVec 32 := Scf.iv c0_i32_13 c1_i32_15 k0_t1
  let v204 : BitVec 32 := Scalar.muli c4_i32_83 arg11
  let v205 : BitVec 32 := Scalar.addi v204 c0_i32_84
  let v227 : Index := Scalar.indexCast v205
  let c0_98 : Index := 0#32
  let c0_99 : Index := 0#32
  ![0, v227.toNat, 0, 0]
def k0_mult3 (i : grid0.Coords) (k0_t1 : Fin (k0_t1_loop i).trips) : BitVec 32 :=
  let c4_i32_83 : BitVec 32 := 4#32
  let c0_i32_13 : BitVec 32 := 0#32
  let c1_i32_15 : BitVec 32 := 1#32
  let arg11 : BitVec 32 := Scf.iv c0_i32_13 c1_i32_15 k0_t1
  let v204 : BitVec 32 := Scalar.muli c4_i32_83 arg11
  let c0_i32_84 : BitVec 32 := 0#32
  let v205 : BitVec 32 := Scalar.addi v204 c0_i32_84
  let c512_i32_101 : BitVec 32 := 512#32
  let v234 : BitVec 32 := Scalar.muli v205 c512_i32_101
  v234
def k0_off3 (i : grid0.Coords) (k0_t1 : Fin (k0_t1_loop i).trips) (c0_i32_84 : BitVec 32) : Fin 3 → Nat :=
  let c0_102 : Index := 0#32
  let c4_i32_83 : BitVec 32 := 4#32
  let c0_i32_13 : BitVec 32 := 0#32
  let c1_i32_15 : BitVec 32 := 1#32
  let arg11 : BitVec 32 := Scf.iv c0_i32_13 c1_i32_15 k0_t1
  let v204 : BitVec 32 := Scalar.muli c4_i32_83 arg11
  let v205 : BitVec 32 := Scalar.addi v204 c0_i32_84
  let c512_i32_101 : BitVec 32 := 512#32
  let v234 : BitVec 32 := Scalar.muli v205 c512_i32_101
  let v235 : BitVec 32 := v234
  let v236 : Index := Scalar.indexCast v235
  let c256_103 : Index := 256#32
  ![0, v236.toNat, 256]
def k0_off4 (i : grid0.Coords) (k0_t1 : Fin (k0_t1_loop i).trips) (c0_i32_84 : BitVec 32) : Fin 4 → Nat :=
  let c0_113 : Index := 0#32
  let c4_i32_83 : BitVec 32 := 4#32
  let c0_i32_13 : BitVec 32 := 0#32
  let c1_i32_15 : BitVec 32 := 1#32
  let arg11 : BitVec 32 := Scf.iv c0_i32_13 c1_i32_15 k0_t1
  let v204 : BitVec 32 := Scalar.muli c4_i32_83 arg11
  let v205 : BitVec 32 := Scalar.addi v204 c0_i32_84
  let v255 : Index := Scalar.indexCast v205
  let c80_114 : Index := 80#32
  let c0_115 : Index := 0#32
  ![0, v255.toNat, 80, 0]
def k0_mult4 (i : grid0.Coords) (k0_t1 : Fin (k0_t1_loop i).trips) : BitVec 32 :=
  let c4_i32_83 : BitVec 32 := 4#32
  let c0_i32_13 : BitVec 32 := 0#32
  let c1_i32_15 : BitVec 32 := 1#32
  let arg11 : BitVec 32 := Scf.iv c0_i32_13 c1_i32_15 k0_t1
  let v204 : BitVec 32 := Scalar.muli c4_i32_83 arg11
  let c0_i32_84 : BitVec 32 := 0#32
  let v205 : BitVec 32 := Scalar.addi v204 c0_i32_84
  let c512_i32_117 : BitVec 32 := 512#32
  let v262 : BitVec 32 := Scalar.muli v205 c512_i32_117
  v262
def k0_off5 (i : grid0.Coords) (k0_t1 : Fin (k0_t1_loop i).trips) (c0_i32_84 : BitVec 32) : Fin 3 → Nat :=
  let c0_118 : Index := 0#32
  let c4_i32_83 : BitVec 32 := 4#32
  let c0_i32_13 : BitVec 32 := 0#32
  let c1_i32_15 : BitVec 32 := 1#32
  let arg11 : BitVec 32 := Scf.iv c0_i32_13 c1_i32_15 k0_t1
  let v204 : BitVec 32 := Scalar.muli c4_i32_83 arg11
  let v205 : BitVec 32 := Scalar.addi v204 c0_i32_84
  let c512_i32_117 : BitVec 32 := 512#32
  let v262 : BitVec 32 := Scalar.muli v205 c512_i32_117
  let v263 : BitVec 32 := v262
  let v264 : Index := Scalar.indexCast v263
  let c384_119 : Index := 384#32
  ![0, v264.toNat, 384]
def k0_off6 (i : grid0.Coords) (k0_t1 : Fin (k0_t1_loop i).trips) (c0_i32_84 : BitVec 32) : Fin 4 → Nat :=
  let c0_129 : Index := 0#32
  let c4_i32_83 : BitVec 32 := 4#32
  let c0_i32_13 : BitVec 32 := 0#32
  let c1_i32_15 : BitVec 32 := 1#32
  let arg11 : BitVec 32 := Scf.iv c0_i32_13 c1_i32_15 k0_t1
  let v204 : BitVec 32 := Scalar.muli c4_i32_83 arg11
  let v205 : BitVec 32 := Scalar.addi v204 c0_i32_84
  let v283 : Index := Scalar.indexCast v205
  let c160_130 : Index := 160#32
  let c0_131 : Index := 0#32
  ![0, v283.toNat, 160, 0]
def k0_mult5 (i : grid0.Coords) (k0_t1 : Fin (k0_t1_loop i).trips) : BitVec 32 :=
  let c4_i32_83 : BitVec 32 := 4#32
  let c0_i32_13 : BitVec 32 := 0#32
  let c1_i32_15 : BitVec 32 := 1#32
  let arg11 : BitVec 32 := Scf.iv c0_i32_13 c1_i32_15 k0_t1
  let v204 : BitVec 32 := Scalar.muli c4_i32_83 arg11
  let c0_i32_84 : BitVec 32 := 0#32
  let v205 : BitVec 32 := Scalar.addi v204 c0_i32_84
  let c1_i32_133 : BitVec 32 := 1#32
  let v290 : BitVec 32 := Scalar.addi v205 c1_i32_133
  let c512_i32_134 : BitVec 32 := 512#32
  let v291 : BitVec 32 := Scalar.muli v290 c512_i32_134
  v291
def k0_off7 (i : grid0.Coords) (k0_t1 : Fin (k0_t1_loop i).trips) (c0_i32_84 : BitVec 32) : Fin 3 → Nat :=
  let c0_135 : Index := 0#32
  let c4_i32_83 : BitVec 32 := 4#32
  let c0_i32_13 : BitVec 32 := 0#32
  let c1_i32_15 : BitVec 32 := 1#32
  let arg11 : BitVec 32 := Scf.iv c0_i32_13 c1_i32_15 k0_t1
  let v204 : BitVec 32 := Scalar.muli c4_i32_83 arg11
  let v205 : BitVec 32 := Scalar.addi v204 c0_i32_84
  let c1_i32_133 : BitVec 32 := 1#32
  let v290 : BitVec 32 := Scalar.addi v205 c1_i32_133
  let c512_i32_134 : BitVec 32 := 512#32
  let v291 : BitVec 32 := Scalar.muli v290 c512_i32_134
  let v292 : BitVec 32 := v291
  let v293 : Index := Scalar.indexCast v292
  let c0_136 : Index := 0#32
  ![0, v293.toNat, 0]
def k0_off8 (i : grid0.Coords) (k0_t1 : Fin (k0_t1_loop i).trips) (c0_i32_84 : BitVec 32) : Fin 4 → Nat :=
  let c0_146 : Index := 0#32
  let c4_i32_83 : BitVec 32 := 4#32
  let c0_i32_13 : BitVec 32 := 0#32
  let c1_i32_15 : BitVec 32 := 1#32
  let arg11 : BitVec 32 := Scf.iv c0_i32_13 c1_i32_15 k0_t1
  let v204 : BitVec 32 := Scalar.muli c4_i32_83 arg11
  let v205 : BitVec 32 := Scalar.addi v204 c0_i32_84
  let v312 : Index := Scalar.indexCast v205
  let c240_147 : Index := 240#32
  let c0_148 : Index := 0#32
  ![0, v312.toNat, 240, 0]
def k0_mult6 (i : grid0.Coords) (k0_t1 : Fin (k0_t1_loop i).trips) : BitVec 32 :=
  let c4_i32_150 : BitVec 32 := 4#32
  let c0_i32_13 : BitVec 32 := 0#32
  let c1_i32_15 : BitVec 32 := 1#32
  let arg11 : BitVec 32 := Scf.iv c0_i32_13 c1_i32_15 k0_t1
  let v319 : BitVec 32 := Scalar.muli c4_i32_150 arg11
  let c1_i32_151 : BitVec 32 := 1#32
  let v320 : BitVec 32 := Scalar.addi v319 c1_i32_151
  let c512_i32_152 : BitVec 32 := 512#32
  let v321 : BitVec 32 := Scalar.muli v320 c512_i32_152
  v321
def k0_mult7 (i : grid0.Coords) (k0_t1 : Fin (k0_t1_loop i).trips) : BitVec 32 :=
  let c4_i32_150 : BitVec 32 := 4#32
  let c0_i32_13 : BitVec 32 := 0#32
  let c1_i32_15 : BitVec 32 := 1#32
  let arg11 : BitVec 32 := Scf.iv c0_i32_13 c1_i32_15 k0_t1
  let v319 : BitVec 32 := Scalar.muli c4_i32_150 arg11
  let c1_i32_151 : BitVec 32 := 1#32
  let v320 : BitVec 32 := Scalar.addi v319 c1_i32_151
  let c512_i32_168 : BitVec 32 := 512#32
  let v349 : BitVec 32 := Scalar.muli v320 c512_i32_168
  v349
def k0_mult8 (i : grid0.Coords) (k0_t1 : Fin (k0_t1_loop i).trips) : BitVec 32 :=
  let c4_i32_150 : BitVec 32 := 4#32
  let c0_i32_13 : BitVec 32 := 0#32
  let c1_i32_15 : BitVec 32 := 1#32
  let arg11 : BitVec 32 := Scf.iv c0_i32_13 c1_i32_15 k0_t1
  let v319 : BitVec 32 := Scalar.muli c4_i32_150 arg11
  let c1_i32_151 : BitVec 32 := 1#32
  let v320 : BitVec 32 := Scalar.addi v319 c1_i32_151
  let c512_i32_184 : BitVec 32 := 512#32
  let v377 : BitVec 32 := Scalar.muli v320 c512_i32_184
  v377
def k0_mult9 (i : grid0.Coords) (k0_t1 : Fin (k0_t1_loop i).trips) : BitVec 32 :=
  let c4_i32_150 : BitVec 32 := 4#32
  let c0_i32_13 : BitVec 32 := 0#32
  let c1_i32_15 : BitVec 32 := 1#32
  let arg11 : BitVec 32 := Scf.iv c0_i32_13 c1_i32_15 k0_t1
  let v319 : BitVec 32 := Scalar.muli c4_i32_150 arg11
  let c1_i32_151 : BitVec 32 := 1#32
  let v320 : BitVec 32 := Scalar.addi v319 c1_i32_151
  let c1_i32_200 : BitVec 32 := 1#32
  let v405 : BitVec 32 := Scalar.addi v320 c1_i32_200
  let c512_i32_201 : BitVec 32 := 512#32
  let v406 : BitVec 32 := Scalar.muli v405 c512_i32_201
  v406
def k0_mult10 (i : grid0.Coords) (k0_t1 : Fin (k0_t1_loop i).trips) : BitVec 32 :=
  let c4_i32_217 : BitVec 32 := 4#32
  let c0_i32_13 : BitVec 32 := 0#32
  let c1_i32_15 : BitVec 32 := 1#32
  let arg11 : BitVec 32 := Scf.iv c0_i32_13 c1_i32_15 k0_t1
  let v434 : BitVec 32 := Scalar.muli c4_i32_217 arg11
  let c2_i32 : BitVec 32 := 2#32
  let v435 : BitVec 32 := Scalar.addi v434 c2_i32
  let c512_i32_218 : BitVec 32 := 512#32
  let v436 : BitVec 32 := Scalar.muli v435 c512_i32_218
  v436
def k0_mult11 (i : grid0.Coords) (k0_t1 : Fin (k0_t1_loop i).trips) : BitVec 32 :=
  let c4_i32_217 : BitVec 32 := 4#32
  let c0_i32_13 : BitVec 32 := 0#32
  let c1_i32_15 : BitVec 32 := 1#32
  let arg11 : BitVec 32 := Scf.iv c0_i32_13 c1_i32_15 k0_t1
  let v434 : BitVec 32 := Scalar.muli c4_i32_217 arg11
  let c2_i32 : BitVec 32 := 2#32
  let v435 : BitVec 32 := Scalar.addi v434 c2_i32
  let c512_i32_234 : BitVec 32 := 512#32
  let v464 : BitVec 32 := Scalar.muli v435 c512_i32_234
  v464
def k0_mult12 (i : grid0.Coords) (k0_t1 : Fin (k0_t1_loop i).trips) : BitVec 32 :=
  let c4_i32_217 : BitVec 32 := 4#32
  let c0_i32_13 : BitVec 32 := 0#32
  let c1_i32_15 : BitVec 32 := 1#32
  let arg11 : BitVec 32 := Scf.iv c0_i32_13 c1_i32_15 k0_t1
  let v434 : BitVec 32 := Scalar.muli c4_i32_217 arg11
  let c2_i32 : BitVec 32 := 2#32
  let v435 : BitVec 32 := Scalar.addi v434 c2_i32
  let c512_i32_250 : BitVec 32 := 512#32
  let v492 : BitVec 32 := Scalar.muli v435 c512_i32_250
  v492
def k0_mult13 (i : grid0.Coords) (k0_t1 : Fin (k0_t1_loop i).trips) : BitVec 32 :=
  let c4_i32_217 : BitVec 32 := 4#32
  let c0_i32_13 : BitVec 32 := 0#32
  let c1_i32_15 : BitVec 32 := 1#32
  let arg11 : BitVec 32 := Scf.iv c0_i32_13 c1_i32_15 k0_t1
  let v434 : BitVec 32 := Scalar.muli c4_i32_217 arg11
  let c2_i32 : BitVec 32 := 2#32
  let v435 : BitVec 32 := Scalar.addi v434 c2_i32
  let c1_i32_266 : BitVec 32 := 1#32
  let v520 : BitVec 32 := Scalar.addi v435 c1_i32_266
  let c512_i32_267 : BitVec 32 := 512#32
  let v521 : BitVec 32 := Scalar.muli v520 c512_i32_267
  v521
def k0_mult14 (i : grid0.Coords) (k0_t1 : Fin (k0_t1_loop i).trips) : BitVec 32 :=
  let c4_i32_283 : BitVec 32 := 4#32
  let c0_i32_13 : BitVec 32 := 0#32
  let c1_i32_15 : BitVec 32 := 1#32
  let arg11 : BitVec 32 := Scf.iv c0_i32_13 c1_i32_15 k0_t1
  let v549 : BitVec 32 := Scalar.muli c4_i32_283 arg11
  let c3_i32 : BitVec 32 := 3#32
  let v550 : BitVec 32 := Scalar.addi v549 c3_i32
  let c512_i32_284 : BitVec 32 := 512#32
  let v551 : BitVec 32 := Scalar.muli v550 c512_i32_284
  v551
def k0_mult15 (i : grid0.Coords) (k0_t1 : Fin (k0_t1_loop i).trips) : BitVec 32 :=
  let c4_i32_283 : BitVec 32 := 4#32
  let c0_i32_13 : BitVec 32 := 0#32
  let c1_i32_15 : BitVec 32 := 1#32
  let arg11 : BitVec 32 := Scf.iv c0_i32_13 c1_i32_15 k0_t1
  let v549 : BitVec 32 := Scalar.muli c4_i32_283 arg11
  let c3_i32 : BitVec 32 := 3#32
  let v550 : BitVec 32 := Scalar.addi v549 c3_i32
  let c512_i32_300 : BitVec 32 := 512#32
  let v579 : BitVec 32 := Scalar.muli v550 c512_i32_300
  v579
def k0_mult16 (i : grid0.Coords) (k0_t1 : Fin (k0_t1_loop i).trips) : BitVec 32 :=
  let c4_i32_283 : BitVec 32 := 4#32
  let c0_i32_13 : BitVec 32 := 0#32
  let c1_i32_15 : BitVec 32 := 1#32
  let arg11 : BitVec 32 := Scf.iv c0_i32_13 c1_i32_15 k0_t1
  let v549 : BitVec 32 := Scalar.muli c4_i32_283 arg11
  let c3_i32 : BitVec 32 := 3#32
  let v550 : BitVec 32 := Scalar.addi v549 c3_i32
  let c512_i32_316 : BitVec 32 := 512#32
  let v607 : BitVec 32 := Scalar.muli v550 c512_i32_316
  v607
def k0_mult17 (i : grid0.Coords) (k0_t1 : Fin (k0_t1_loop i).trips) : BitVec 32 :=
  let c4_i32_283 : BitVec 32 := 4#32
  let c0_i32_13 : BitVec 32 := 0#32
  let c1_i32_15 : BitVec 32 := 1#32
  let arg11 : BitVec 32 := Scf.iv c0_i32_13 c1_i32_15 k0_t1
  let v549 : BitVec 32 := Scalar.muli c4_i32_283 arg11
  let c3_i32 : BitVec 32 := 3#32
  let v550 : BitVec 32 := Scalar.addi v549 c3_i32
  let c1_i32_332 : BitVec 32 := 1#32
  let v635 : BitVec 32 := Scalar.addi v550 c1_i32_332
  let c512_i32_333 : BitVec 32 := 512#32
  let v636 : BitVec 32 := Scalar.muli v635 c512_i32_333
  v636
@[reducible] def k0_t2_loop (i : grid0.Coords) : Scf.Loop 32 :=
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let v30 : BitVec 32 := Scalar.addi c0_i32_13 v29
  let c1_i32_16 : BitVec 32 := 1#32
  ⟨v33, v30, c1_i32_16⟩
def k0_mult18 (i : grid0.Coords) (k0_t2 : Fin (k0_t2_loop i).trips) : BitVec 32 :=
  let c4_i32_83 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v204 : BitVec 32 := Scalar.muli c4_i32_83 arg11
  let c0_i32_84 : BitVec 32 := 0#32
  let v205 : BitVec 32 := Scalar.addi v204 c0_i32_84
  let c512_i32_85 : BitVec 32 := 512#32
  let v206 : BitVec 32 := Scalar.muli v205 c512_i32_85
  v206
def k0_off9 (i : grid0.Coords) (k0_t2 : Fin (k0_t2_loop i).trips) (c0_i32_84 : BitVec 32) : Fin 3 → Nat :=
  let c0_86 : Index := 0#32
  let c4_i32_83 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v204 : BitVec 32 := Scalar.muli c4_i32_83 arg11
  let v205 : BitVec 32 := Scalar.addi v204 c0_i32_84
  let c512_i32_85 : BitVec 32 := 512#32
  let v206 : BitVec 32 := Scalar.muli v205 c512_i32_85
  let v207 : BitVec 32 := v206
  let v208 : Index := Scalar.indexCast v207
  let c128_87 : Index := 128#32
  ![0, v208.toNat, 128]
def k0_off10 (i : grid0.Coords) (k0_t2 : Fin (k0_t2_loop i).trips) (c0_i32_84 : BitVec 32) : Fin 4 → Nat :=
  let c0_97 : Index := 0#32
  let c4_i32_83 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v204 : BitVec 32 := Scalar.muli c4_i32_83 arg11
  let v205 : BitVec 32 := Scalar.addi v204 c0_i32_84
  let v227 : Index := Scalar.indexCast v205
  let c0_98 : Index := 0#32
  let c0_99 : Index := 0#32
  ![0, v227.toNat, 0, 0]
def k0_mult19 (i : grid0.Coords) (k0_t2 : Fin (k0_t2_loop i).trips) : BitVec 32 :=
  let c4_i32_83 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v204 : BitVec 32 := Scalar.muli c4_i32_83 arg11
  let c0_i32_84 : BitVec 32 := 0#32
  let v205 : BitVec 32 := Scalar.addi v204 c0_i32_84
  let c512_i32_101 : BitVec 32 := 512#32
  let v234 : BitVec 32 := Scalar.muli v205 c512_i32_101
  v234
def k0_off11 (i : grid0.Coords) (k0_t2 : Fin (k0_t2_loop i).trips) (c0_i32_84 : BitVec 32) : Fin 3 → Nat :=
  let c0_102 : Index := 0#32
  let c4_i32_83 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v204 : BitVec 32 := Scalar.muli c4_i32_83 arg11
  let v205 : BitVec 32 := Scalar.addi v204 c0_i32_84
  let c512_i32_101 : BitVec 32 := 512#32
  let v234 : BitVec 32 := Scalar.muli v205 c512_i32_101
  let v235 : BitVec 32 := v234
  let v236 : Index := Scalar.indexCast v235
  let c256_103 : Index := 256#32
  ![0, v236.toNat, 256]
def k0_off12 (i : grid0.Coords) (k0_t2 : Fin (k0_t2_loop i).trips) (c0_i32_84 : BitVec 32) : Fin 4 → Nat :=
  let c0_113 : Index := 0#32
  let c4_i32_83 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v204 : BitVec 32 := Scalar.muli c4_i32_83 arg11
  let v205 : BitVec 32 := Scalar.addi v204 c0_i32_84
  let v255 : Index := Scalar.indexCast v205
  let c80_114 : Index := 80#32
  let c0_115 : Index := 0#32
  ![0, v255.toNat, 80, 0]
def k0_mult20 (i : grid0.Coords) (k0_t2 : Fin (k0_t2_loop i).trips) : BitVec 32 :=
  let c4_i32_83 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v204 : BitVec 32 := Scalar.muli c4_i32_83 arg11
  let c0_i32_84 : BitVec 32 := 0#32
  let v205 : BitVec 32 := Scalar.addi v204 c0_i32_84
  let c512_i32_117 : BitVec 32 := 512#32
  let v262 : BitVec 32 := Scalar.muli v205 c512_i32_117
  v262
def k0_off13 (i : grid0.Coords) (k0_t2 : Fin (k0_t2_loop i).trips) (c0_i32_84 : BitVec 32) : Fin 3 → Nat :=
  let c0_118 : Index := 0#32
  let c4_i32_83 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v204 : BitVec 32 := Scalar.muli c4_i32_83 arg11
  let v205 : BitVec 32 := Scalar.addi v204 c0_i32_84
  let c512_i32_117 : BitVec 32 := 512#32
  let v262 : BitVec 32 := Scalar.muli v205 c512_i32_117
  let v263 : BitVec 32 := v262
  let v264 : Index := Scalar.indexCast v263
  let c384_119 : Index := 384#32
  ![0, v264.toNat, 384]
def k0_off14 (i : grid0.Coords) (k0_t2 : Fin (k0_t2_loop i).trips) (c0_i32_84 : BitVec 32) : Fin 4 → Nat :=
  let c0_129 : Index := 0#32
  let c4_i32_83 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v204 : BitVec 32 := Scalar.muli c4_i32_83 arg11
  let v205 : BitVec 32 := Scalar.addi v204 c0_i32_84
  let v283 : Index := Scalar.indexCast v205
  let c160_130 : Index := 160#32
  let c0_131 : Index := 0#32
  ![0, v283.toNat, 160, 0]
def k0_mult21 (i : grid0.Coords) (k0_t2 : Fin (k0_t2_loop i).trips) : BitVec 32 :=
  let c4_i32_83 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v204 : BitVec 32 := Scalar.muli c4_i32_83 arg11
  let c0_i32_84 : BitVec 32 := 0#32
  let v205 : BitVec 32 := Scalar.addi v204 c0_i32_84
  let c1_i32_133 : BitVec 32 := 1#32
  let v290 : BitVec 32 := Scalar.addi v205 c1_i32_133
  let c512_i32_134 : BitVec 32 := 512#32
  let v291 : BitVec 32 := Scalar.muli v290 c512_i32_134
  v291
def k0_off15 (i : grid0.Coords) (k0_t2 : Fin (k0_t2_loop i).trips) (c0_i32_84 : BitVec 32) : Fin 3 → Nat :=
  let c0_135 : Index := 0#32
  let c4_i32_83 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v204 : BitVec 32 := Scalar.muli c4_i32_83 arg11
  let v205 : BitVec 32 := Scalar.addi v204 c0_i32_84
  let c1_i32_133 : BitVec 32 := 1#32
  let v290 : BitVec 32 := Scalar.addi v205 c1_i32_133
  let c512_i32_134 : BitVec 32 := 512#32
  let v291 : BitVec 32 := Scalar.muli v290 c512_i32_134
  let v292 : BitVec 32 := v291
  let v293 : Index := Scalar.indexCast v292
  let c0_136 : Index := 0#32
  ![0, v293.toNat, 0]
def k0_off16 (i : grid0.Coords) (k0_t2 : Fin (k0_t2_loop i).trips) (c0_i32_84 : BitVec 32) : Fin 4 → Nat :=
  let c0_146 : Index := 0#32
  let c4_i32_83 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v204 : BitVec 32 := Scalar.muli c4_i32_83 arg11
  let v205 : BitVec 32 := Scalar.addi v204 c0_i32_84
  let v312 : Index := Scalar.indexCast v205
  let c240_147 : Index := 240#32
  let c0_148 : Index := 0#32
  ![0, v312.toNat, 240, 0]
def k0_mult22 (i : grid0.Coords) (k0_t2 : Fin (k0_t2_loop i).trips) : BitVec 32 :=
  let c4_i32_150 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v319 : BitVec 32 := Scalar.muli c4_i32_150 arg11
  let c1_i32_151 : BitVec 32 := 1#32
  let v320 : BitVec 32 := Scalar.addi v319 c1_i32_151
  let c512_i32_152 : BitVec 32 := 512#32
  let v321 : BitVec 32 := Scalar.muli v320 c512_i32_152
  v321
def k0_mult23 (i : grid0.Coords) (k0_t2 : Fin (k0_t2_loop i).trips) : BitVec 32 :=
  let c4_i32_150 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v319 : BitVec 32 := Scalar.muli c4_i32_150 arg11
  let c1_i32_151 : BitVec 32 := 1#32
  let v320 : BitVec 32 := Scalar.addi v319 c1_i32_151
  let c512_i32_168 : BitVec 32 := 512#32
  let v349 : BitVec 32 := Scalar.muli v320 c512_i32_168
  v349
def k0_mult24 (i : grid0.Coords) (k0_t2 : Fin (k0_t2_loop i).trips) : BitVec 32 :=
  let c4_i32_150 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v319 : BitVec 32 := Scalar.muli c4_i32_150 arg11
  let c1_i32_151 : BitVec 32 := 1#32
  let v320 : BitVec 32 := Scalar.addi v319 c1_i32_151
  let c512_i32_184 : BitVec 32 := 512#32
  let v377 : BitVec 32 := Scalar.muli v320 c512_i32_184
  v377
def k0_mult25 (i : grid0.Coords) (k0_t2 : Fin (k0_t2_loop i).trips) : BitVec 32 :=
  let c4_i32_150 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v319 : BitVec 32 := Scalar.muli c4_i32_150 arg11
  let c1_i32_151 : BitVec 32 := 1#32
  let v320 : BitVec 32 := Scalar.addi v319 c1_i32_151
  let c1_i32_200 : BitVec 32 := 1#32
  let v405 : BitVec 32 := Scalar.addi v320 c1_i32_200
  let c512_i32_201 : BitVec 32 := 512#32
  let v406 : BitVec 32 := Scalar.muli v405 c512_i32_201
  v406
def k0_mult26 (i : grid0.Coords) (k0_t2 : Fin (k0_t2_loop i).trips) : BitVec 32 :=
  let c4_i32_217 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v434 : BitVec 32 := Scalar.muli c4_i32_217 arg11
  let c2_i32 : BitVec 32 := 2#32
  let v435 : BitVec 32 := Scalar.addi v434 c2_i32
  let c512_i32_218 : BitVec 32 := 512#32
  let v436 : BitVec 32 := Scalar.muli v435 c512_i32_218
  v436
def k0_mult27 (i : grid0.Coords) (k0_t2 : Fin (k0_t2_loop i).trips) : BitVec 32 :=
  let c4_i32_217 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v434 : BitVec 32 := Scalar.muli c4_i32_217 arg11
  let c2_i32 : BitVec 32 := 2#32
  let v435 : BitVec 32 := Scalar.addi v434 c2_i32
  let c512_i32_234 : BitVec 32 := 512#32
  let v464 : BitVec 32 := Scalar.muli v435 c512_i32_234
  v464
def k0_mult28 (i : grid0.Coords) (k0_t2 : Fin (k0_t2_loop i).trips) : BitVec 32 :=
  let c4_i32_217 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v434 : BitVec 32 := Scalar.muli c4_i32_217 arg11
  let c2_i32 : BitVec 32 := 2#32
  let v435 : BitVec 32 := Scalar.addi v434 c2_i32
  let c512_i32_250 : BitVec 32 := 512#32
  let v492 : BitVec 32 := Scalar.muli v435 c512_i32_250
  v492
def k0_mult29 (i : grid0.Coords) (k0_t2 : Fin (k0_t2_loop i).trips) : BitVec 32 :=
  let c4_i32_217 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v434 : BitVec 32 := Scalar.muli c4_i32_217 arg11
  let c2_i32 : BitVec 32 := 2#32
  let v435 : BitVec 32 := Scalar.addi v434 c2_i32
  let c1_i32_266 : BitVec 32 := 1#32
  let v520 : BitVec 32 := Scalar.addi v435 c1_i32_266
  let c512_i32_267 : BitVec 32 := 512#32
  let v521 : BitVec 32 := Scalar.muli v520 c512_i32_267
  v521
def k0_mult30 (i : grid0.Coords) (k0_t2 : Fin (k0_t2_loop i).trips) : BitVec 32 :=
  let c4_i32_283 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v549 : BitVec 32 := Scalar.muli c4_i32_283 arg11
  let c3_i32 : BitVec 32 := 3#32
  let v550 : BitVec 32 := Scalar.addi v549 c3_i32
  let c512_i32_284 : BitVec 32 := 512#32
  let v551 : BitVec 32 := Scalar.muli v550 c512_i32_284
  v551
def k0_mult31 (i : grid0.Coords) (k0_t2 : Fin (k0_t2_loop i).trips) : BitVec 32 :=
  let c4_i32_283 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v549 : BitVec 32 := Scalar.muli c4_i32_283 arg11
  let c3_i32 : BitVec 32 := 3#32
  let v550 : BitVec 32 := Scalar.addi v549 c3_i32
  let c512_i32_300 : BitVec 32 := 512#32
  let v579 : BitVec 32 := Scalar.muli v550 c512_i32_300
  v579
def k0_mult32 (i : grid0.Coords) (k0_t2 : Fin (k0_t2_loop i).trips) : BitVec 32 :=
  let c4_i32_283 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v549 : BitVec 32 := Scalar.muli c4_i32_283 arg11
  let c3_i32 : BitVec 32 := 3#32
  let v550 : BitVec 32 := Scalar.addi v549 c3_i32
  let c512_i32_316 : BitVec 32 := 512#32
  let v607 : BitVec 32 := Scalar.muli v550 c512_i32_316
  v607
def k0_mult33 (i : grid0.Coords) (k0_t2 : Fin (k0_t2_loop i).trips) : BitVec 32 :=
  let c4_i32_283 : BitVec 32 := 4#32
  let c0_i32_13 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k0_t2
  let v549 : BitVec 32 := Scalar.muli c4_i32_283 arg11
  let c3_i32 : BitVec 32 := 3#32
  let v550 : BitVec 32 := Scalar.addi v549 c3_i32
  let c1_i32_332 : BitVec 32 := 1#32
  let v635 : BitVec 32 := Scalar.addi v550 c1_i32_332
  let c512_i32_333 : BitVec 32 := 512#32
  let v636 : BitVec 32 := Scalar.muli v635 c512_i32_333
  v636
@[reducible] def k0_t3_loop (i : grid0.Coords) : Scf.Loop 32 :=
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let v54 : BitVec 32 := Scalar.subi arg2 v53
  let c1_i32_25 : BitVec 32 := 1#32
  let v56 : BitVec 32 := Scalar.divsi v54 c1_i32_25
  let v57 : BitVec 32 := Scalar.muli v56 c1_i32_25
  let v58 : BitVec 32 := Scalar.addi v53 v57
  let c1_i32_26 : BitVec 32 := 1#32
  ⟨v53, v58, c1_i32_26⟩
def k0_mult34 (i : grid0.Coords) (k0_t3 : Fin (k0_t3_loop i).trips) : BitVec 32 :=
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let c1_i32_26 : BitVec 32 := 1#32
  let arg11 : BitVec 32 := Scf.iv v53 c1_i32_26 k0_t3
  let c512_i32_83 : BitVec 32 := 512#32
  let v204 : BitVec 32 := Scalar.muli arg11 c512_i32_83
  v204
def k0_off17 (i : grid0.Coords) (k0_t3 : Fin (k0_t3_loop i).trips) : Fin 3 → Nat :=
  let c0_84 : Index := 0#32
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let c1_i32_26 : BitVec 32 := 1#32
  let arg11 : BitVec 32 := Scf.iv v53 c1_i32_26 k0_t3
  let c512_i32_83 : BitVec 32 := 512#32
  let v204 : BitVec 32 := Scalar.muli arg11 c512_i32_83
  let v205 : BitVec 32 := v204
  let v206 : Index := Scalar.indexCast v205
  let c128_85 : Index := 128#32
  ![0, v206.toNat, 128]
def k0_off18 (i : grid0.Coords) (k0_t3 : Fin (k0_t3_loop i).trips) : Fin 4 → Nat :=
  let c0_95 : Index := 0#32
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let c1_i32_26 : BitVec 32 := 1#32
  let arg11 : BitVec 32 := Scf.iv v53 c1_i32_26 k0_t3
  let v225 : Index := Scalar.indexCast arg11
  let c0_96 : Index := 0#32
  let c0_97 : Index := 0#32
  ![0, v225.toNat, 0, 0]
def k0_mult35 (i : grid0.Coords) (k0_t3 : Fin (k0_t3_loop i).trips) : BitVec 32 :=
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let c1_i32_26 : BitVec 32 := 1#32
  let arg11 : BitVec 32 := Scf.iv v53 c1_i32_26 k0_t3
  let c512_i32_99 : BitVec 32 := 512#32
  let v232 : BitVec 32 := Scalar.muli arg11 c512_i32_99
  v232
def k0_off19 (i : grid0.Coords) (k0_t3 : Fin (k0_t3_loop i).trips) : Fin 3 → Nat :=
  let c0_100 : Index := 0#32
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let c1_i32_26 : BitVec 32 := 1#32
  let arg11 : BitVec 32 := Scf.iv v53 c1_i32_26 k0_t3
  let c512_i32_99 : BitVec 32 := 512#32
  let v232 : BitVec 32 := Scalar.muli arg11 c512_i32_99
  let v233 : BitVec 32 := v232
  let v234 : Index := Scalar.indexCast v233
  let c256_101 : Index := 256#32
  ![0, v234.toNat, 256]
def k0_off20 (i : grid0.Coords) (k0_t3 : Fin (k0_t3_loop i).trips) : Fin 4 → Nat :=
  let c0_111 : Index := 0#32
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let c1_i32_26 : BitVec 32 := 1#32
  let arg11 : BitVec 32 := Scf.iv v53 c1_i32_26 k0_t3
  let v253 : Index := Scalar.indexCast arg11
  let c80_112 : Index := 80#32
  let c0_113 : Index := 0#32
  ![0, v253.toNat, 80, 0]
def k0_mult36 (i : grid0.Coords) (k0_t3 : Fin (k0_t3_loop i).trips) : BitVec 32 :=
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let c1_i32_26 : BitVec 32 := 1#32
  let arg11 : BitVec 32 := Scf.iv v53 c1_i32_26 k0_t3
  let c512_i32_115 : BitVec 32 := 512#32
  let v260 : BitVec 32 := Scalar.muli arg11 c512_i32_115
  v260
def k0_off21 (i : grid0.Coords) (k0_t3 : Fin (k0_t3_loop i).trips) : Fin 3 → Nat :=
  let c0_116 : Index := 0#32
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let c1_i32_26 : BitVec 32 := 1#32
  let arg11 : BitVec 32 := Scf.iv v53 c1_i32_26 k0_t3
  let c512_i32_115 : BitVec 32 := 512#32
  let v260 : BitVec 32 := Scalar.muli arg11 c512_i32_115
  let v261 : BitVec 32 := v260
  let v262 : Index := Scalar.indexCast v261
  let c384_117 : Index := 384#32
  ![0, v262.toNat, 384]
def k0_off22 (i : grid0.Coords) (k0_t3 : Fin (k0_t3_loop i).trips) : Fin 4 → Nat :=
  let c0_127 : Index := 0#32
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let c1_i32_26 : BitVec 32 := 1#32
  let arg11 : BitVec 32 := Scf.iv v53 c1_i32_26 k0_t3
  let v281 : Index := Scalar.indexCast arg11
  let c160_128 : Index := 160#32
  let c0_129 : Index := 0#32
  ![0, v281.toNat, 160, 0]
def k0_mult37 (i : grid0.Coords) (k0_t3 : Fin (k0_t3_loop i).trips) : BitVec 32 :=
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let c1_i32_26 : BitVec 32 := 1#32
  let arg11 : BitVec 32 := Scf.iv v53 c1_i32_26 k0_t3
  let c1_i32_131 : BitVec 32 := 1#32
  let v288 : BitVec 32 := Scalar.addi arg11 c1_i32_131
  let c512_i32_132 : BitVec 32 := 512#32
  let v289 : BitVec 32 := Scalar.muli v288 c512_i32_132
  v289
def k0_off23 (i : grid0.Coords) (k0_t3 : Fin (k0_t3_loop i).trips) : Fin 3 → Nat :=
  let c0_133 : Index := 0#32
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let c1_i32_26 : BitVec 32 := 1#32
  let arg11 : BitVec 32 := Scf.iv v53 c1_i32_26 k0_t3
  let c1_i32_131 : BitVec 32 := 1#32
  let v288 : BitVec 32 := Scalar.addi arg11 c1_i32_131
  let c512_i32_132 : BitVec 32 := 512#32
  let v289 : BitVec 32 := Scalar.muli v288 c512_i32_132
  let v290 : BitVec 32 := v289
  let v291 : Index := Scalar.indexCast v290
  let c0_134 : Index := 0#32
  ![0, v291.toNat, 0]
def k0_off24 (i : grid0.Coords) (k0_t3 : Fin (k0_t3_loop i).trips) : Fin 4 → Nat :=
  let c0_144 : Index := 0#32
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let c1_i32_26 : BitVec 32 := 1#32
  let arg11 : BitVec 32 := Scf.iv v53 c1_i32_26 k0_t3
  let v310 : Index := Scalar.indexCast arg11
  let c240_145 : Index := 240#32
  let c0_146 : Index := 0#32
  ![0, v310.toNat, 240, 0]
@[reducible] def k0_t4_loop (i : grid0.Coords) : Scf.Loop 32 :=
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let v54 : BitVec 32 := Scalar.subi arg2 v53
  let c1_i32_25 : BitVec 32 := 1#32
  let v56 : BitVec 32 := Scalar.divsi v54 c1_i32_25
  let v57 : BitVec 32 := Scalar.muli v56 c1_i32_25
  let v58 : BitVec 32 := Scalar.addi v53 v57
  let v55 : BitVec 32 := Scalar.addi v53 v54
  let c1_i32_27 : BitVec 32 := 1#32
  ⟨v58, v55, c1_i32_27⟩
def k0_mult38 (i : grid0.Coords) (k0_t4 : Fin (k0_t4_loop i).trips) : BitVec 32 :=
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let v54 : BitVec 32 := Scalar.subi arg2 v53
  let c1_i32_25 : BitVec 32 := 1#32
  let v56 : BitVec 32 := Scalar.divsi v54 c1_i32_25
  let v57 : BitVec 32 := Scalar.muli v56 c1_i32_25
  let v58 : BitVec 32 := Scalar.addi v53 v57
  let c1_i32_27 : BitVec 32 := 1#32
  let arg11 : BitVec 32 := Scf.iv v58 c1_i32_27 k0_t4
  let c512_i32_83 : BitVec 32 := 512#32
  let v204 : BitVec 32 := Scalar.muli arg11 c512_i32_83
  v204
def k0_off25 (i : grid0.Coords) (k0_t4 : Fin (k0_t4_loop i).trips) : Fin 3 → Nat :=
  let c0_84 : Index := 0#32
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let v54 : BitVec 32 := Scalar.subi arg2 v53
  let c1_i32_25 : BitVec 32 := 1#32
  let v56 : BitVec 32 := Scalar.divsi v54 c1_i32_25
  let v57 : BitVec 32 := Scalar.muli v56 c1_i32_25
  let v58 : BitVec 32 := Scalar.addi v53 v57
  let c1_i32_27 : BitVec 32 := 1#32
  let arg11 : BitVec 32 := Scf.iv v58 c1_i32_27 k0_t4
  let c512_i32_83 : BitVec 32 := 512#32
  let v204 : BitVec 32 := Scalar.muli arg11 c512_i32_83
  let v205 : BitVec 32 := v204
  let v206 : Index := Scalar.indexCast v205
  let c128_85 : Index := 128#32
  ![0, v206.toNat, 128]
def k0_off26 (i : grid0.Coords) (k0_t4 : Fin (k0_t4_loop i).trips) : Fin 4 → Nat :=
  let c0_95 : Index := 0#32
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let v54 : BitVec 32 := Scalar.subi arg2 v53
  let c1_i32_25 : BitVec 32 := 1#32
  let v56 : BitVec 32 := Scalar.divsi v54 c1_i32_25
  let v57 : BitVec 32 := Scalar.muli v56 c1_i32_25
  let v58 : BitVec 32 := Scalar.addi v53 v57
  let c1_i32_27 : BitVec 32 := 1#32
  let arg11 : BitVec 32 := Scf.iv v58 c1_i32_27 k0_t4
  let v225 : Index := Scalar.indexCast arg11
  let c0_96 : Index := 0#32
  let c0_97 : Index := 0#32
  ![0, v225.toNat, 0, 0]
def k0_mult39 (i : grid0.Coords) (k0_t4 : Fin (k0_t4_loop i).trips) : BitVec 32 :=
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let v54 : BitVec 32 := Scalar.subi arg2 v53
  let c1_i32_25 : BitVec 32 := 1#32
  let v56 : BitVec 32 := Scalar.divsi v54 c1_i32_25
  let v57 : BitVec 32 := Scalar.muli v56 c1_i32_25
  let v58 : BitVec 32 := Scalar.addi v53 v57
  let c1_i32_27 : BitVec 32 := 1#32
  let arg11 : BitVec 32 := Scf.iv v58 c1_i32_27 k0_t4
  let c512_i32_99 : BitVec 32 := 512#32
  let v232 : BitVec 32 := Scalar.muli arg11 c512_i32_99
  v232
def k0_off27 (i : grid0.Coords) (k0_t4 : Fin (k0_t4_loop i).trips) : Fin 3 → Nat :=
  let c0_100 : Index := 0#32
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let v54 : BitVec 32 := Scalar.subi arg2 v53
  let c1_i32_25 : BitVec 32 := 1#32
  let v56 : BitVec 32 := Scalar.divsi v54 c1_i32_25
  let v57 : BitVec 32 := Scalar.muli v56 c1_i32_25
  let v58 : BitVec 32 := Scalar.addi v53 v57
  let c1_i32_27 : BitVec 32 := 1#32
  let arg11 : BitVec 32 := Scf.iv v58 c1_i32_27 k0_t4
  let c512_i32_99 : BitVec 32 := 512#32
  let v232 : BitVec 32 := Scalar.muli arg11 c512_i32_99
  let v233 : BitVec 32 := v232
  let v234 : Index := Scalar.indexCast v233
  let c256_101 : Index := 256#32
  ![0, v234.toNat, 256]
def k0_off28 (i : grid0.Coords) (k0_t4 : Fin (k0_t4_loop i).trips) : Fin 4 → Nat :=
  let c0_111 : Index := 0#32
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let v54 : BitVec 32 := Scalar.subi arg2 v53
  let c1_i32_25 : BitVec 32 := 1#32
  let v56 : BitVec 32 := Scalar.divsi v54 c1_i32_25
  let v57 : BitVec 32 := Scalar.muli v56 c1_i32_25
  let v58 : BitVec 32 := Scalar.addi v53 v57
  let c1_i32_27 : BitVec 32 := 1#32
  let arg11 : BitVec 32 := Scf.iv v58 c1_i32_27 k0_t4
  let v253 : Index := Scalar.indexCast arg11
  let c80_112 : Index := 80#32
  let c0_113 : Index := 0#32
  ![0, v253.toNat, 80, 0]
def k0_mult40 (i : grid0.Coords) (k0_t4 : Fin (k0_t4_loop i).trips) : BitVec 32 :=
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let v54 : BitVec 32 := Scalar.subi arg2 v53
  let c1_i32_25 : BitVec 32 := 1#32
  let v56 : BitVec 32 := Scalar.divsi v54 c1_i32_25
  let v57 : BitVec 32 := Scalar.muli v56 c1_i32_25
  let v58 : BitVec 32 := Scalar.addi v53 v57
  let c1_i32_27 : BitVec 32 := 1#32
  let arg11 : BitVec 32 := Scf.iv v58 c1_i32_27 k0_t4
  let c512_i32_115 : BitVec 32 := 512#32
  let v260 : BitVec 32 := Scalar.muli arg11 c512_i32_115
  v260
def k0_off29 (i : grid0.Coords) (k0_t4 : Fin (k0_t4_loop i).trips) : Fin 3 → Nat :=
  let c0_116 : Index := 0#32
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let v54 : BitVec 32 := Scalar.subi arg2 v53
  let c1_i32_25 : BitVec 32 := 1#32
  let v56 : BitVec 32 := Scalar.divsi v54 c1_i32_25
  let v57 : BitVec 32 := Scalar.muli v56 c1_i32_25
  let v58 : BitVec 32 := Scalar.addi v53 v57
  let c1_i32_27 : BitVec 32 := 1#32
  let arg11 : BitVec 32 := Scf.iv v58 c1_i32_27 k0_t4
  let c512_i32_115 : BitVec 32 := 512#32
  let v260 : BitVec 32 := Scalar.muli arg11 c512_i32_115
  let v261 : BitVec 32 := v260
  let v262 : Index := Scalar.indexCast v261
  let c384_117 : Index := 384#32
  ![0, v262.toNat, 384]
def k0_off30 (i : grid0.Coords) (k0_t4 : Fin (k0_t4_loop i).trips) : Fin 4 → Nat :=
  let c0_127 : Index := 0#32
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let v54 : BitVec 32 := Scalar.subi arg2 v53
  let c1_i32_25 : BitVec 32 := 1#32
  let v56 : BitVec 32 := Scalar.divsi v54 c1_i32_25
  let v57 : BitVec 32 := Scalar.muli v56 c1_i32_25
  let v58 : BitVec 32 := Scalar.addi v53 v57
  let c1_i32_27 : BitVec 32 := 1#32
  let arg11 : BitVec 32 := Scf.iv v58 c1_i32_27 k0_t4
  let v281 : Index := Scalar.indexCast arg11
  let c160_128 : Index := 160#32
  let c0_129 : Index := 0#32
  ![0, v281.toNat, 160, 0]
def k0_mult41 (i : grid0.Coords) (k0_t4 : Fin (k0_t4_loop i).trips) : BitVec 32 :=
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let v54 : BitVec 32 := Scalar.subi arg2 v53
  let c1_i32_25 : BitVec 32 := 1#32
  let v56 : BitVec 32 := Scalar.divsi v54 c1_i32_25
  let v57 : BitVec 32 := Scalar.muli v56 c1_i32_25
  let v58 : BitVec 32 := Scalar.addi v53 v57
  let c1_i32_27 : BitVec 32 := 1#32
  let arg11 : BitVec 32 := Scf.iv v58 c1_i32_27 k0_t4
  let c1_i32_131 : BitVec 32 := 1#32
  let v288 : BitVec 32 := Scalar.addi arg11 c1_i32_131
  let c512_i32_132 : BitVec 32 := 512#32
  let v289 : BitVec 32 := Scalar.muli v288 c512_i32_132
  v289
def k0_off31 (i : grid0.Coords) (k0_t4 : Fin (k0_t4_loop i).trips) : Fin 3 → Nat :=
  let c0_133 : Index := 0#32
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let v54 : BitVec 32 := Scalar.subi arg2 v53
  let c1_i32_25 : BitVec 32 := 1#32
  let v56 : BitVec 32 := Scalar.divsi v54 c1_i32_25
  let v57 : BitVec 32 := Scalar.muli v56 c1_i32_25
  let v58 : BitVec 32 := Scalar.addi v53 v57
  let c1_i32_27 : BitVec 32 := 1#32
  let arg11 : BitVec 32 := Scf.iv v58 c1_i32_27 k0_t4
  let c1_i32_131 : BitVec 32 := 1#32
  let v288 : BitVec 32 := Scalar.addi arg11 c1_i32_131
  let c512_i32_132 : BitVec 32 := 512#32
  let v289 : BitVec 32 := Scalar.muli v288 c512_i32_132
  let v290 : BitVec 32 := v289
  let v291 : Index := Scalar.indexCast v290
  let c0_134 : Index := 0#32
  ![0, v291.toNat, 0]
def k0_off32 (i : grid0.Coords) (k0_t4 : Fin (k0_t4_loop i).trips) : Fin 4 → Nat :=
  let c0_144 : Index := 0#32
  let arg2 : BitVec 32 := BitVec.ofNat 32 (i 2).val
  let c0_i32_18 : BitVec 32 := 0#32
  let v37 : BitVec 1 := Scalar.cmpi .sgt arg2 c0_i32_18
  let v38 : BitVec 32 := Scalar.extui v37
  let c0_i32_19 : BitVec 32 := 0#32
  let v39 : BitVec 1 := Scalar.cmpi .slt arg2 c0_i32_19
  let v40 : BitVec 32 := Scalar.extui v39
  let v41 : BitVec 32 := Scalar.subi v38 v40
  let c4_i32_17 : BitVec 32 := 4#32
  let c0_i32_20 : BitVec 32 := 0#32
  let v42 : BitVec 1 := Scalar.cmpi .sgt c4_i32_17 c0_i32_20
  let v43 : BitVec 32 := Scalar.extui v42
  let c0_i32_21 : BitVec 32 := 0#32
  let v44 : BitVec 1 := Scalar.cmpi .slt c4_i32_17 c0_i32_21
  let v45 : BitVec 32 := Scalar.extui v44
  let v46 : BitVec 32 := Scalar.subi v43 v45
  let v47 : BitVec 1 := Scalar.cmpi .ne v41 v46
  let v48 : BitVec 32 := Scalar.remsi arg2 c4_i32_17
  let c0_i32_22 : BitVec 32 := 0#32
  let v49 : BitVec 1 := Scalar.cmpi .ne v48 c0_i32_22
  let v50 : BitVec 1 := Scalar.andi v47 v49
  let v36 : BitVec 32 := Scalar.divsi arg2 c4_i32_17
  let c1_i32_23 : BitVec 32 := 1#32
  let v51 : BitVec 32 := Scalar.subi v36 c1_i32_23
  let v52 : BitVec 32 := Scalar.select v50 v51 v36
  let c4_i32_24 : BitVec 32 := 4#32
  let v53 : BitVec 32 := Scalar.muli v52 c4_i32_24
  let v54 : BitVec 32 := Scalar.subi arg2 v53
  let c1_i32_25 : BitVec 32 := 1#32
  let v56 : BitVec 32 := Scalar.divsi v54 c1_i32_25
  let v57 : BitVec 32 := Scalar.muli v56 c1_i32_25
  let v58 : BitVec 32 := Scalar.addi v53 v57
  let c1_i32_27 : BitVec 32 := 1#32
  let arg11 : BitVec 32 := Scf.iv v58 c1_i32_27 k0_t4
  let v310 : Index := Scalar.indexCast arg11
  let c240_145 : Index := 240#32
  let c0_146 : Index := 0#32
  ![0, v310.toNat, 240, 0]
def k0_mult42 (i : grid0.Coords) : BitVec 32 :=
  let arg2 : BitVec 32 := BitVec.ofNat 32 (i 2).val
  let c512_i32 : BitVec 32 := 512#32
  let v61 : BitVec 32 := Scalar.muli arg2 c512_i32
  v61
def k0_off33 (i : grid0.Coords) : Fin 3 → Nat :=
  let c0_28 : Index := 0#32
  let arg2 : BitVec 32 := BitVec.ofNat 32 (i 2).val
  let c512_i32 : BitVec 32 := 512#32
  let v61 : BitVec 32 := Scalar.muli arg2 c512_i32
  let v62 : BitVec 32 := v61
  let v63 : Index := Scalar.indexCast v62
  let c128 : Index := 128#32
  ![0, v63.toNat, 128]
def k0_off34 (i : grid0.Coords) : Fin 4 → Nat :=
  let c0_39 : Index := 0#32
  let arg2 : BitVec 32 := BitVec.ofNat 32 (i 2).val
  let v87 : Index := Scalar.indexCast arg2
  let c0_40 : Index := 0#32
  let c0_41 : Index := 0#32
  ![0, v87.toNat, 0, 0]
def k0_mult43 (i : grid0.Coords) : BitVec 32 :=
  let arg2 : BitVec 32 := BitVec.ofNat 32 (i 2).val
  let c512_i32_43 : BitVec 32 := 512#32
  let v94 : BitVec 32 := Scalar.muli arg2 c512_i32_43
  v94
def k0_off35 (i : grid0.Coords) : Fin 3 → Nat :=
  let c0_44 : Index := 0#32
  let arg2 : BitVec 32 := BitVec.ofNat 32 (i 2).val
  let c512_i32_43 : BitVec 32 := 512#32
  let v94 : BitVec 32 := Scalar.muli arg2 c512_i32_43
  let v95 : BitVec 32 := v94
  let v96 : Index := Scalar.indexCast v95
  let c256 : Index := 256#32
  ![0, v96.toNat, 256]
def k0_off36 (i : grid0.Coords) : Fin 4 → Nat :=
  let c0_55 : Index := 0#32
  let arg2 : BitVec 32 := BitVec.ofNat 32 (i 2).val
  let v120 : Index := Scalar.indexCast arg2
  let c80 : Index := 80#32
  let c0_56 : Index := 0#32
  ![0, v120.toNat, 80, 0]
def k0_mult44 (i : grid0.Coords) : BitVec 32 :=
  let arg2 : BitVec 32 := BitVec.ofNat 32 (i 2).val
  let c512_i32_58 : BitVec 32 := 512#32
  let v127 : BitVec 32 := Scalar.muli arg2 c512_i32_58
  v127
def k0_off37 (i : grid0.Coords) : Fin 3 → Nat :=
  let c0_59 : Index := 0#32
  let arg2 : BitVec 32 := BitVec.ofNat 32 (i 2).val
  let c512_i32_58 : BitVec 32 := 512#32
  let v127 : BitVec 32 := Scalar.muli arg2 c512_i32_58
  let v128 : BitVec 32 := v127
  let v129 : Index := Scalar.indexCast v128
  let c384 : Index := 384#32
  ![0, v129.toNat, 384]
def k0_off38 (i : grid0.Coords) : Fin 4 → Nat :=
  let c0_70 : Index := 0#32
  let arg2 : BitVec 32 := BitVec.ofNat 32 (i 2).val
  let v153 : Index := Scalar.indexCast arg2
  let c160 : Index := 160#32
  let c0_71 : Index := 0#32
  ![0, v153.toNat, 160, 0]
def k0_off39 (i : grid0.Coords) : Fin 4 → Nat :=
  let c0_77 : Index := 0#32
  let arg2 : BitVec 32 := BitVec.ofNat 32 (i 2).val
  let v175 : Index := Scalar.indexCast arg2
  let c240 : Index := 240#32
  let c0_78 : Index := 0#32
  ![0, v175.toNat, 240, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x320x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x8192x8x64 : Shape := ⟨4, ![4, 8192, 8, 64]⟩
abbrev S4x8192x8x32 : Shape := ⟨4, ![4, 8192, 8, 32]⟩
abbrev S4x8192x32 : Shape := ⟨3, ![4, 8192, 32]⟩
abbrev S_ : Shape := ⟨0, ![]⟩
abbrev S4x8x8192x8192 : Shape := ⟨4, ![4, 8, 8192, 8192]⟩
abbrev S4x8192x8192x8 : Shape := ⟨4, ![4, 8192, 8192, 8]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩
abbrev S4x8192x512 : Shape := ⟨3, ![4, 8192, 512]⟩

abbrev nBuf : Space → Nat
  | .hbm => 45
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x32, .f32⟩
  | .hbm, ⟨2, _⟩ => ⟨S4x8192x8x64, .f32⟩
  | .hbm, ⟨3, _⟩ => ⟨S4x8192x32, .f32⟩
  | .hbm, ⟨4, _⟩ => ⟨S4x8192x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x8x8192x8192, .f32⟩
  | .hbm, ⟨10, _⟩ => ⟨S4x8192x8192x8, .f32⟩
  | .hbm, ⟨11, _⟩ => ⟨S4x8x8192x8192, .f32⟩
  | .hbm, ⟨12, _⟩ => ⟨S4x8x8192x8192, .f32⟩
  | .hbm, ⟨13, _⟩ => ⟨S4x8x8192x8192, .f32⟩
  | .hbm, ⟨14, _⟩ => ⟨S4x8x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S1x1x8192x8192, .i1⟩
  | .hbm, ⟨22, _⟩ => ⟨S_, .f32⟩
  | .hbm, ⟨23, _⟩ => ⟨S_, .f32⟩
  | .hbm, ⟨24, _⟩ => ⟨S4x8x8192x8192, .i1⟩
  | .hbm, ⟨25, _⟩ => ⟨S4x8x8192x8192, .f32⟩
  | .hbm, ⟨26, _⟩ => ⟨S4x8x8192x8192, .f32⟩
  | .hbm, ⟨27, _⟩ => ⟨S_, .f32⟩
  | .hbm, ⟨28, _⟩ => ⟨S4x8x8192, .f32⟩
  | .hbm, ⟨29, _⟩ => ⟨S_, .f32⟩
  | .hbm, ⟨30, _⟩ => ⟨S4x8x8192, .f32⟩
  | .hbm, ⟨31, _⟩ => ⟨S4x8x8192, .f32⟩
  | .hbm, ⟨32, _⟩ => ⟨S4x8x8192x1, .f32⟩
  | .hbm, ⟨33, _⟩ => ⟨S4x8x8192x8192, .f32⟩
  | .hbm, ⟨34, _⟩ => ⟨S4x8x8192x8192, .f32⟩
  | .hbm, ⟨35, _⟩ => ⟨S4x8x8192x8192, .f32⟩
  | .hbm, ⟨36, _⟩ => ⟨S_, .f32⟩
  | .hbm, ⟨37, _⟩ => ⟨S4x8x8192, .f32⟩
  | .hbm, ⟨38, _⟩ => ⟨S4x8x8192x1, .f32⟩
  | .hbm, ⟨39, _⟩ => ⟨S4x8x8192x8192, .f32⟩
  | .hbm, ⟨40, _⟩ => ⟨S4x8x8192x8192, .f32⟩
  | .hbm, ⟨41, _⟩ => ⟨S4x8x64x8192, .f32⟩
  | .hbm, ⟨42, _⟩ => ⟨S4x8192x8x64, .f32⟩
  | .hbm, ⟨43, _⟩ => ⟨S4x8192x512, .f32⟩
  | .hbm, ⟨44, _⟩ => ⟨S4x8192x512, .bf16⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x5632 : Shape := ⟨2, ![1, 5632]⟩
abbrev S_ : Shape := ⟨0, ![]⟩
abbrev S4x5632 : Shape := ⟨2, ![4, 5632]⟩
abbrev S8x5632 : Shape := ⟨2, ![8, 5632]⟩
abbrev S1x1024 : Shape := ⟨2, ![1, 1024]⟩
abbrev S1x512x1024 : Shape := ⟨3, ![1, 512, 1024]⟩
abbrev S520x512 : Shape := ⟨2, ![520, 512]⟩
abbrev S512x256 : Shape := ⟨2, ![512, 256]⟩
abbrev S11x8x512 : Shape := ⟨3, ![11, 8, 512]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S1x8x256 : Shape := ⟨3, ![1, 8, 256]⟩
abbrev S8x256 : Shape := ⟨2, ![8, 256]⟩
abbrev S1x256 : Shape := ⟨2, ![1, 256]⟩
abbrev S256x1024 : Shape := ⟨2, ![256, 1024]⟩

abbrev nBuf : Space → Nat
  | .hbm => 16
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1x5632, .f32⟩
  | .hbm, ⟨8, _⟩ => ⟨S_, .f32⟩
  | .hbm, ⟨9, _⟩ => ⟨S4x5632, .f32⟩
  | .hbm, ⟨10, _⟩ => ⟨S8x5632, .f32⟩
  | .hbm, ⟨11, _⟩ => ⟨S1x1024, .f32⟩
  | .hbm, ⟨12, _⟩ => ⟨S1024x5632, .bf16⟩
  | .hbm, ⟨13, _⟩ => ⟨S2816x1024, .bf16⟩
  | .hbm, ⟨14, _⟩ => ⟨S1x1024, .f32⟩
  | .hbm, ⟨15, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S8x5632, .f32⟩
  | .local _ .vmem, ⟨5, _⟩ => ⟨S2816x1024, .bf16⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .bf16⟩
  | .local _ .vmem, ⟨10, _⟩ => ⟨S520x512, .f32⟩
  | .local _ .vmem, ⟨11, _⟩ => ⟨S520x512, .f32⟩
  | .local _ .vmem, ⟨12, _⟩ => ⟨S512x256, .bf16⟩
  | .local _ .vmem, ⟨13, _⟩ => ⟨S512x256, .bf16⟩
  | .local _ .vmem, ⟨14, _⟩ => ⟨S11x8x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S4x8192x1024 : Shape := ⟨3, ![4, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8194x5632 : Shape := ⟨3, ![4, 8194, 5632]⟩
abbrev S1x5632 : Shape := ⟨2, ![1, 5632]⟩
abbrev S1x1x5632 : Shape := ⟨3, ![1, 1, 5632]⟩
abbrev S4x8192x2816 : Shape := ⟨3, ![4, 8192, 2816]⟩

abbrev nBuf : Space → Nat
  | .hbm => 83
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S4x8192x5632, .f32⟩
  | .hbm, ⟨24, _⟩ => ⟨S_, .i32⟩
  | .hbm, ⟨25, _⟩ => ⟨S_, .f32⟩
  | .hbm, ⟨26, _⟩ => ⟨S4x8194x5632, .f32⟩
  | .hbm, ⟨27, _⟩ => ⟨S4x8192x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S4x8192x5632, .f32⟩
  | .hbm, ⟨32, _⟩ => ⟨S4x8192x5632, .f32⟩
  | .hbm, ⟨33, _⟩ => ⟨S_, .f32⟩
  | .hbm, ⟨34, _⟩ => ⟨S4x8192x5632, .f32⟩
  | .hbm, ⟨35, _⟩ => ⟨S4x8192x5632, .f32⟩
  | .hbm, ⟨36, _⟩ => ⟨S4x8192x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S4x8192x5632, .f32⟩
  | .hbm, ⟨41, _⟩ => ⟨S4x8192x5632, .f32⟩
  | .hbm, ⟨42, _⟩ => ⟨S4x8192x5632, .f32⟩
  | .hbm, ⟨43, _⟩ => ⟨S4x8192x5632, .f32⟩
  | .hbm, ⟨44, _⟩ => ⟨S1x5632, .f32⟩
  | .hbm, ⟨45, _⟩ => ⟨S5632, .f32⟩
  | .hbm, ⟨46, _⟩ => ⟨S1x1x5632, .f32⟩
  | .hbm, ⟨47, _⟩ => ⟨S4x8192x5632, .f32⟩
  | .hbm, ⟨48, _⟩ => ⟨S4x8192x5632, .f32⟩
  | .hbm, ⟨49, _⟩ => ⟨S4x8192x5632, .f32⟩
  | .hbm, ⟨50, _⟩ => ⟨S1x1x5632, .f32⟩
  | .hbm, ⟨51, _⟩ => ⟨S4x8192x5632, .f32⟩
  | .hbm, ⟨52, _⟩ => ⟨S4x8192x5632, .f32⟩
  | .hbm, ⟨53, _⟩ => ⟨S4x8192x2816, .f32⟩
  | .hbm, ⟨54, _⟩ => ⟨S4x8192x2816, .f32⟩
  | .hbm, ⟨55, _⟩ => ⟨S4x8192x2816, .f32⟩
  | .hbm, ⟨56, _⟩ => ⟨S_, .f32⟩
  | .hbm, ⟨57, _⟩ => ⟨S4x8192x2816, .f32⟩
  | .hbm, ⟨58, _⟩ => ⟨S4x8192x2816, .f32⟩
  | .hbm, ⟨59, _⟩ => ⟨S_, .f32⟩
  | .hbm, ⟨60, _⟩ => ⟨S4x8192x2816, .f32⟩
  | .hbm, ⟨61, _⟩ => ⟨S4x8192x2816, .f32⟩
  | .hbm, ⟨62, _⟩ => ⟨S4x8192x2816, .f32⟩
  | .hbm, ⟨63, _⟩ => ⟨S4x8192x2816, .f32⟩
  | .hbm, ⟨64, _⟩ => ⟨S4x8192x2816, .f32⟩
  | .hbm, ⟨65, _⟩ => ⟨S4x8192x1024, .f32⟩
  | .hbm, ⟨66, _⟩ => ⟨S4x8192x1024, .f32⟩
  | .hbm, ⟨67, _⟩ => ⟨S4x8192x1024, .f32⟩
  | .hbm, ⟨68, _⟩ => ⟨S_, .f32⟩
  | .hbm, ⟨69, _⟩ => ⟨S4x8192, .f32⟩
  | .hbm, ⟨70, _⟩ => ⟨S4x8192x1, .f32⟩
  | .hbm, ⟨71, _⟩ => ⟨S_, .f32⟩
  | .hbm, ⟨72, _⟩ => ⟨S4x8192x1, .f32⟩
  | .hbm, ⟨73, _⟩ => ⟨S4x8192x1, .f32⟩
  | .hbm, ⟨74, _⟩ => ⟨S_, .f32⟩
  | .hbm, ⟨75, _⟩ => ⟨S4x8192x1, .f32⟩
  | .hbm, ⟨76, _⟩ => ⟨S4x8192x1, .f32⟩
  | .hbm, ⟨77, _⟩ => ⟨S4x8192x1, .f32⟩
  | .hbm, ⟨78, _⟩ => ⟨S4x8192x1024, .f32⟩
  | .hbm, ⟨79, _⟩ => ⟨S4x8192x1024, .f32⟩
  | .hbm, ⟨80, _⟩ => ⟨S1x1x1024, .f32⟩
  | .hbm, ⟨81, _⟩ => ⟨S4x8192x1024, .f32⟩
  | .hbm, ⟨82, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_cst_5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== Proof.Online.lean ====
/-
  The arithmetic of an online softmax over the extended reals, with no program in it.
  A column has scores `s k` and values `v k` for keys `k : ℕ`. The running state after the keys of a
  finite set is their greatest score and the sum of the values weighted by `2 ^ (score - greatest)`.
-/
module

public import Idealize.ShloMosaic.PureOps.Ideal
public import Mathlib.Data.EReal.Operations
public import Mathlib.Algebra.BigOperators.Intervals

@[expose] public section

noncomputable section

namespace Cert.Online

open Idealize.ShloMosaic

/-- The weight `2 ^ (x - m)` of a score `x` under a maximum `m`. -/
def wt (x m : EReal) : EReal := Ideal.exp2 (x - m)

theorem wt_bot (m : EReal) : wt ⊥ m = 0 := by
  unfold wt; rw [EReal.bot_sub]; rfl

theorem wt_top_right (x : EReal) : wt x ⊤ = 0 := by
  unfold wt; rw [EReal.sub_top]; rfl

theorem wt_coe (x m : ℝ) : wt x m = ((Real.rpow 2 (x - m) : ℝ) : EReal) := by
  unfold wt; rw [← EReal.coe_sub]; rfl

/-- Below its maximum a weight is a nonnegative real. -/
theorem wt_real {x m : EReal} (h : x ≤ m) : ∃ r : ℝ, 0 ≤ r ∧ wt x m = r := by
  induction x using EReal.rec with
  | bot => exact ⟨0, le_rfl, by rw [wt_bot]; rfl⟩
  | top =>
    obtain rfl := top_le_iff.mp h
    exact ⟨0, le_rfl, by rw [wt_top_right]; rfl⟩
  | coe x =>
    induction m using EReal.rec with
    | bot => exact absurd (le_bot_iff.mp h) (EReal.coe_ne_bot x)
    | top => exact ⟨0, le_rfl, by rw [wt_top_right]; rfl⟩
    | coe m => exact ⟨_, Real.rpow_nonneg (by norm_num) _, wt_coe x m⟩

/-- Raising the maximum multiplies a weight by the weight of the old maximum. -/
theorem wt_mul {x m m' : EReal} (h : x ≤ m) (h' : m ≤ m') : wt m m' * wt x m = wt x m' := by
  induction m' using EReal.rec with
  | top => rw [wt_top_right, wt_top_right, zero_mul]
  | bot =>
    obtain rfl := le_bot_iff.mp h'
    obtain rfl := le_bot_iff.mp h
    rw [wt_bot, zero_mul]
  | coe m' =>
    induction m using EReal.rec with
    | top => exact absurd (top_le_iff.mp h') (EReal.coe_ne_top m')
    | bot =>
      obtain rfl := le_bot_iff.mp h
      rw [wt_bot, wt_bot, zero_mul]
    | coe m =>
      induction x using EReal.rec with
      | top => exact absurd (top_le_iff.mp h) (EReal.coe_ne_top m)
      | bot => rw [wt_bot, wt_bot, mul_zero]
      | coe x =>
        rw [wt_coe, wt_coe, wt_coe, ← EReal.coe_mul]
        congr 1
        show (2:ℝ) ^ (m - m') * (2:ℝ) ^ (x - m) = (2:ℝ) ^ (x - m')
        rw [← Real.rpow_add (by norm_num)]
        congr 1; ring

/-- A nonnegative real factor goes through a finite sum of extended reals. -/
theorem real_mul_sum {ι : Type} (S : Finset ι) (f : ι → EReal) {r : ℝ} (hr : 0 ≤ r) :
    (r : EReal) * ∑ k ∈ S, f k = ∑ k ∈ S, (r : EReal) * f k := by
  classical
  induction S using Finset.induction_on with
  | empty => simp
  | insert a S ha ih =>
    rw [Finset.sum_insert ha, Finset.sum_insert ha,
      EReal.left_distrib_of_nonneg_of_ne_top (EReal.coe_nonneg.mpr hr) (EReal.coe_ne_top r), ih]

/-- A finite sum of reals, read as extended reals. -/
theorem coe_sum {ι : Type} (S : Finset ι) (f : ι → ℝ) :
    ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- The greatest score of the first `n` keys. -/
def top (s : ℕ → EReal) (n : ℕ) : EReal := (Finset.range n).sup s

/-- The weighted sum of the first `n` keys' values under their greatest score. -/
def acc (s v : ℕ → EReal) (n : ℕ) : EReal := ∑ k ∈ Finset.range n, v k * wt (s k) (top s n)

theorem top_zero (s : ℕ → EReal) : top s 0 = ⊥ := rfl

theorem acc_zero (s v : ℕ → EReal) : acc s v 0 = 0 := rfl

theorem le_top {s : ℕ → EReal} {n k : ℕ} (h : k < n) : s k ≤ top s n :=
  Finset.le_sup (f := s) (Finset.mem_range.mpr h)

theorem top_mono (s : ℕ → EReal) {n n' : ℕ} (h : n ≤ n') : top s n ≤ top s n' :=
  Finset.sup_mono (Finset.range_mono h)

/-- The greatest score of `n + t` keys: the greater of the first `n`'s and the next `t`'s. -/
theorem top_add (s : ℕ → EReal) (n t : ℕ) :
    top s (n + t) = max (top s n) (top (fun k => s (n + k)) t) := by
  apply le_antisymm
  · refine Finset.sup_le fun k hk => ?_
    rcases lt_or_ge k n with h | h
    · exact (le_top h).trans (le_max_left _ _)
    · refine le_trans ?_ (le_max_right _ _)
      have hk' : k < n + t := Finset.mem_range.mp hk
      have := le_top (s := fun k => s (n + k)) (n := t) (k := k - n) (by omega)
      simpa only [Nat.add_sub_cancel' h] using this
  · refine max_le (top_mono s (by omega)) (Finset.sup_le fun k hk => ?_)
    exact le_top (by have := Finset.mem_range.mp hk; omega)

/-- One block of the online softmax: the old sum rescaled to the new maximum, plus the block's. -/
theorem acc_add (s v : ℕ → EReal) (n t : ℕ) :
    acc s v (n + t) = wt (top s n) (top s (n + t)) * acc s v n
      + ∑ k ∈ Finset.range t, v (n + k) * wt (s (n + k)) (top s (n + t)) := by
  unfold acc
  rw [Finset.sum_range_add]
  congr 1
  obtain ⟨r, hr, he⟩ := wt_real (top_mono s (Nat.le_add_right n t))
  rw [he, real_mul_sum _ _ hr]
  refine Finset.sum_congr rfl fun k hk => ?_
  rw [mul_left_comm, ← he, wt_mul (le_top (Finset.mem_range.mp hk)) (top_mono s (Nat.le_add_right n t))]

/-- Keys that are all masked (score `⊥`) change neither the maximum nor the sum. -/
theorem top_masked (s : ℕ → EReal) {n n' : ℕ} (h : n ≤ n') (hm : ∀ k, n ≤ k → k < n' → s k = ⊥) :
    top s n' = top s n := by
  refine le_antisymm (Finset.sup_le fun k hk => ?_) (top_mono s h)
  rcases lt_or_ge k n with h1 | h1
  · exact le_top h1
  · rw [hm k h1 (Finset.mem_range.mp hk)]; exact bot_le

theorem acc_masked (s v : ℕ → EReal) {n n' : ℕ} (h : n ≤ n') (hm : ∀ k, n ≤ k → k < n' → s k = ⊥) :
    acc s v n' = acc s v n := by
  obtain ⟨t, rfl⟩ := Nat.exists_eq_add_of_le h
  unfold acc
  rw [Finset.sum_range_add, top_masked s h hm]
  rw [Finset.sum_eq_zero (s := Finset.range t), add_zero]
  intro k hk
  rw [hm (n + k) (by omega) (by have := Finset.mem_range.mp hk; omega), wt_bot, mul_zero]

/-- `2 ^ (c·x - c·m) = exp (x - m)` for `c = 1 / ln 2`. -/
theorem wt_scaled (x m : EReal) {c : ℝ} (hc : c = 1 / Real.log 2) :
    wt (x * (c : EReal)) (m * (c : EReal)) = Ideal.exp (x - m) := by
  have hl : 0 < Real.log 2 := Real.log_pos (by norm_num)
  have hpos : 0 < c := by rw [hc]; positivity
  induction x using EReal.rec with
  | bot =>
    rw [EReal.bot_mul_coe_of_pos hpos, wt_bot, EReal.bot_sub]; rfl
  | top =>
    rw [EReal.top_mul_coe_of_pos hpos]
    induction m using EReal.rec with
    | bot => rw [EReal.bot_mul_coe_of_pos hpos]; rfl
    | top => rw [EReal.top_mul_coe_of_pos hpos]; rfl
    | coe m => rw [← EReal.coe_mul]; rfl
  | coe x =>
    induction m using EReal.rec with
    | bot => rw [EReal.bot_mul_coe_of_pos hpos]; rw [← EReal.coe_mul]; rfl
    | top => rw [EReal.top_mul_coe_of_pos hpos, wt_top_right, EReal.sub_top]; rfl
    | coe m =>
      rw [← EReal.coe_mul, ← EReal.coe_mul, wt_coe, ← EReal.coe_sub]
      show _ = ((Real.exp (x - m) : ℝ) : EReal)
      congr 1
      show (2:ℝ) ^ (x * c - m * c) = _
      rw [Real.rpow_def_of_pos (by norm_num)]
      congr 1
      rw [hc]; field_simp

/-- A positive real factor goes through the greatest score. -/
theorem top_scaled (s : ℕ → EReal) (n : ℕ) {c : ℝ} (hc : 0 < c) :
    top (fun k => s k * (c : EReal)) n = top s n * (c : EReal) := by
  induction n with
  | zero => rw [top_zero, top_zero, EReal.bot_mul_coe_of_pos hc]
  | succ n ih =>
    have h1 : ∀ f : ℕ → EReal, top f 1 = f 0 := fun f => by
      unfold top; rw [Finset.range_one, Finset.sup_singleton]
    have hm : Monotone fun x : EReal => x * (c : EReal) := fun x y h =>
      mul_le_mul_of_nonneg_right h (EReal.coe_nonneg.mpr hc.le)
    rw [top_add, top_add, ih, h1, h1]
    exact (hm.map_max (a := top s n) (b := s (n + 0))).symm

/-- The denominator is a positive real when some score is real and none is `⊤`. -/
theorem den_pos (s : ℕ → EReal) (n : ℕ) (k : ℕ) (hk : k < n) (hb : s k ≠ ⊥) (ht : ∀ k < n, s k ≠ ⊤) :
    ∃ r : ℝ, 0 < r ∧ acc s (fun _ => 1) n = r := by
  have hne : (Finset.range n).Nonempty := ⟨k, Finset.mem_range.mpr hk⟩
  obtain ⟨i, hi, he⟩ := Finset.exists_mem_eq_sup (Finset.range n) hne s
  have hi' := Finset.mem_range.mp hi
  have htop : top s n = s i := he
  have h1 : s i ≠ ⊥ := fun hb' => hb (le_bot_iff.mp (hb' ▸ htop ▸ le_top hk))
  have h2 := ht i hi'
  lift s i to ℝ using ⟨h2, h1⟩ with x hx
  choose r hr hw using fun k : Fin n => wt_real (le_top (s := s) k.isLt)
  refine ⟨∑ k : Fin n, r k, ?_, ?_⟩
  · refine Finset.sum_pos' (fun k _ => hr k) ⟨⟨i, hi'⟩, Finset.mem_univ _, ?_⟩
    have hh := hw ⟨i, hi'⟩
    rw [htop, ← hx] at hh
    have h1 : wt x x = 1 := by
      rw [wt_coe, sub_self]
      show (((2:ℝ) ^ (0:ℝ) : ℝ) : EReal) = 1
      rw [Real.rpow_zero]; rfl
    rw [h1] at hh
    have : r ⟨i, hi'⟩ = 1 := by exact_mod_cast hh.symm
    rw [this]; exact one_pos
  · unfold acc
    rw [Finset.sum_range, coe_sum]
    exact Finset.sum_congr rfl fun k _ => by rw [one_mul, hw k]

/-- The quotient of the weighted sum by the denominator is the sum of the normalized weights. -/
theorem div_acc (s v : ℕ → EReal) (n : ℕ) {r : ℝ} (hr : 0 < r) :
    Ideal.div (acc s v n) r = ∑ k ∈ Finset.range n, v k * Ideal.div (wt (s k) (top s n)) r := by
  have h : (0:ℝ) ≤ 1 / r := by positivity
  rw [Ideal.div_coe hr.ne', mul_comm, acc, real_mul_sum _ _ h]
  refine Finset.sum_congr rfl fun k _ => ?_
  rw [Ideal.div_coe hr.ne', mul_comm, mul_assoc]

end Cert.Online

end
-- ==== Proof.Equation.lean ====
/-
  The online softmax against the plain one, with no program in it: scores scaled to powers of two, keys masked past the
  query, the division by the sum inside or outside the weighted sum; and a score over 128 padded lanes as two sums.
-/
module

public import proofs.«01_k».proof.Proof.Online
public import Mathlib.Algebra.BigOperators.Fin

@[expose] public section
noncomputable section
namespace Cert.Online
open Idealize.ShloMosaic

/-- A sequence over the first keys, minus infinity past them. -/
def upTo {N : ℕ} (S : Fin N → EReal) (k : ℕ) : EReal := if h : k < N then S ⟨k, h⟩ else ⊥

theorem upTo_val {N : ℕ} (S : Fin N → EReal) (k : Fin N) : upTo S k.val = S k := dif_pos k.isLt

/-- The greatest of all keys. -/
theorem top_upTo {N : ℕ} (S : Fin N → EReal) : top (upTo S) N = Finset.univ.sup S := by
  refine le_antisymm (Finset.sup_le fun k hk => ?_) (Finset.sup_le fun k _ => ?_)
  · have h := Finset.mem_range.mp hk
    rw [upTo, dif_pos h]
    exact Finset.le_sup (Finset.mem_univ _)
  · rw [← upTo_val S k]
    exact le_top k.isLt

/-- Weighted sums whose scores and values agree on the keys read are equal. -/
theorem acc_congr {s s' v v' : ℕ → EReal} {n : ℕ} (hs : ∀ k < n, s k = s' k) (hv : ∀ k < n, v k = v' k) : acc s v n = acc s' v' n := by
  have ht : top s n = top s' n := Finset.sup_congr rfl fun k hk => hs k (Finset.mem_range.mp hk)
  unfold acc
  rw [ht]
  exact Finset.sum_congr rfl fun k hk => by rw [hs k (Finset.mem_range.mp hk), hv k (Finset.mem_range.mp hk)]

/-- The weighted sum of scores scaled by one over the logarithm of 2, as exponentials. -/
theorem acc_exp {N : ℕ} (S v : Fin N → EReal) {c : ℝ} (hc : c = 1 / Real.log 2) (w : ℕ → EReal) (hw : ∀ k : Fin N, w k.val = v k) :
    acc (fun k => upTo S k * (c : EReal)) w N = ∑ k : Fin N, v k * Ideal.exp (S k - Finset.univ.sup S) := by
  have hpos : 0 < c := by rw [hc]; have := Real.log_pos (x := 2) (by norm_num); positivity
  unfold acc
  rw [top_scaled _ _ hpos, top_upTo, Finset.sum_range]
  refine Finset.sum_congr rfl fun k _ => ?_
  rw [wt_scaled _ _ hc, hw, upTo_val]

/-- The online quotient is the plain softmax's weighted sum: `n` keys are read, those past them masked. -/
theorem quotient_eq {N n : ℕ} (hn : n ≤ N) (S v : Fin N → EReal) {c : ℝ} (hc : c = 1 / Real.log 2) {s w o : ℕ → EReal}
    (hs : ∀ k : Fin N, s k.val = S k * (c : EReal)) (hm : ∀ k, n ≤ k → k < N → s k = ⊥) (hw : ∀ k : Fin N, w k.val = v k) (ho : ∀ k : Fin N, o k.val = 1)
    (k0 : Fin N) (hb : S k0 ≠ ⊥) (ht : ∀ k, S k ≠ ⊤) :
    Ideal.div (acc s w n) (acc s o n) = ∑ k : Fin N, v k * Ideal.div (Ideal.exp (S k - Finset.univ.sup S)) (∑ j : Fin N, Ideal.exp (S j - Finset.univ.sup S)) := by
  have hpos : 0 < c := by rw [hc]; have := Real.log_pos (x := 2) (by norm_num); positivity
  have hs' : ∀ k < N, s k = upTo S k * (c : EReal) := fun k hk => by rw [hs ⟨k, hk⟩, ← upTo_val S ⟨k, hk⟩]
  rw [← acc_masked s w hn hm, ← acc_masked s o hn hm, acc_congr (v' := w) hs' (fun _ _ => rfl), acc_congr (v' := fun _ => 1) hs' (fun k hk => ho ⟨k, hk⟩)]
  obtain ⟨r, hr, he⟩ := den_pos (fun k => upTo S k * (c : EReal)) N k0.val k0.isLt
    (by
      show upTo S k0.val * (c : EReal) ≠ ⊥
      rw [upTo_val]
      intro h
      rw [EReal.mul_eq_bot] at h
      simp [hb, hpos.le, hpos.not_gt, ht k0] at h)
    (fun k hk => by
      show upTo S k * (c : EReal) ≠ ⊤
      rw [upTo, dif_pos hk]
      intro h
      rw [EReal.mul_eq_top] at h
      simp [hpos.le, hpos.not_gt, ht ⟨k, hk⟩] at h)
  have hd : (∑ j : Fin N, Ideal.exp (S j - Finset.univ.sup S)) = (r : EReal) := by
    rw [← he, acc_exp S (fun _ => 1) hc (fun _ => 1) (fun _ => rfl)]
    simp only [one_mul]
  rw [he, div_acc _ _ _ hr, hd, Finset.sum_range]
  refine Finset.sum_congr rfl fun k _ => ?_
  rw [top_scaled _ _ hpos, top_upTo, wt_scaled _ _ hc, hw, upTo_val]

/-- A sum over 128 lanes: 64, then 32, then 32. -/
theorem sum_lanes (f : Fin 128 → EReal) :
    ∑ l : Fin 128, f l = ∑ l : Fin 64, f ⟨l.val, by omega⟩ + (∑ l : Fin 32, f ⟨64 + l.val, by omega⟩ + ∑ l : Fin 32, f ⟨64 + (32 + l.val), by omega⟩) :=
  (Fin.sum_univ_add (a := 64) (b := 64) f).trans (congrArg₂ (· + ·) rfl (Fin.sum_univ_add (a := 32) (b := 32) fun i => f (Fin.natAdd 64 i)))

/-- A score over padded, scaled lanes: the two sums, scaled by the root's factor and by one over the logarithm of 2. -/
theorem score_lanes (A C : Fin 64 → EReal) (B D : Fin 32 → EReal) (r c : ℝ)
    (hA : ∀ l, A l ≠ ⊤ ∧ A l ≠ ⊥) (hC : ∀ l, C l ≠ ⊤ ∧ C l ≠ ⊥) (hB : ∀ l, B l ≠ ⊤ ∧ B l ≠ ⊥) (hD : ∀ l, D l ≠ ⊤ ∧ D l ≠ ⊥)
    (f : Fin 128 → EReal) (h1 : ∀ l : Fin 64, f ⟨l.val, by omega⟩ = C l * (A l * ((r * c : ℝ) : EReal)))
    (h2 : ∀ l : Fin 32, f ⟨64 + l.val, by omega⟩ = D l * (B l * ((r * c : ℝ) : EReal))) (h3 : ∀ l : Fin 32, f ⟨64 + (32 + l.val), by omega⟩ = 0) :
    ∃ z : ℝ, (∑ l, A l * C l + ∑ l, D l * B l) * (r : EReal) = z ∧ ∑ l : Fin 128, f l = (∑ l, A l * C l + ∑ l, D l * B l) * (r : EReal) * (c : EReal) := by
  obtain ⟨A', rfl⟩ : ∃ A' : Fin 64 → ℝ, A = fun l => (A' l : EReal) := ⟨fun l => (A l).toReal, funext fun l => (EReal.coe_toReal (hA l).1 (hA l).2).symm⟩
  obtain ⟨B', rfl⟩ : ∃ A' : Fin 32 → ℝ, B = fun l => (A' l : EReal) := ⟨fun l => (B l).toReal, funext fun l => (EReal.coe_toReal (hB l).1 (hB l).2).symm⟩
  obtain ⟨C', rfl⟩ : ∃ A' : Fin 64 → ℝ, C = fun l => (A' l : EReal) := ⟨fun l => (C l).toReal, funext fun l => (EReal.coe_toReal (hC l).1 (hC l).2).symm⟩
  obtain ⟨D', rfl⟩ : ∃ A' : Fin 32 → ℝ, D = fun l => (A' l : EReal) := ⟨fun l => (D l).toReal, funext fun l => (EReal.coe_toReal (hD l).1 (hD l).2).symm⟩
  have e : (∑ l, (A' l : EReal) * (C' l : EReal) + ∑ l, (D' l : EReal) * (B' l : EReal)) * (r : EReal) = (((∑ l, A' l * C' l + ∑ l, D' l * B' l) * r : ℝ) : EReal) := by
    simp only [EReal.coe_mul, EReal.coe_add, coe_sum]
  refine ⟨_, e, ?_⟩
  rw [e, sum_lanes]
  simp only [h1, h2, h3, Finset.sum_const_zero, add_zero, ← EReal.coe_mul, ← EReal.coe_add, ← coe_sum]
  congr 1
  rw [add_mul, add_mul, Finset.sum_mul, Finset.sum_mul, Finset.sum_mul, Finset.sum_mul]
  exact congrArg₂ (· + ·) (Finset.sum_congr rfl fun l _ => by ring) (Finset.sum_congr rfl fun l _ => by ring)

end Cert.Online
end
-- ==== Proof.Reference.lean ====
/-
  The reference's attention, entry by entry: the masked scores, their exponentials below the row's largest score, the
  quotients by the row's sum, and the values weighted by them.
-/
module

public import proofs.«01_k».proof.Proof.Gen.ReferenceIdeal.Run
public import Idealize.ShloMosaic.Lib.Pipeline.ValueKit
public import Idealize.ShloMosaic.Lib.Claim

@[expose] public section
set_option maxRecDepth 16384
noncomputable section
namespace Cert.ReferenceIdeal.Read
open Cert.ReferenceIdeal Cert.ReferenceIdeal.Gen Cert.ReferenceIdeal.Value
open Idealize.ShloMosaic Idealize.ShloMosaic.TcCoe Idealize.ShloMosaic.StableHlo

/-- The factor of the scores: one over the root of 96. -/
def scale : FVec Ideal S_ .f32 := Host.divf (constant S_ .f32 0x3F800000#32) (Host.sqrt (constant S_ .f32 0x42C00000#32))

/-- Where a key is not after the query. -/
def causal : IVec S4x8x8192x8192 1 :=
  broadcastInDim S4x8x8192x8192 ![0, 1, 2, 3] bcast_S1x1x8192x8192_S4x8x8192x8192_0_1_2_3 (broadcastInDim S1x1x8192x8192 ![2, 3] bcast_S8192x8192_S1x1x8192x8192_2_3
    (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0)))))

/-- The masked scores. -/
def scores (a0 : FVec Ideal S4x8192x8x64 .f32) (a1 : FVec Ideal S4x8192x8x32 .f32) (a2 : FVec Ideal S4x8192x8x64 .f32) (a3 : FVec Ideal S4x8192x32 .f32) :
    FVec Ideal S4x8x8192x8192 .f32 :=
  select causal
    (mulf (addf (Host.dotGeneral dot_S4x8192x8x64_S4x8192x8x64_S4x8x8192x8192_3_3_1_1_02_02 none a0 a2)
        (transpose S4x8x8192x8192 [0, 3, 2, 1] (Host.dotGeneral dot_S4x8192x32_S4x8192x8x32_S4x8192x8192x8_2_3_1_12_0_0 none a3 a1) transposes_S4x8192x8192x8_S4x8x8192x8192_0_3_2_1))
      (broadcastInDim S4x8x8192x8192 ![] bcast_S_S4x8x8192x8192 scale))
    (broadcastInDim S4x8x8192x8192 ![] bcast_S_S4x8x8192x8192 (id (constant S_ .f32 0xFF800000#32)))

/-- Each row's largest entry. -/
def largest (z : FVec Ideal S4x8x8192x8192 .f32) : FVec Ideal S4x8x8192 .f32 :=
  maximumf (broadcastInDim S4x8x8192 ![] bcast_S_S4x8x8192 (constant S_ .f32 0xFF800000#32))
    (Host.reduce FloatOps.maximumf z (constant S_ .f32 0xFF800000#32) reducesTo_S4x8x8192x8192_S4x8x8192_d3 h_S_)

/-- The exponentials below each row's largest entry. -/
def lifted (z : FVec Ideal S4x8x8192x8192 .f32) : FVec Ideal S4x8x8192x8192 .f32 :=
  Host.exp (subf z (broadcastInDim S4x8x8192x8192 ![0, 1, 2, 3] bcast_S4x8x8192x1_S4x8x8192x8192_0_1_2_3 (broadcastInDim S4x8x8192x1 ![0, 1, 2] bcast_S4x8x8192_S4x8x8192x1_0_1_2
    (largest z))))

/-- Each row over its sum. -/
def normed (e : FVec Ideal S4x8x8192x8192 .f32) : FVec Ideal S4x8x8192x8192 .f32 :=
  Host.divf e (broadcastInDim S4x8x8192x8192 ![0, 1, 2, 3] bcast_S4x8x8192x1_S4x8x8192x8192_0_1_2_3 (broadcastInDim S4x8x8192x1 ![0, 1, 2] bcast_S4x8x8192_S4x8x8192x1_0_1_2
    (Host.reduceAdd e (constant S_ .f32 0x00000000#32) reducesTo_S4x8x8192x8192_S4x8x8192_d3 h_S_)))

/-- The values weighted, the heads side by side. -/
def weighted (a4 : FVec Ideal S4x8192x8x64 .f32) (p : FVec Ideal S4x8x8192x8192 .f32) : FVec Ideal S4x8192x512 .bf16 :=
  truncf .bf16 (shapeCast S4x8192x512 (transpose S4x8192x8x64 [0, 3, 1, 2] (Host.dotGeneral dot_S4x8192x8x64_S4x8x8192x8192_S4x8x64x8192_1_3_3_2_02_01 none a4 p) transposes_S4x8x64x8192_S4x8192x8x64_0_3_1_2) shapeCasts_S4x8192x8x64_S4x8192x512) bitsLt_bf16_f32

/-- The reference's result, by its stages. -/
def attention (a0 : FVec Ideal S4x8192x8x64 .f32) (a1 : FVec Ideal S4x8192x8x32 .f32) (a2 : FVec Ideal S4x8192x8x64 .f32) (a3 : FVec Ideal S4x8192x32 .f32)
    (a4 : FVec Ideal S4x8192x8x64 .f32) : FVec Ideal S4x8192x512 .bf16 :=
  weighted a4 (normed (lifted (scores a0 a1 a2 a3)))

/-- What the reference's run leaves is its stages' result. -/
theorem res_eq (m : (ℓ : Loc nD τ sig) → Buf (Elt Ideal) ℓ) (c : Dev nD) :
    res_main_v30 m c = attention (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold res_main_v30 attention weighted normed lifted largest scores causal scale
  rfl

/-- The weighted values at an entry. -/
theorem weighted_at (a4 : FVec Ideal S4x8192x8x64 .f32) (p : FVec Ideal S4x8x8192x8192 .f32) (b : Fin 4) (s : Fin 8192) (h : Fin 8) (d : Fin 64) :
    weighted a4 p (ix3 b s ⟨64 * h.val + d.val, by omega⟩) = ∑ x : Fin 8192, a4 (ix4 b x h d) * p (ix4 b h s x) := by
  pointwise [weighted]

/-- A weight. -/
theorem normed_at (e : FVec Ideal S4x8x8192x8192 .f32) (b : Fin 4) (h : Fin 8) (s x : Fin 8192) :
    normed e (ix4 b h s x) = Ideal.div (e (ix4 b h s x)) (∑ y : Fin 8192, e (ix4 b h s y)) := by
  pointwise [normed]

/-- The bits of minus infinity. -/
theorem negInf_bits : Ideal.ofBits .f32 0xFF800000#32 = (⊥ : EReal) := by
  simp [Ideal.ofBits, Ideal.ieee]

/-- The largest of a row, as the reduction finds it. -/
theorem reduced_at (z : FVec Ideal S4x8x8192x8192 .f32) (b : Fin 4) (h : Fin 8) (s : Fin 8192) :
    Host.reduce FloatOps.maximumf z (constant S_ .f32 0xFF800000#32) reducesTo_S4x8x8192x8192_S4x8x8192_d3 h_S_ (ix3 b h s)
      = Finset.fold max (Ideal.ofBits .f32 0xFF800000#32) (fun x : Fin 8192 => z (ix4 b h s x)) Finset.univ := by
  pointwise

/-- A fold of the larger one from minus infinity is the largest. -/
theorem fold_larger {n : ℕ} (f : Fin n → EReal) : Finset.fold max ⊥ f Finset.univ = Finset.univ.sup f := rfl

/-- Minus infinity everywhere. -/
theorem lowest_at (j : S4x8x8192.Idx) : broadcastInDim S4x8x8192 ![] bcast_S_S4x8x8192 (constant (F := Ideal) S_ .f32 0xFF800000#32) j = (⊥ : EReal) :=
  negInf_bits

/-- The larger of two arrays at an entry. -/
theorem larger_at (u w : FVec Ideal S4x8x8192 .f32) (j : S4x8x8192.Idx) {a b : EReal} (ha : u j = a) (hb : w j = b) : maximumf u w j = max a b :=
  congrArg₂ max ha hb

/-- A row's largest entry. -/
theorem largest_at (z : FVec Ideal S4x8x8192x8192 .f32) (b : Fin 4) (h : Fin 8) (s : Fin 8192) :
    largest z (ix3 b h s) = Finset.univ.sup fun x : Fin 8192 => z (ix4 b h s x) :=
  (larger_at _ _ (ix3 b h s) (lowest_at (ix3 b h s)) (((reduced_at z b h s).trans (congrArg (fun e => Finset.fold max e (fun x : Fin 8192 => z (ix4 b h s x)) Finset.univ) negInf_bits)).trans
    (fold_larger fun x : Fin 8192 => z (ix4 b h s x)))).trans (max_eq_right bot_le)

/-- An exponential. -/
theorem lifted_at (z : FVec Ideal S4x8x8192x8192 .f32) (b : Fin 4) (h : Fin 8) (s x : Fin 8192) :
    lifted z (ix4 b h s x) = Ideal.exp (z (ix4 b h s x) - largest z (ix3 b h s)) := by
  unfold lifted
  generalize largest z = u
  pointwise

/-- Comparing positions as words. -/
theorem sle_words (n k : ℕ) (hn : n < 2 ^ 31) (hk : k < 2 ^ 31) :
    IntOp.cmpi CmpIPredicate.sle (BitVec.ofNat 32 n) (BitVec.ofNat 32 k) = BitVec.ofBool (decide (n ≤ k)) := by
  have e1 : (BitVec.ofNat 32 n).toInt = n := by
    rw [BitVec.toInt_eq_toNat_of_lt (by rw [BitVec.toNat_ofNat]; omega), BitVec.toNat_ofNat]; omega
  have e2 : (BitVec.ofNat 32 k).toInt = k := by
    rw [BitVec.toInt_eq_toNat_of_lt (by rw [BitVec.toNat_ofNat]; omega), BitVec.toNat_ofNat]; omega
  simp [IntOp.cmpi, BitVec.sle, e1, e2]

/-- A masked score. -/
theorem scores_at (a0 : FVec Ideal S4x8192x8x64 .f32) (a1 : FVec Ideal S4x8192x8x32 .f32) (a2 : FVec Ideal S4x8192x8x64 .f32) (a3 : FVec Ideal S4x8192x32 .f32)
    (b : Fin 4) (h : Fin 8) (s x : Fin 8192) :
    scores a0 a1 a2 a3 (ix4 b h s x) = if x.val ≤ s.val then
      ((∑ l : Fin 64, a0 (ix4 b s h l) * a2 (ix4 b x h l)) + ∑ l : Fin 32, a3 (ix3 b x l) * a1 (ix4 b s h l)) * scale ix0 else ⊥ := by
  unfold scores
  generalize scale = r
  pointwise [causal]
  rw [sle_words _ _ (by omega) (by omega)]
  by_cases hx : x.val ≤ s.val
  · rw [if_pos hx, decide_eq_true hx]
    rfl
  · rw [if_neg hx, decide_eq_false hx]
    exact negInf_bits

/-- An entry of the reference's result: the values weighted by the softmax of the query's masked scores. -/
theorem attention_at (a0 : FVec Ideal S4x8192x8x64 .f32) (a1 : FVec Ideal S4x8192x8x32 .f32) (a2 : FVec Ideal S4x8192x8x64 .f32) (a3 : FVec Ideal S4x8192x32 .f32)
    (a4 : FVec Ideal S4x8192x8x64 .f32) (b : Fin 4) (s : Fin 8192) (h : Fin 8) (d : Fin 64) :
    attention a0 a1 a2 a3 a4 (ix3 b s ⟨64 * h.val + d.val, by omega⟩) = ∑ x : Fin 8192, a4 (ix4 b x h d)
      * Ideal.div (Ideal.exp (scores a0 a1 a2 a3 (ix4 b h s x) - Finset.univ.sup fun k : Fin 8192 => scores a0 a1 a2 a3 (ix4 b h s k)))
          (∑ y : Fin 8192, Ideal.exp (scores a0 a1 a2 a3 (ix4 b h s y) - Finset.univ.sup fun k : Fin 8192 => scores a0 a1 a2 a3 (ix4 b h s k))) := by
  unfold attention
  generalize scores a0 a1 a2 a3 = z
  rw [weighted_at]
  simp only [normed_at, lifted_at, largest_at]

end Cert.ReferenceIdeal.Read
end
-- ==== Proof.Attn.Run.lean ====
module

public import proofs.«01_k».proof.Proof.Gen.KernelIdeal.Frame.Runs

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 1000000 in
/-- The body of the attention kernel run once. The three later score buffers are held at the contents `f8`, `f9`, `f10`,
    and the pieces that the body stores in the output block are given as a function of those contents.
    The inputs are kept, and the scratch buffers are handed back at some contents. -/
noncomputable def bodyRun (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole)
    (x0 : Vec F S1x512x512 .bf16) (x1 : Vec F S1x8192x512 .bf16) (x2 : Vec F S1x16x320x512 .bf16) :
    { L3 : BufTy.Contents (Elt F) arg8.view.ty → BufTy.Contents (Elt F) arg9.view.ty → BufTy.Contents (Elt F) arg10.view.ty → List (View.Piece (Elt F) S1x512x256 .bf16) //
      ∀ (f8 : BufTy.Contents (Elt F) arg8.view.ty) (f9 : BufTy.Contents (Elt F) arg9.view.ty) (f10 : BufTy.Contents (Elt F) arg10.view.ty) (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (arg8.view.loc (c : Thread nD τ) ↦[arg8.view.set]{fullShare} f8) ∗ (arg9.view.loc (c : Thread nD τ) ↦[arg9.view.set]{fullShare} f9)
            ∗ (arg10.view.loc (c : Thread nD τ) ↦[arg10.view.set]{fullShare} f10)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f (L3 f8 f9 f10))
                ∗ (∃ d, owns (c : Thread nD τ) arg7 fullShare d) ∗ (∃ d, owns (c : Thread nD τ) arg8 fullShare d) ∗ (∃ d, owns (c : Thread nD τ) arg9 fullShare d)
                ∗ (∃ d, owns (c : Thread nD τ) arg10 fullShare d)) -∗ K ⟨⟩))
          ⊢ wp frame (wpE (defs₀ (F := F)) Variants.none c none) E (cc0_attn i arg3 harg3 arg4 harg4 arg5 harg5 arg6 harg6 arg7 harg7 arg8 harg8 arg9 harg9 arg10 harg10) K } := by
  refine ⟨?_, fun fs1 fs2 fs3 E K => ?run⟩
  case run =>
    simp only [cc0_attn_eq_skeleton]; unfold cc0_attn_skel
    simp only [k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%d3, %f3, -, H3⟩, ⟨%ds0, %fs0, -, HS0⟩, HS1, HS2, HS3, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists f3; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Attn

end
-- ==== Proof.Attn.Indep.lean ====
module

public import proofs.«01_k».proof.Proof.Attn.Run
public import Idealize.ShloMosaic.Lib.VecWindow

@[expose] public section

set_option maxRecDepth 16384
set_option maxHeartbeats 1000000

noncomputable section

namespace Cert.KernelIdeal.Attn

open Cert.KernelIdeal Cert.KernelIdeal.Gen
open Idealize.ShloMosaic Idealize.ShloMosaic.TcCoe

variable {F : FTy → Type} [FloatOps F] [Named F]

/-- The eight vectors that a loop carries: for each of the four heads the running maximum and the running sums. -/
abbrev Carried (F : FTy → Type) : Type := FVec F S1x512 .f32 × FVec F S80x512 .f32 × FVec F S1x512 .f32 × FVec F S80x512 .f32 × FVec F S1x512 .f32 × FVec F S80x512 .f32 × FVec F S1x512 .f32 × FVec F S80x512 .f32

/-- What a loop carries, and the pieces that it has stored in each of the four score buffers. -/
abbrev LoopState (F : FTy → Type) : Type := Carried F × List (View.Piece (Elt F) S512x512 .f32) × List (View.Piece (Elt F) S512x512 .f32) × List (View.Piece (Elt F) S512x512 .f32) × List (View.Piece (Elt F) S512x512 .f32)

/-- The first loop (four blocks of keys a trip) after `k` trips, over score buffers whose three later ones start at nothing in particular. -/
def fours (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (X_arg3 : BufTy.Contents (Elt F) arg3.view.ty) (X_arg4 : BufTy.Contents (Elt F) arg4.view.ty) (X_arg5 : BufTy.Contents (Elt F) arg5.view.ty) (G7 : BufTy.Contents (Elt F) arg7.view.ty) (init : Carried F) (k : ℕ) : LoopState F :=
  st_k0_t1 Variants.none c none i arg3 harg3 arg4 harg4 arg5 harg5 arg6 harg6 arg7 harg7 arg8 harg8 arg9 harg9 arg10 harg10 X_arg3 X_arg4 X_arg5 G7 arg8.view.junk arg9.view.junk arg10.view.junk init k

/-- The third loop (one block of keys a trip) after `k` trips, over score buffers whose three later ones start at nothing in particular. -/
def ones (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (X_arg3 : BufTy.Contents (Elt F) arg3.view.ty) (X_arg4 : BufTy.Contents (Elt F) arg4.view.ty) (X_arg5 : BufTy.Contents (Elt F) arg5.view.ty) (G7 : BufTy.Contents (Elt F) arg7.view.ty) (init : Carried F) (k : ℕ) : LoopState F :=
  st_k0_t3 Variants.none c none i arg3 harg3 arg4 harg4 arg5 harg5 arg6 harg6 arg7 harg7 arg8 harg8 arg9 harg9 arg10 harg10 0#32 0#32 init.1 init.2.1 init.2.2.1 init.2.2.2.1 init.2.2.2.2.1 init.2.2.2.2.2.1 init.2.2.2.2.2.2.1 init.2.2.2.2.2.2.2 0#32 X_arg3 X_arg4 X_arg5 G7 arg8.view.junk arg9.view.junk arg10.view.junk init k

/-- The first loop does not read what the three later score buffers held before it. -/
theorem fours_eq (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) (G9 : BufTy.Contents (Elt F) arg9.view.ty) (G10 : BufTy.Contents (Elt F) arg10.view.ty) (init : Carried F) (k : ℕ) :
    st_k0_t1 Variants.none c none i arg3 harg3 arg4 harg4 arg5 harg5 arg6 harg6 arg7 harg7 arg8 harg8 arg9 harg9 arg10 harg10 X_arg3 X_arg4 X_arg5 G7 G8 G9 G10 init k = fours c i arg3 harg3 arg4 harg4 arg5 harg5 arg6 harg6 arg7 harg7 arg8 harg8 arg9 harg9 arg10 harg10 X_arg3 X_arg4 X_arg5 G7 init k := by
  unfold fours
  induction k with
  | zero => rfl
  | succ k ih =>
    simp only [st_k0_t1, ih]
    unfold st_k0_t1Step
    split
    · unfold tripR_k0_t1 tripL_k0_t1 trip_k0_t1; rfl
    · rfl

/-- The third loop reads neither what the three later score buffers held before it nor what the first loop handed on beside what it carries itself. -/
theorem ones_eq (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg2 v33 : BitVec 32) (v34_0 : FVec F S1x512 .f32) (v34_1 : FVec F S80x512 .f32) (v34_2 : FVec F S1x512 .f32) (v34_3 : FVec F S80x512 .f32) (v34_4 : FVec F S1x512 .f32) (v34_5 : FVec F S80x512 .f32) (v34_6 : FVec F S1x512 .f32) (v34_7 : FVec F S80x512 .f32) (v53 : BitVec 32) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) (G9 : BufTy.Contents (Elt F) arg9.view.ty) (G10 : BufTy.Contents (Elt F) arg10.view.ty) (init : Carried F) (k : ℕ) :
    st_k0_t3 Variants.none c none i arg3 harg3 arg4 harg4 arg5 harg5 arg6 harg6 arg7 harg7 arg8 harg8 arg9 harg9 arg10 harg10 arg2 v33 v34_0 v34_1 v34_2 v34_3 v34_4 v34_5 v34_6 v34_7 v53 X_arg3 X_arg4 X_arg5 G7 G8 G9 G10 init k = ones c i arg3 harg3 arg4 harg4 arg5 harg5 arg6 harg6 arg7 harg7 arg8 harg8 arg9 harg9 arg10 harg10 X_arg3 X_arg4 X_arg5 G7 init k := by
  unfold ones
  induction k with
  | zero => rfl
  | succ k ih =>
    simp only [st_k0_t3, ih]
    unfold st_k0_t3Step
    split
    · unfold tripR_k0_t3 tripL_k0_t3 trip_k0_t3; rfl
    · rfl

/-- The second loop makes no trip at any grid point. -/
theorem trips2 : ∀ i : grid0.Coords, Scf.trips (k0_t2_loop i).lb (k0_t2_loop i).ub (k0_t2_loop i).st = 0 := by decide +kernel

/-- The fourth loop makes no trip at any grid point. -/
theorem trips4 : ∀ i : grid0.Coords, Scf.trips (k0_t4_loop i).lb (k0_t4_loop i).ub (k0_t4_loop i).st = 0 := by decide +kernel

/-- So the second loop hands on what it was given and stores nothing. -/
theorem none2 (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg2 v33 : BitVec 32) (v34_0 : FVec F S1x512 .f32) (v34_1 : FVec F S80x512 .f32) (v34_2 : FVec F S1x512 .f32) (v34_3 : FVec F S80x512 .f32) (v34_4 : FVec F S1x512 .f32) (v34_5 : FVec F S80x512 .f32) (v34_6 : FVec F S1x512 .f32) (v34_7 : FVec F S80x512 .f32) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) (G9 : BufTy.Contents (Elt F) arg9.view.ty) (G10 : BufTy.Contents (Elt F) arg10.view.ty) (init : Carried F) :
    st_k0_t2 Variants.none c none i arg3 harg3 arg4 harg4 arg5 harg5 arg6 harg6 arg7 harg7 arg8 harg8 arg9 harg9 arg10 harg10 arg2 v33 v34_0 v34_1 v34_2 v34_3 v34_4 v34_5 v34_6 v34_7 X_arg3 X_arg4 X_arg5 G7 G8 G9 G10 init (Scf.trips (k0_t2_loop i).lb (k0_t2_loop i).ub (k0_t2_loop i).st) = (init, [], [], [], []) := by
  rw [trips2]; rfl

/-- So the fourth loop hands on what it was given and stores nothing. -/
theorem none4 (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg2 v33 : BitVec 32) (v34_0 : FVec F S1x512 .f32) (v34_1 : FVec F S80x512 .f32) (v34_2 : FVec F S1x512 .f32) (v34_3 : FVec F S80x512 .f32) (v34_4 : FVec F S1x512 .f32) (v34_5 : FVec F S80x512 .f32) (v34_6 : FVec F S1x512 .f32) (v34_7 : FVec F S80x512 .f32) (v58 : BitVec 32) (X_arg3 : BufTy.Contents (Elt F) arg3.view.ty) (X_arg4 : BufTy.Contents (Elt F) arg4.view.ty) (X_arg5 : BufTy.Contents (Elt F) arg5.view.ty) (G7 : BufTy.Contents (Elt F) arg7.view.ty) (G8 : BufTy.Contents (Elt F) arg8.view.ty) (G9 : BufTy.Contents (Elt F) arg9.view.ty) (G10 : BufTy.Contents (Elt F) arg10.view.ty) (init : Carried F) :
    st_k0_t4 Variants.none c none i arg3 harg3 arg4 harg4 arg5 harg5 arg6 harg6 arg7 harg7 arg8 harg8 arg9 harg9 arg10 harg10 arg2 v33 v34_0 v34_1 v34_2 v34_3 v34_4 v34_5 v34_6 v34_7 v58 X_arg3 X_arg4 X_arg5 G7 G8 G9 G10 init (Scf.trips (k0_t4_loop i).lb (k0_t4_loop i).ub (k0_t4_loop i).st) = (init, [], [], [], []) := by
  rw [trips4]; rfl

/-- The score buffer of the first head before the loops: its scores on the first block of keys. -/
def first (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) : List (View.Piece (Elt F) S512x512 .f32) :=
  [⟨Rect.unit ![0, 0] S512x512.size inb_S512x512_S512x512_0_0,
    k0_pay158 (View.readAt (Elt F) arg4.view (Rect.unit (s := S1x8192x512) ![0, 0, 0] S1x512x128.size inb_S1x8192x512_S1x512x128_0_0_0).toLoadRect (harg4.unread x1))
      (View.readAt (Elt F) arg3.view (Rect.unit (s := S1x512x512) ![0, 0, 0] S1x512x128.size inb_S1x512x512_S1x512x128_0_0_0).toLoadRect (harg3.unread x0))⟩]

/-- The first loop after its last trip. -/
def afterFours (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16) : LoopState F :=
  fours c i arg3 harg3 arg4 harg4 arg5 harg5 arg6 harg6 arg7 harg7 arg8 harg8 arg9 harg9 arg10 harg10 (harg3.unread x0) (harg4.unread x1) (harg5.unread x2)
    (arg7.view.writes (Elt F) arg7.view.junk (first c i arg3 harg3 arg4 harg4 arg5 harg5 arg6 harg6 arg7 harg7 arg8 harg8 arg9 harg9 arg10 harg10 x0 x1))
    (k0_pay156, k0_pay157, k0_pay156, k0_pay157, k0_pay156, k0_pay157, k0_pay156, k0_pay157)
    (Scf.trips (k0_t1_loop i).lb (k0_t1_loop i).ub (k0_t1_loop i).st)

/-- The third loop after its last trip. -/
def afterOnes (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16) : LoopState F :=
  ones c i arg3 harg3 arg4 harg4 arg5 harg5 arg6 harg6 arg7 harg7 arg8 harg8 arg9 harg9 arg10 harg10 (harg3.unread x0) (harg4.unread x1) (harg5.unread x2)
    (arg7.view.writes (Elt F) arg7.view.junk ((afterFours c i arg3 harg3 arg4 harg4 arg5 harg5 arg6 harg6 arg7 harg7 arg8 harg8 arg9 harg9 arg10 harg10 x0 x1 x2).2.1 ++ first c i arg3 harg3 arg4 harg4 arg5 harg5 arg6 harg6 arg7 harg7 arg8 harg8 arg9 harg9 arg10 harg10 x0 x1))
    (afterFours c i arg3 harg3 arg4 harg4 arg5 harg5 arg6 harg6 arg7 harg7 arg8 harg8 arg9 harg9 arg10 harg10 x0 x1 x2).1
    (Scf.trips (k0_t3_loop i).lb (k0_t3_loop i).ub (k0_t3_loop i).st)

/-- The first head's scores on the diagonal block, as the loops leave them. -/
def diag0 (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16) : Vec F S512x512 .f32 :=
  arg7.view.readCov ((afterOnes c i arg3 harg3 arg4 harg4 arg5 harg5 arg6 harg6 arg7 harg7 arg8 harg8 arg9 harg9 arg10 harg10 x0 x1 x2).2.1 ++ ((afterFours c i arg3 harg3 arg4 harg4 arg5 harg5 arg6 harg6 arg7 harg7 arg8 harg8 arg9 harg9 arg10 harg10 x0 x1 x2).2.1 ++ first c i arg3 harg3 arg4 harg4 arg5 harg5 arg6 harg6 arg7 harg7 arg8 harg8 arg9 harg9 arg10 harg10 x0 x1))
    (Rect.unit ![0, 0] S512x512.size inb_S512x512_S512x512_0_0).toLoadRect

/-- The four heads' sums after the diagonal block, each head's result side by side. -/
def result (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16) : FVec F S512x256 .bf16 :=
  let a := (afterOnes c i arg3 harg3 arg4 harg4 arg5 harg5 arg6 harg6 arg7 harg7 arg8 harg8 arg9 harg9 arg10 harg10 x0 x1 x2).1
  let K1 := View.readAt (Elt F) arg4.view (Rect.unit (s := S1x8192x512) (k0_off33 i) S1x512x128.size (k0_off33_inb i)).toLoadRect (harg4.unread x1)
  let Q1 := View.readAt (Elt F) arg3.view (Rect.unit (s := S1x512x512) ![0, 0, 128] S1x512x128.size inb_S1x512x512_S1x512x128_0_0_128).toLoadRect (harg3.unread x0)
  let K2 := View.readAt (Elt F) arg4.view (Rect.unit (s := S1x8192x512) (k0_off35 i) S1x512x128.size (k0_off35_inb i)).toLoadRect (harg4.unread x1)
  let Q2 := View.readAt (Elt F) arg3.view (Rect.unit (s := S1x512x512) ![0, 0, 256] S1x512x128.size inb_S1x512x512_S1x512x128_0_0_256).toLoadRect (harg3.unread x0)
  let K3 := View.readAt (Elt F) arg4.view (Rect.unit (s := S1x8192x512) (k0_off37 i) S1x512x128.size (k0_off37_inb i)).toLoadRect (harg4.unread x1)
  let Q3 := View.readAt (Elt F) arg3.view (Rect.unit (s := S1x512x512) ![0, 0, 384] S1x512x128.size inb_S1x512x512_S1x512x128_0_0_384).toLoadRect (harg3.unread x0)
  k0_pay175 a.2.2.2.2.2.1 a.2.2.2.2.2.2.1 a.2.2.2.2.2.2.2
    (k0_pay166 a.1 a.2.1 (diag0 c i arg3 harg3 arg4 harg4 arg5 harg5 arg6 harg6 arg7 harg7 arg8 harg8 arg9 harg9 arg10 harg10 x0 x1 x2)
      (View.readAt (Elt F) arg5.view (Rect.unit (s := S1x16x320x512) (k0_off34 i) S1x1x80x512.size (k0_off34_inb i)).toLoadRect (harg5.unread x2)))
    (k0_pay169 a.2.2.1 a.2.2.2.1 (k0_pay168 (k0_pay165 K1 Q1))
      (View.readAt (Elt F) arg5.view (Rect.unit (s := S1x16x320x512) (k0_off36 i) S1x1x80x512.size (k0_off36_inb i)).toLoadRect (harg5.unread x2)))
    (k0_pay173 a.2.2.2.2.1 (k0_pay167 K2 Q2)) (k0_pay174 a.2.2.2.2.1 (k0_pay167 K2 Q2))
    (View.readAt (Elt F) arg5.view (Rect.unit (s := S1x16x320x512) (k0_off38 i) S1x1x80x512.size (k0_off38_inb i)).toLoadRect (harg5.unread x2))
    (k0_pay170 K3 Q3)
    (View.readAt (Elt F) arg5.view (Rect.unit (s := S1x16x320x512) (k0_off39 i) S1x1x80x512.size (k0_off39_inb i)).toLoadRect (harg5.unread x2))

/-- The one piece that the body stores in the output block. -/
def pieces (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16) : List (View.Piece (Elt F) S1x512x256 .bf16) :=
  [⟨Rect.unit ![0, 0, 0] ![1, 512, 256] inb_S1x512x256_S1x512x256_0_0_0, k0_pay1 (result c i arg3 harg3 arg4 harg4 arg5 harg5 arg6 harg6 arg7 harg7 arg8 harg8 arg9 harg9 arg10 harg10 x0 x1 x2)⟩]

/-- After the first loop the words the body carries are those of the loop on its own. -/
theorem r0_eq (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16)
    (f8 : BufTy.Contents (Elt F) arg8.view.ty) (f9 : BufTy.Contents (Elt F) arg9.view.ty) (f10 : BufTy.Contents (Elt F) arg10.view.ty) : bodyRun.sl.r c i arg3 harg3 arg4 harg4 arg5 harg5 arg6 harg6 arg7 harg7 arg8 harg8 arg9 harg9 arg10 harg10 x0 x1 x2 f8 f9 f10 = (afterFours c i arg3 harg3 arg4 harg4 arg5 harg5 arg6 harg6 arg7 harg7 arg8 harg8 arg9 harg9 arg10 harg10 x0 x1 x2).1.1 := by
  unfold bodyRun.sl.r afterFours; rw [fours_eq]; rfl

theorem r1_eq (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16)
    (f8 : BufTy.Contents (Elt F) arg8.view.ty) (f9 : BufTy.Contents (Elt F) arg9.view.ty) (f10 : BufTy.Contents (Elt F) arg10.view.ty) : bodyRun.sl.r_1 c i arg3 harg3 arg4 harg4 arg5 harg5 arg6 harg6 arg7 harg7 arg8 harg8 arg9 harg9 arg10 harg10 x0 x1 x2 f8 f9 f10 = (afterFours c i arg3 harg3 arg4 harg4 arg5 harg5 arg6 harg6 arg7 harg7 arg8 harg8 arg9 harg9 arg10 harg10 x0 x1 x2).1.2.1 := by
  unfold bodyRun.sl.r_1 afterFours; rw [fours_eq]; rfl

theorem r2_eq (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16)
    (f8 : BufTy.Contents (Elt F) arg8.view.ty) (f9 : BufTy.Contents (Elt F) arg9.view.ty) (f10 : BufTy.Contents (Elt F) arg10.view.ty) : bodyRun.sl.r_2 c i arg3 harg3 arg4 harg4 arg5 harg5 arg6 harg6 arg7 harg7 arg8 harg8 arg9 harg9 arg10 harg10 x0 x1 x2 f8 f9 f10 = (afterFours c i arg3 harg3 arg4 harg4 arg5 harg5 arg6 harg6 arg7 harg7 arg8 harg8 arg9 harg9 arg10 harg10 x0 x1 x2).1.2.2.1 := by
  unfold bodyRun.sl.r_2 afterFours; rw [fours_eq]; rfl

theorem r3_eq (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16)
    (f8 : BufTy.Contents (Elt F) arg8.view.ty) (f9 : BufTy.Contents (Elt F) arg9.view.ty) (f10 : BufTy.Contents (Elt F) arg10.view.ty) : bodyRun.sl.r_3 c i arg3 harg3 arg4 harg4 arg5 harg5 arg6 harg6 arg7 harg7 arg8 harg8 arg9 harg9 arg10 harg10 x0 x1 x2 f8 f9 f10 = (afterFours c i arg3 harg3 arg4 harg4 arg5 harg5 arg6 harg6 arg7 harg7 arg8 harg8 arg9 harg9 arg10 harg10 x0 x1 x2).1.2.2.2.1 := by
  unfold bodyRun.sl.r_3 afterFours; rw [fours_eq]; rfl

theorem r4_eq (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16)
    (f8 : BufTy.Contents (Elt F) arg8.view.ty) (f9 : BufTy.Contents (Elt F) arg9.view.ty) (f10 : BufTy.Contents (Elt F) arg10.view.ty) : bodyRun.sl.r_4 c i arg3 harg3 arg4 harg4 arg5 harg5 arg6 harg6 arg7 harg7 arg8 harg8 arg9 harg9 arg10 harg10 x0 x1 x2 f8 f9 f10 = (afterFours c i arg3 harg3 arg4 harg4 arg5 harg5 arg6 harg6 arg7 harg7 arg8 harg8 arg9 harg9 arg10 harg10 x0 x1 x2).1.2.2.2.2.1 := by
  unfold bodyRun.sl.r_4 afterFours; rw [fours_eq]; rfl

theorem r5_eq (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16)
    (f8 : BufTy.Contents (Elt F) arg8.view.ty) (f9 : BufTy.Contents (Elt F) arg9.view.ty) (f10 : BufTy.Contents (Elt F) arg10.view.ty) : bodyRun.sl.r_5 c i arg3 harg3 arg4 harg4 arg5 harg5 arg6 harg6 arg7 harg7 arg8 harg8 arg9 harg9 arg10 harg10 x0 x1 x2 f8 f9 f10 = (afterFours c i arg3 harg3 arg4 harg4 arg5 harg5 arg6 harg6 arg7 harg7 arg8 harg8 arg9 harg9 arg10 harg10 x0 x1 x2).1.2.2.2.2.2.1 := by
  unfold bodyRun.sl.r_5 afterFours; rw [fours_eq]; rfl

theorem r6_eq (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16)
    (f8 : BufTy.Contents (Elt F) arg8.view.ty) (f9 : BufTy.Contents (Elt F) arg9.view.ty) (f10 : BufTy.Contents (Elt F) arg10.view.ty) : bodyRun.sl.r_6 c i arg3 harg3 arg4 harg4 arg5 harg5 arg6 harg6 arg7 harg7 arg8 harg8 arg9 harg9 arg10 harg10 x0 x1 x2 f8 f9 f10 = (afterFours c i arg3 harg3 arg4 harg4 arg5 harg5 arg6 harg6 arg7 harg7 arg8 harg8 arg9 harg9 arg10 harg10 x0 x1 x2).1.2.2.2.2.2.2.1 := by
  unfold bodyRun.sl.r_6 afterFours; rw [fours_eq]; rfl

theorem r7_eq (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16)
    (f8 : BufTy.Contents (Elt F) arg8.view.ty) (f9 : BufTy.Contents (Elt F) arg9.view.ty) (f10 : BufTy.Contents (Elt F) arg10.view.ty) : bodyRun.sl.r_7 c i arg3 harg3 arg4 harg4 arg5 harg5 arg6 harg6 arg7 harg7 arg8 harg8 arg9 harg9 arg10 harg10 x0 x1 x2 f8 f9 f10 = (afterFours c i arg3 harg3 arg4 harg4 arg5 harg5 arg6 harg6 arg7 harg7 arg8 harg8 arg9 harg9 arg10 harg10 x0 x1 x2).1.2.2.2.2.2.2.2 := by
  unfold bodyRun.sl.r_7 afterFours; rw [fours_eq]; rfl

theorem r8_eq (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16)
    (f8 : BufTy.Contents (Elt F) arg8.view.ty) (f9 : BufTy.Contents (Elt F) arg9.view.ty) (f10 : BufTy.Contents (Elt F) arg10.view.ty) : bodyRun.sl.r_8 c i arg3 harg3 arg4 harg4 arg5 harg5 arg6 harg6 arg7 harg7 arg8 harg8 arg9 harg9 arg10 harg10 x0 x1 x2 f8 f9 f10 = (afterOnes c i arg3 harg3 arg4 harg4 arg5 harg5 arg6 harg6 arg7 harg7 arg8 harg8 arg9 harg9 arg10 harg10 x0 x1 x2).1.1 := by
  unfold bodyRun.sl.r_8 afterOnes; rw [none4, ones_eq, none2, fours_eq, r0_eq, r1_eq, r2_eq, r3_eq, r4_eq, r5_eq, r6_eq, r7_eq]; rfl

theorem r9_eq (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16)
    (f8 : BufTy.Contents (Elt F) arg8.view.ty) (f9 : BufTy.Contents (Elt F) arg9.view.ty) (f10 : BufTy.Contents (Elt F) arg10.view.ty) : bodyRun.sl.r_9 c i arg3 harg3 arg4 harg4 arg5 harg5 arg6 harg6 arg7 harg7 arg8 harg8 arg9 harg9 arg10 harg10 x0 x1 x2 f8 f9 f10 = (afterOnes c i arg3 harg3 arg4 harg4 arg5 harg5 arg6 harg6 arg7 harg7 arg8 harg8 arg9 harg9 arg10 harg10 x0 x1 x2).1.2.1 := by
  unfold bodyRun.sl.r_9 afterOnes; rw [none4, ones_eq, none2, fours_eq, r0_eq, r1_eq, r2_eq, r3_eq, r4_eq, r5_eq, r6_eq, r7_eq]; rfl

theorem r10_eq (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16)
    (f8 : BufTy.Contents (Elt F) arg8.view.ty) (f9 : BufTy.Contents (Elt F) arg9.view.ty) (f10 : BufTy.Contents (Elt F) arg10.view.ty) : bodyRun.sl.r_10 c i arg3 harg3 arg4 harg4 arg5 harg5 arg6 harg6 arg7 harg7 arg8 harg8 arg9 harg9 arg10 harg10 x0 x1 x2 f8 f9 f10 = (afterOnes c i arg3 harg3 arg4 harg4 arg5 harg5 arg6 harg6 arg7 harg7 arg8 harg8 arg9 harg9 arg10 harg10 x0 x1 x2).1.2.2.1 := by
  unfold bodyRun.sl.r_10 afterOnes; rw [none4, ones_eq, none2, fours_eq, r0_eq, r1_eq, r2_eq, r3_eq, r4_eq, r5_eq, r6_eq, r7_eq]; rfl

theorem r11_eq (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16)
    (f8 : BufTy.Contents (Elt F) arg8.view.ty) (f9 : BufTy.Contents (Elt F) arg9.view.ty) (f10 : BufTy.Contents (Elt F) arg10.view.ty) : bodyRun.sl.r_11 c i arg3 harg3 arg4 harg4 arg5 harg5 arg6 harg6 arg7 harg7 arg8 harg8 arg9 harg9 arg10 harg10 x0 x1 x2 f8 f9 f10 = (afterOnes c i arg3 harg3 arg4 harg4 arg5 harg5 arg6 harg6 arg7 harg7 arg8 harg8 arg9 harg9 arg10 harg10 x0 x1 x2).1.2.2.2.1 := by
  unfold bodyRun.sl.r_11 afterOnes; rw [none4, ones_eq, none2, fours_eq, r0_eq, r1_eq, r2_eq, r3_eq, r4_eq, r5_eq, r6_eq, r7_eq]; rfl

theorem r12_eq (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16)
    (f8 : BufTy.Contents (Elt F) arg8.view.ty) (f9 : BufTy.Contents (Elt F) arg9.view.ty) (f10 : BufTy.Contents (Elt F) arg10.view.ty) : bodyRun.sl.r_12 c i arg3 harg3 arg4 harg4 arg5 harg5 arg6 harg6 arg7 harg7 arg8 harg8 arg9 harg9 arg10 harg10 x0 x1 x2 f8 f9 f10 = (afterOnes c i arg3 harg3 arg4 harg4 arg5 harg5 arg6 harg6 arg7 harg7 arg8 harg8 arg9 harg9 arg10 harg10 x0 x1 x2).1.2.2.2.2.1 := by
  unfold bodyRun.sl.r_12 afterOnes; rw [none4, ones_eq, none2, fours_eq, r0_eq, r1_eq, r2_eq, r3_eq, r4_eq, r5_eq, r6_eq, r7_eq]; rfl

theorem r13_eq (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16)
    (f8 : BufTy.Contents (Elt F) arg8.view.ty) (f9 : BufTy.Contents (Elt F) arg9.view.ty) (f10 : BufTy.Contents (Elt F) arg10.view.ty) : bodyRun.sl.r_13 c i arg3 harg3 arg4 harg4 arg5 harg5 arg6 harg6 arg7 harg7 arg8 harg8 arg9 harg9 arg10 harg10 x0 x1 x2 f8 f9 f10 = (afterOnes c i arg3 harg3 arg4 harg4 arg5 harg5 arg6 harg6 arg7 harg7 arg8 harg8 arg9 harg9 arg10 harg10 x0 x1 x2).1.2.2.2.2.2.1 := by
  unfold bodyRun.sl.r_13 afterOnes; rw [none4, ones_eq, none2, fours_eq, r0_eq, r1_eq, r2_eq, r3_eq, r4_eq, r5_eq, r6_eq, r7_eq]; rfl

theorem r14_eq (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16)
    (f8 : BufTy.Contents (Elt F) arg8.view.ty) (f9 : BufTy.Contents (Elt F) arg9.view.ty) (f10 : BufTy.Contents (Elt F) arg10.view.ty) : bodyRun.sl.r_14 c i arg3 harg3 arg4 harg4 arg5 harg5 arg6 harg6 arg7 harg7 arg8 harg8 arg9 harg9 arg10 harg10 x0 x1 x2 f8 f9 f10 = (afterOnes c i arg3 harg3 arg4 harg4 arg5 harg5 arg6 harg6 arg7 harg7 arg8 harg8 arg9 harg9 arg10 harg10 x0 x1 x2).1.2.2.2.2.2.2.1 := by
  unfold bodyRun.sl.r_14 afterOnes; rw [none4, ones_eq, none2, fours_eq, r0_eq, r1_eq, r2_eq, r3_eq, r4_eq, r5_eq, r6_eq, r7_eq]; rfl

theorem r15_eq (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16)
    (f8 : BufTy.Contents (Elt F) arg8.view.ty) (f9 : BufTy.Contents (Elt F) arg9.view.ty) (f10 : BufTy.Contents (Elt F) arg10.view.ty) : bodyRun.sl.r_15 c i arg3 harg3 arg4 harg4 arg5 harg5 arg6 harg6 arg7 harg7 arg8 harg8 arg9 harg9 arg10 harg10 x0 x1 x2 f8 f9 f10 = (afterOnes c i arg3 harg3 arg4 harg4 arg5 harg5 arg6 harg6 arg7 harg7 arg8 harg8 arg9 harg9 arg10 harg10 x0 x1 x2).1.2.2.2.2.2.2.2 := by
  unfold bodyRun.sl.r_15 afterOnes; rw [none4, ones_eq, none2, fours_eq, r0_eq, r1_eq, r2_eq, r3_eq, r4_eq, r5_eq, r6_eq, r7_eq]; rfl

/-- The first head's last block of scores likewise. -/
theorem v72_eq (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16)
    (f8 : BufTy.Contents (Elt F) arg8.view.ty) (f9 : BufTy.Contents (Elt F) arg9.view.ty) (f10 : BufTy.Contents (Elt F) arg10.view.ty) : bodyRun.sl.v72 c i arg3 harg3 arg4 harg4 arg5 harg5 arg6 harg6 arg7 harg7 arg8 harg8 arg9 harg9 arg10 harg10 x0 x1 x2 f8 f9 f10 = diag0 c i arg3 harg3 arg4 harg4 arg5 harg5 arg6 harg6 arg7 harg7 arg8 harg8 arg9 harg9 arg10 harg10 x0 x1 x2 := by
  unfold bodyRun.sl.v72 diag0 afterOnes; rw [none4, ones_eq, none2, fours_eq, r0_eq, r1_eq, r2_eq, r3_eq, r4_eq, r5_eq, r6_eq, r7_eq]; rfl

/-- The scores of head 1 on the diagonal block, read back whole after being stored whole. -/
theorem v105_eq (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16)
    (f8 : BufTy.Contents (Elt F) arg8.view.ty) (f9 : BufTy.Contents (Elt F) arg9.view.ty) (f10 : BufTy.Contents (Elt F) arg10.view.ty) :
    bodyRun.sl.v105 c i arg3 harg3 arg4 harg4 arg5 harg5 arg6 harg6 arg7 harg7 arg8 harg8 arg9 harg9 arg10 harg10 x0 x1 x2 f8 f9 f10 = k0_pay165 (View.readAt (Elt F) arg4.view (Rect.unit (s := S1x8192x512) (k0_off33 i) S1x512x128.size (k0_off33_inb i)).toLoadRect (harg4.unread x1))
      (View.readAt (Elt F) arg3.view (Rect.unit (s := S1x512x512) ![0, 0, 128] S1x512x128.size inb_S1x512x512_S1x512x128_0_0_128).toLoadRect (harg3.unread x0)) := by
  unfold bodyRun.sl.v105 bodyRun.sl.HS1_1; exact View.readCov_full _ _ _ _ _

/-- The scores of head 2 on the diagonal block, read back whole after being stored whole. -/
theorem v138_eq (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16)
    (f8 : BufTy.Contents (Elt F) arg8.view.ty) (f9 : BufTy.Contents (Elt F) arg9.view.ty) (f10 : BufTy.Contents (Elt F) arg10.view.ty) :
    bodyRun.sl.v138 c i arg3 harg3 arg4 harg4 arg5 harg5 arg6 harg6 arg7 harg7 arg8 harg8 arg9 harg9 arg10 harg10 x0 x1 x2 f8 f9 f10 = k0_pay167 (View.readAt (Elt F) arg4.view (Rect.unit (s := S1x8192x512) (k0_off35 i) S1x512x128.size (k0_off35_inb i)).toLoadRect (harg4.unread x1))
      (View.readAt (Elt F) arg3.view (Rect.unit (s := S1x512x512) ![0, 0, 256] S1x512x128.size inb_S1x512x512_S1x512x128_0_0_256).toLoadRect (harg3.unread x0)) := by
  unfold bodyRun.sl.v138 bodyRun.sl.HS2_1; exact View.readCov_full _ _ _ _ _

/-- The scores of head 3 on the diagonal block, read back whole after being stored whole. -/
theorem v160_eq (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16)
    (f8 : BufTy.Contents (Elt F) arg8.view.ty) (f9 : BufTy.Contents (Elt F) arg9.view.ty) (f10 : BufTy.Contents (Elt F) arg10.view.ty) :
    bodyRun.sl.v160 c i arg3 harg3 arg4 harg4 arg5 harg5 arg6 harg6 arg7 harg7 arg8 harg8 arg9 harg9 arg10 harg10 x0 x1 x2 f8 f9 f10 = k0_pay170 (View.readAt (Elt F) arg4.view (Rect.unit (s := S1x8192x512) (k0_off37 i) S1x512x128.size (k0_off37_inb i)).toLoadRect (harg4.unread x1))
      (View.readAt (Elt F) arg3.view (Rect.unit (s := S1x512x512) ![0, 0, 384] S1x512x128.size inb_S1x512x512_S1x512x128_0_0_384).toLoadRect (harg3.unread x0)) := by
  unfold bodyRun.sl.v160 bodyRun.sl.HS3_1; exact View.readCov_full _ _ _ _ _

/-- What the body stores does not depend on what the three later score buffers held before it. -/
theorem bodyRun_pieces (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (x0 : Vec F S1x512x512 .bf16) (x1 : Vec F S1x8192x512 .bf16) (x2 : Vec F S1x16x320x512 .bf16)
    (f8 : BufTy.Contents (Elt F) arg8.view.ty) (f9 : BufTy.Contents (Elt F) arg9.view.ty) (f10 : BufTy.Contents (Elt F) arg10.view.ty) :
    (bodyRun c i arg3 harg3 arg4 harg4 arg5 harg5 arg6 harg6 arg7 harg7 arg8 harg8 arg9 harg9 arg10 harg10 x0 x1 x2).1 f8 f9 f10 = pieces c i arg3 harg3 arg4 harg4 arg5 harg5 arg6 harg6 arg7 harg7 arg8 harg8 arg9 harg9 arg10 harg10 x0 x1 x2 := by
  unfold bodyRun pieces result
  dsimp only
  unfold bodyRun.sl.r_21 bodyRun.sl.r_20 bodyRun.sl.r_19 bodyRun.sl.r_18 bodyRun.sl.r_17 bodyRun.sl.r_16
  rw [v72_eq, r8_eq, r9_eq, r10_eq, r11_eq, r12_eq, r13_eq, r14_eq, r15_eq, v105_eq, v138_eq, v160_eq]

end Cert.KernelIdeal.Attn

end
-- ==== Proof.Attn.Frame.lean ====
module

public import proofs.«01_k».proof.Proof.Attn.Indep
public import Idealize.ShloMosaic.Lib.Claim

@[expose] public section

set_option maxRecDepth 16384

noncomputable section

namespace Cert.KernelIdeal.Attn

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The one store of the body covers its whole output block. -/
theorem cover0_A_3 (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole)
    (x0 : Vec F S1x512x512 .bf16) (x1 : Vec F S1x8192x512 .bf16) (x2 : Vec F S1x16x320x512 .bf16) (y : S1x512x256.Idx) :
    ∃ pc ∈ (pieces c i arg3 harg3 arg4 harg4 arg5 harg5 arg6 harg6 arg7 harg7 arg8 harg8 arg9 harg9 arg10 harg10 x0 x1 x2), y ∈ pc.1.set :=
  View.cover_of_tiledL (pieces c i arg3 harg3 arg4 harg4 arg5 harg5 arg6 harg6 arg7 harg7 arg8 harg8 arg9 harg9 arg10 harg10 x0 x1 x2) S1x512x256.size (by sl_kernel_rfl) y

/-- What the run leaves in output 3's staging buffer: its pieces read back over junk. -/
def out0_A_3 (c : Dev nD) (i : grid0.Coords) (arg3 : Memref sig .tc .vmem S1x512x512 .bf16) (harg3 : arg3.IsWhole) (arg4 : Memref sig .tc .vmem S1x8192x512 .bf16) (harg4 : arg4.IsWhole) (arg5 : Memref sig .tc .vmem S1x16x320x512 .bf16) (harg5 : arg5.IsWhole) (arg6 : Memref sig .tc .vmem S1x512x256 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole)
    (x0 : Vec F S1x512x512 .bf16) (x1 : Vec F S1x8192x512 .bf16) (x2 : Vec F S1x16x320x512 .bf16) : Vec F S1x512x256 .bf16 :=
  VO0_3.read (Elt F) (VO0_3.writes (Elt F) VO0_3.junk (pieces c i arg3 harg3 arg4 harg4 arg5 harg5 arg6 harg6 arg7 harg7 arg8 harg8 arg9 harg9 arg10 harg10 x0 x1 x2))

/-! ## What the outputs hold after each point -/

/-- What the outputs' staging buffers hold after the body at point `t`: the run's contents at
    the point's memrefs and input blocks. -/
def outsAt0 (c : Dev nD) (t : Fin cfg0.N) : Vec F S1x512x256 .bf16 :=
  out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t)

/-! ## The pipeline's proof data -/

/-- The proof data of the pipeline: each input block is kept, and the output block ends at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q _ := fullShare
  owed _ := 0

/-- The arrays of the proof data are the contents at region entry. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body starts from at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point turns `bodyPre` into `bodyPost`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  unfold out0_A_3
  unfold owns
  iintro ⟨⟨⟨HS0, ⟨%ds1, %fs1, -, HS1⟩, ⟨%ds2, %fs2, -, HS2⟩, ⟨%ds3, %fs3, -, HS3⟩⟩, Hg⟩, Ho, ⟨%d0, H0⟩, ⟨%d1, H1⟩, ⟨%d2, H2⟩, ⟨%d3, H3⟩⟩
  iapply ((bodyRun c (grid0.coords t) _ _ _ _ _ _ _ _ _ _ _ _ _ _ _ _ (iblk m c 0 t) (iblk m c 1 t) (iblk m c 2 t)).2 fs1 fs2 fs3 Set.univ _)
  isplitl [H0]; · unfold owns; iexact H0
  isplitl [H1]; · unfold owns; iexact H1
  isplitl [H2]; · unfold owns; iexact H2
  isplitl [H3]; · iexists _; unfold owns; iexact H3
  isplitl [HS0]; · iexact HS0
  isplitl [HS1]; · iexact HS1
  isplitl [HS2]; · iexact HS2
  isplitl [HS3]; · iexact HS3
  iintro ⟨H0, H1, H2, ⟨%e3, H3⟩, HS0, HS1, HS2, HS3⟩
  isplitl [HS0 HS1 HS2 HS3 Hg]
  · isplitl [HS0 HS1 HS2 HS3]
    · isplitl [HS0]
      · iexact HS0
      isplitl [HS1]
      · unfold owns; iexact HS1
      isplitl [HS2]
      · unfold owns; iexact HS2
      unfold owns; iexact HS3
    iexact Hg
  isplitl [Ho]; · iexact Ho
  isplitl [H0]; · unfold owns; iexact H0
  isplitl [H1]; · unfold owns; iexact H1
  isplitl [H2]; · unfold owns; iexact H2
  rw [bodyRun_pieces]
  iexists _; isplitr
  swap; · iexact H3
  ipureintro; exact View.read_writes_of_cover _ _ _ _ _ (cover0_A_3 c _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- So the pipeline's obligation on its body holds. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch ends with the arrays of the pipeline at the proof data and with every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- Every run ends, keeps the argument arrays, and leaves every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Attn

end
-- ==== Proof.Attn.Value.lean ====
module

public import proofs.«01_k».proof.Proof.Attn.Frame
public import Idealize.ShloMosaic.Lib.Pipeline.Value

@[expose] public section

noncomputable section

namespace Cert.KernelIdeal.Attn

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`outsAt0`), read through the window's block. -/
theorem flushed3 (c : Dev nD) (t : Fin cfg0.N) :
    (dats m 0 c).flushed 3 t = (cfg0.win 3).cut (grid0.coords t) (outsAt0 m c t) := by
  show (cfg0.win 3).cut (grid0.coords t) ((dats m 0 c).after 3 t) = _
  rw [after0_3]

/-- The same with the output spelled out. -/
theorem flushed3_A (c : Dev nD) (t : Fin cfg0.N) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t)) := by
  simp only [flushed3, outsAt0]

/-- The index map sends distinct grid points to distinct block indices (decided over the 128 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S4x8192x512.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v23) = (dats m 0 c).arrAt 3 cfg0.N :=
  (h c).1 3

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v23) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post3 m r h c,
      kept_main_arg0 m r h c,
      kept_main_arg1 m r h c,
      kept_main_arg2 m r h c,
      kept_main_arg3 m r h c,
      kept_main_arg4 m r h c⟩)
    (run_main m ρ)

end Cert.KernelIdeal.Attn

end
-- ==== Proof.Block.lean ====
/-
  One block of 512 keys of the attention body, read at an index: the scores, the running maximum and
  the rescaled sum, and how they extend the online softmax of Online.lean by 512 keys.
-/
module

public import proofs.«01_k».proof.Proof.Online
public import proofs.«01_k».proof.Proof.Gen.KernelIdeal.Skeleton
public import Idealize.ShloMosaic.Lib.Pointwise

@[expose] public section

set_option maxRecDepth 16384

noncomputable section

namespace Cert.KernelIdeal.Block

open Cert.KernelIdeal Cert.KernelIdeal.Gen Cert.Online Idealize.ShloMosaic Idealize.ShloMosaic.TcCoe

/-- The word of minus infinity. -/
theorem ofBits_negInf : Ideal.ofBits .f32 0xFF800000#32 = (⊥ : EReal) := by
  simp [Ideal.ofBits, Ideal.ieee]

/-- A score: the sum over 128 lanes of key times query. -/
theorem score_at (K Q : FVec Ideal S1x512x128 .bf16) (k x : Fin 512) :
    k0_pay2 (F := Ideal) K Q (ix2 k x) = ∑ l : Fin 128, K (ix3 0 k l) * Q (ix3 0 x l) := by
  pointwise [k0_pay2]

/-- The new maximum of a column: the old one against the block's scores. -/
theorem max_at (M : FVec Ideal S1x512 .f32) (S : FVec Ideal S512x512 .f32) (x : Fin 512) :
    k0_pay3 (F := Ideal) M S (ix2 0 x) = max (M (ix2 0 x)) (Finset.univ.sup fun k : Fin 512 => S (ix2 k x)) := by
  pointwise [k0_pay3]
  rw [ofBits_negInf]
  rfl

/-- The new sum of a column: the old one rescaled, plus the block's weighted values. -/
theorem acc_at (M : FVec Ideal S1x512 .f32) (A : FVec Ideal S80x512 .f32) (S : FVec Ideal S512x512 .f32)
    (V : FVec Ideal S1x1x80x512 .bf16) (d : Fin 80) (x : Fin 512) :
    k0_pay4 (F := Ideal) M A S V (ix2 d x)
      = wt (M (ix2 0 x)) (k0_pay3 (F := Ideal) M S (ix2 0 x)) * A (ix2 d x)
        + ∑ k : Fin 512, V (ix4 0 0 d k) * wt (S (ix2 k x)) (k0_pay3 (F := Ideal) M S (ix2 0 x)) := by
  pointwise [k0_pay4]
  rfl

/-- The running state of one head after its first `n` keys: per query the greatest score, and per value
    row the weighted sum. -/
def Inv (s : Fin 512 → ℕ → EReal) (v : Fin 80 → ℕ → EReal) (n : ℕ) (M : FVec Ideal S1x512 .f32)
    (A : FVec Ideal S80x512 .f32) : Prop :=
  (∀ x : Fin 512, M (ix2 0 x) = top (s x) n) ∧ ∀ (d : Fin 80) (x : Fin 512), A (ix2 d x) = acc (s x) (v d) n

/-- A block's scores and values extend the running state by its 512 keys. -/
theorem step (s : Fin 512 → ℕ → EReal) (v : Fin 80 → ℕ → EReal) (n : ℕ) (M : FVec Ideal S1x512 .f32)
    (A : FVec Ideal S80x512 .f32) (S : FVec Ideal S512x512 .f32) (V : FVec Ideal S1x1x80x512 .bf16)
    (h : Inv s v n M A) (hS : ∀ k x : Fin 512, S (ix2 k x) = s x (n + k.val))
    (hV : ∀ (d : Fin 80) (k : Fin 512), V (ix4 0 0 d k) = v d (n + k.val)) :
    Inv s v (n + 512) (k0_pay3 (F := Ideal) M S) (k0_pay4 (F := Ideal) M A S V) := by
  have hm : ∀ x : Fin 512, k0_pay3 (F := Ideal) M S (ix2 0 x) = top (s x) (n + 512) := fun x => by
    rw [max_at, h.1 x, top_add]
    congr 1
    unfold top
    apply le_antisymm
    · refine Finset.sup_le fun k _ => ?_
      rw [hS k x]
      exact Finset.le_sup (f := fun k => s x (n + k)) (Finset.mem_range.mpr k.isLt)
    · refine Finset.sup_le fun k hk => ?_
      have := Finset.le_sup (f := fun k : Fin 512 => S (ix2 k x)) (Finset.mem_univ ⟨k, Finset.mem_range.mp hk⟩)
      rwa [hS] at this
  refine ⟨hm, fun d x => ?_⟩
  rw [acc_at, hm x, h.1 x, h.2 d x, acc_add, Finset.sum_range]
  congr 1
  refine Finset.sum_congr rfl fun k _ => ?_
  rw [hV, hS]

end Cert.KernelIdeal.Block
end
-- ==== Proof.Attn.Cells.lean ====
/-
  The three input blocks of one grid point of the attention, as functions of a head, a lane or value row, and a key
  number; what a load of 512 keys or of a block of values reads; and where the loads of both loops lie.
-/
module

public import proofs.«01_k».proof.Proof.Block
public import proofs.«01_k».proof.Proof.Attn.Indep

@[expose] public section

set_option maxRecDepth 16384

noncomputable section

namespace Cert.KernelIdeal.Attn

open Cert.KernelIdeal Cert.KernelIdeal.Gen Cert.KernelIdeal.Block Cert.Online
open Idealize.ShloMosaic Idealize.ShloMosaic.TcCoe

/-- Lane `l` of head `hh` among the 512 lanes of four heads. -/
def lane (hh : Fin 4) (l : Fin 128) : Fin 512 := ⟨128 * hh.val + l.val, by omega⟩

/-- Value row `d` of head `hh` among the 320 value rows of four heads. -/
def row (hh : Fin 4) (d : Fin 80) : Fin 320 := ⟨80 * hh.val + d.val, by omega⟩

/-- Key `n` at lane `j`; zero past the 8192 keys. -/
def keyAt (x1 : Vec Ideal S1x8192x512 .bf16) (n : ℕ) (j : Fin 512) : EReal :=
  if h : n < 8192 then x1 (ix3 0 ⟨n, h⟩ j) else 0

/-- The score of key `n` for query `x` under head `hh`: the sum over 128 lanes of key times query. -/
def score (x0 : Vec Ideal S1x512x512 .bf16) (x1 : Vec Ideal S1x8192x512 .bf16) (hh : Fin 4) (x : Fin 512) (n : ℕ) : EReal :=
  ∑ l : Fin 128, keyAt x1 n (lane hh l) * x0 (ix3 0 x (lane hh l))

/-- The score with the keys behind the query masked out; the first query of the block has number `pos`. -/
def masked (pos : ℕ) (x0 : Vec Ideal S1x512x512 .bf16) (x1 : Vec Ideal S1x8192x512 .bf16) (hh : Fin 4) (x : Fin 512) (n : ℕ) : EReal :=
  if n ≤ pos + x.val then score x0 x1 hh x n else ⊥

/-- Row `d` of the value of key `n` under head `hh`; zero past the 8192 keys. -/
def value (x2 : Vec Ideal S1x16x320x512 .bf16) (hh : Fin 4) (d : Fin 80) (n : ℕ) : EReal :=
  if h : n < 8192 then x2 (ix4 0 ⟨n / 512, by omega⟩ (row hh d) ⟨n % 512, by omega⟩) else 0

/-- In blocks wholly before the queries nothing is masked. -/
theorem masked_before {pos n : ℕ} (x0 : Vec Ideal S1x512x512 .bf16) (x1 : Vec Ideal S1x8192x512 .bf16) (hh : Fin 4)
    (h : n + 512 ≤ pos) (x k : Fin 512) : masked pos x0 x1 hh x (n + k.val) = score x0 x1 hh x (n + k.val) :=
  if_pos (by omega)

variable {arg3 : Memref sig .tc .vmem S1x512x512 .bf16} (harg3 : arg3.IsWhole)
  {arg4 : Memref sig .tc .vmem S1x8192x512 .bf16} (harg4 : arg4.IsWhole)
  {arg5 : Memref sig .tc .vmem S1x16x320x512 .bf16} (harg5 : arg5.IsWhole)
  (x0 : Vec Ideal S1x512x512 .bf16) (x1 : Vec Ideal S1x8192x512 .bf16) (x2 : Vec Ideal S1x16x320x512 .bf16)

/-- A load of 512 queries at head `hh`'s lanes. -/
theorem query_load (hh : Fin 4) {off : Fin 3 → ℕ} (h : off = ![0, 0, 128 * hh.val]) (inb) (x : Fin 512) (l : Fin 128) :
    (View.readAt (Elt Ideal) arg3.view (Rect.unit (s := S1x512x512) off S1x512x128.size inb).toLoadRect (harg3.unread x0) : FVec Ideal S1x512x128 .bf16) (ix3 0 x l)
      = x0 (ix3 0 x (lane hh l)) := by
  subst h
  rw [View.readAt_unit _ _ _ rfl inb, harg3.read_unread]
  refine congrArg x0 (funext fun a => ?_)
  fin_cases a <;> apply Fin.ext <;> simp [VecWindow.window, Rect.emb, Rect.unit, ix3, lane]

/-- A load of 512 keys from key `n` on, at head `hh`'s lanes. -/
theorem key_load (hh : Fin 4) (n : ℕ) {off : Fin 3 → ℕ} (h : off = ![0, n, 128 * hh.val]) (inb) (k : Fin 512) (l : Fin 128) :
    (View.readAt (Elt Ideal) arg4.view (Rect.unit (s := S1x8192x512) off S1x512x128.size inb).toLoadRect (harg4.unread x1) : FVec Ideal S1x512x128 .bf16) (ix3 0 k l)
      = keyAt x1 (n + k.val) (lane hh l) := by
  subst h
  have hn : n + k.val < 8192 := by have : n + 512 ≤ 8192 := inb 1; omega
  rw [View.readAt_unit _ _ _ rfl inb, harg4.read_unread, keyAt, dif_pos hn]
  refine congrArg x1 (funext fun a => ?_)
  fin_cases a <;> apply Fin.ext <;> simp [VecWindow.window, Rect.emb, Rect.unit, ix3, lane]

/-- A load of block `j`'s values at head `hh`'s rows. -/
theorem value_load (hh : Fin 4) (j : ℕ) {off : Fin 4 → ℕ} (h : off = ![0, j, 80 * hh.val, 0]) (inb) (d : Fin 80) (k : Fin 512) :
    (View.readAt (Elt Ideal) arg5.view (Rect.unit (s := S1x16x320x512) off S1x1x80x512.size inb).toLoadRect (harg5.unread x2) : FVec Ideal S1x1x80x512 .bf16) (ix4 0 0 d k)
      = value x2 hh d (512 * j + k.val) := by
  subst h
  have hj : j + 1 ≤ 16 := inb 1
  have hn : 512 * j + k.val < 8192 := by omega
  rw [View.readAt_unit _ _ _ rfl inb, harg5.read_unread, value, dif_pos hn]
  refine congrArg x2 (funext fun a => ?_)
  fin_cases a <;> apply Fin.ext <;> simp [VecWindow.window, Rect.emb, Rect.unit, ix4, row] <;> omega

/-- The scores of two loads. -/
theorem score_load (hh : Fin 4) (n : ℕ) {off off' : Fin 3 → ℕ} (h : off = ![0, n, 128 * hh.val]) (h' : off' = ![0, 0, 128 * hh.val]) (inb inb')
    (k x : Fin 512) :
    k0_pay2 (F := Ideal) (View.readAt (Elt Ideal) arg4.view (Rect.unit (s := S1x8192x512) off S1x512x128.size inb).toLoadRect (harg4.unread x1))
        (View.readAt (Elt Ideal) arg3.view (Rect.unit (s := S1x512x512) off' S1x512x128.size inb').toLoadRect (harg3.unread x0)) (ix2 k x)
      = score x0 x1 hh x (n + k.val) := by
  rw [score_at]
  exact Finset.sum_congr rfl fun l _ => by rw [key_load harg4 x1 hh n h inb, query_load harg3 x0 hh h' inb']

/-- The scores of two loads, stored whole in a score buffer and read back whole. -/
theorem score_back (hh : Fin 4) (n : ℕ) {arg : Memref sig .tc .vmem S512x512 .f32} {off off' : Fin 3 → ℕ} (h : off = ![0, n, 128 * hh.val]) (h' : off' = ![0, 0, 128 * hh.val]) (inb inb' b b')
    (L : List (View.Piece (Elt Ideal) S512x512 .f32)) (k x : Fin 512) :
    (arg.view.readCov (⟨Rect.unit (s := S512x512) ![0, 0] S512x512.size b, k0_pay2 (F := Ideal) (View.readAt (Elt Ideal) arg4.view (Rect.unit (s := S1x8192x512) off S1x512x128.size inb).toLoadRect (harg4.unread x1))
        (View.readAt (Elt Ideal) arg3.view (Rect.unit (s := S1x512x512) off' S1x512x128.size inb').toLoadRect (harg3.unread x0))⟩ :: L)
      (Rect.unit (s := S512x512) ![0, 0] S512x512.size b').toLoadRect : FVec Ideal S512x512 .f32) (ix2 k x)
      = score x0 x1 hh x (n + k.val) := by
  rw [← score_load harg3 harg4 x0 x1 hh n h h' inb inb' k x]
  exact congrFun (View.readCov_full arg.view b' b _ L) (ix2 k x)

/-! Where the loads lie. -/

/-- The first loop makes `⌊q/4⌋` trips, for the `q`-th block of queries. -/
theorem trips1 : ∀ i : grid0.Coords, (k0_t1_loop i).trips = (i 2).val / 4 := by decide +kernel

/-- The third loop makes the remaining `q mod 4`. -/
theorem trips3 : ∀ i : grid0.Coords, (k0_t3_loop i).trips = (i 2).val % 4 := by decide +kernel

theorem off1 : ∀ (i : grid0.Coords) (k : Fin (k0_t1_loop i).trips) (r : Fin 4), k0_off1 i k (BitVec.ofNat 32 r.val) = ![0, 512 * (4 * k.val + r.val), 128] := by decide +kernel
theorem off3 : ∀ (i : grid0.Coords) (k : Fin (k0_t1_loop i).trips) (r : Fin 4), k0_off3 i k (BitVec.ofNat 32 r.val) = ![0, 512 * (4 * k.val + r.val), 256] := by decide +kernel
theorem off5 : ∀ (i : grid0.Coords) (k : Fin (k0_t1_loop i).trips) (r : Fin 4), k0_off5 i k (BitVec.ofNat 32 r.val) = ![0, 512 * (4 * k.val + r.val), 384] := by decide +kernel
theorem off7 : ∀ (i : grid0.Coords) (k : Fin (k0_t1_loop i).trips) (r : Fin 4), k0_off7 i k (BitVec.ofNat 32 r.val) = ![0, 512 * (4 * k.val + r.val + 1), 0] := by decide +kernel
theorem off2 : ∀ (i : grid0.Coords) (k : Fin (k0_t1_loop i).trips) (r : Fin 4), k0_off2 i k (BitVec.ofNat 32 r.val) = ![0, 4 * k.val + r.val, 0, 0] := by decide +kernel
theorem off4 : ∀ (i : grid0.Coords) (k : Fin (k0_t1_loop i).trips) (r : Fin 4), k0_off4 i k (BitVec.ofNat 32 r.val) = ![0, 4 * k.val + r.val, 80, 0] := by decide +kernel
theorem off6 : ∀ (i : grid0.Coords) (k : Fin (k0_t1_loop i).trips) (r : Fin 4), k0_off6 i k (BitVec.ofNat 32 r.val) = ![0, 4 * k.val + r.val, 160, 0] := by decide +kernel
theorem off8 : ∀ (i : grid0.Coords) (k : Fin (k0_t1_loop i).trips) (r : Fin 4), k0_off8 i k (BitVec.ofNat 32 r.val) = ![0, 4 * k.val + r.val, 240, 0] := by decide +kernel

theorem off17 : ∀ (i : grid0.Coords) (k : Fin (k0_t3_loop i).trips), k0_off17 i k = ![0, 512 * (4 * ((i 2).val / 4) + k.val), 128] := by decide +kernel
theorem off19 : ∀ (i : grid0.Coords) (k : Fin (k0_t3_loop i).trips), k0_off19 i k = ![0, 512 * (4 * ((i 2).val / 4) + k.val), 256] := by decide +kernel
theorem off21 : ∀ (i : grid0.Coords) (k : Fin (k0_t3_loop i).trips), k0_off21 i k = ![0, 512 * (4 * ((i 2).val / 4) + k.val), 384] := by decide +kernel
theorem off23 : ∀ (i : grid0.Coords) (k : Fin (k0_t3_loop i).trips), k0_off23 i k = ![0, 512 * (4 * ((i 2).val / 4) + k.val + 1), 0] := by decide +kernel
theorem off18 : ∀ (i : grid0.Coords) (k : Fin (k0_t3_loop i).trips), k0_off18 i k = ![0, 4 * ((i 2).val / 4) + k.val, 0, 0] := by decide +kernel
theorem off20 : ∀ (i : grid0.Coords) (k : Fin (k0_t3_loop i).trips), k0_off20 i k = ![0, 4 * ((i 2).val / 4) + k.val, 80, 0] := by decide +kernel
theorem off22 : ∀ (i : grid0.Coords) (k : Fin (k0_t3_loop i).trips), k0_off22 i k = ![0, 4 * ((i 2).val / 4) + k.val, 160, 0] := by decide +kernel
theorem off24 : ∀ (i : grid0.Coords) (k : Fin (k0_t3_loop i).trips), k0_off24 i k = ![0, 4 * ((i 2).val / 4) + k.val, 240, 0] := by decide +kernel

end Cert.KernelIdeal.Attn

end
-- ==== Proof.Attn.Blocks.lean ====
/-
  The loops of the attention body, one grid point: each trip extends the four heads' running states by its blocks of
  keys, and leaves the next block's scores for the first head in the first score buffer.
-/
module

public import proofs.«01_k».proof.Proof.Attn.Cells

@[expose] public section

set_option maxRecDepth 16384
set_option maxHeartbeats 1000000

noncomputable section

namespace Cert.KernelIdeal.Attn

open Cert.KernelIdeal Cert.KernelIdeal.Gen Cert.KernelIdeal.Block Cert.Online
open Idealize.ShloMosaic Idealize.ShloMosaic.TcCoe

/-- The four heads' running states after their first `n` keys. -/
def Good (s : Fin 4 → Fin 512 → ℕ → EReal) (v : Fin 4 → Fin 80 → ℕ → EReal) (n : ℕ) (a : Carried Ideal) : Prop :=
  Inv (s 0) (v 0) n a.1 a.2.1 ∧ Inv (s 1) (v 1) n a.2.2.1 a.2.2.2.1
    ∧ Inv (s 2) (v 2) n a.2.2.2.2.1 a.2.2.2.2.2.1 ∧ Inv (s 3) (v 3) n a.2.2.2.2.2.2.1 a.2.2.2.2.2.2.2

variable (c : Dev nD) (i : grid0.Coords) (arg3 : Memref sig .tc .vmem S1x512x512 .bf16) (harg3 : arg3.IsWhole)
  (arg4 : Memref sig .tc .vmem S1x8192x512 .bf16) (harg4 : arg4.IsWhole)
  (arg5 : Memref sig .tc .vmem S1x16x320x512 .bf16) (harg5 : arg5.IsWhole)
  (arg6 : Memref sig .tc .vmem S1x512x256 .bf16) (harg6 : arg6.IsWhole)
  (arg7 : Memref sig .tc .vmem S512x512 .f32) (harg7 : arg7.IsWhole)
  (arg8 : Memref sig .tc .vmem S512x512 .f32) (harg8 : arg8.IsWhole)
  (arg9 : Memref sig .tc .vmem S512x512 .f32) (harg9 : arg9.IsWhole)
  (arg10 : Memref sig .tc .vmem S512x512 .f32) (harg10 : arg10.IsWhole)
  (x0 : Vec Ideal S1x512x512 .bf16) (x1 : Vec Ideal S1x8192x512 .bf16) (x2 : Vec Ideal S1x16x320x512 .bf16)

/-- A first score buffer reading the first head's scores of the 512 keys from key `n` on. -/
def Ready (n : ℕ) (f : arg7.view.ty.Contents (Elt Ideal)) : Prop :=
  ∀ k x : Fin 512, (arg7.view.readAt (Elt Ideal) (Rect.unit (s := S512x512) ![0, 0] S512x512.size inb_S512x512_S512x512_0_0).toLoadRect f : FVec Ideal S512x512 .f32) (ix2 k x) = score x0 x1 0 x (n + k.val)

include harg7 in
/-- A first score buffer whose last write covered it, with the scores of two loads, is ready. -/
theorem ready_writes (n : ℕ) {off off' : Fin 3 → ℕ} (h : off = ![0, n, 128 * (0 : Fin 4).val]) (h' : off' = ![0, 0, 128 * (0 : Fin 4).val]) (inb inb' b)
    (L : List (View.Piece (Elt Ideal) S512x512 .f32)) (f : arg7.view.ty.Contents (Elt Ideal)) :
    Ready arg7 x0 x1 n (arg7.view.writes (Elt Ideal) f (⟨Rect.unit (s := S512x512) ![0, 0] S512x512.size b, k0_pay2 (F := Ideal) (View.readAt (Elt Ideal) arg4.view (Rect.unit (s := S1x8192x512) off S1x512x128.size inb).toLoadRect (harg4.unread x1))
        (View.readAt (Elt Ideal) arg3.view (Rect.unit (s := S1x512x512) off' S1x512x128.size inb').toLoadRect (harg3.unread x0))⟩ :: L)) := by
  intro k x
  rw [← score_load harg3 harg4 x0 x1 0 n h h' inb inb' k x]
  exact congrFun (View.readAt_writes_full arg7.view f _ b _ L) (ix2 k x)

/-- One block before the queries extends one head. -/
theorem block_step {pos : ℕ} (hh : Fin 4) (j : ℕ) (M : FVec Ideal S1x512 .f32) (A : FVec Ideal S80x512 .f32) (S : FVec Ideal S512x512 .f32) (V : FVec Ideal S1x1x80x512 .bf16)
    (hp : 512 * (j + 1) ≤ pos) (h : Inv (masked pos x0 x1 hh) (value x2 hh) (512 * j) M A)
    (hS : ∀ k x : Fin 512, S (ix2 k x) = score x0 x1 hh x (512 * j + k.val))
    (hV : ∀ (d : Fin 80) (k : Fin 512), V (ix4 0 0 d k) = value x2 hh d (512 * j + k.val)) :
    Inv (masked pos x0 x1 hh) (value x2 hh) (512 * (j + 1)) (k0_pay3 (F := Ideal) M S) (k0_pay4 (F := Ideal) M A S V) :=
  step _ _ (512 * j) M A S V h (fun k x => by rw [masked_before x0 x1 hh (by omega)]; exact hS k x) hV

/-- A trip of the third loop extends the four heads by one block. -/
theorem ones_trip (s0 s1 s2 : BitVec 32) (w : Carried Ideal) (k : Fin (k0_t3_loop i).trips) (acc : Carried Ideal) (f7 : arg7.view.ty.Contents (Elt Ideal)) (f8 : arg8.view.ty.Contents (Elt Ideal))
    (f9 : arg9.view.ty.Contents (Elt Ideal)) (f10 : arg10.view.ty.Contents (Elt Ideal)) (pos : ℕ) (hp : 512 * (4 * ((i 2).val / 4) + k.val + 1) ≤ pos)
    (h : Good (masked pos x0 x1) (value x2) (512 * (4 * ((i 2).val / 4) + k.val)) acc)
    (h7 : Ready arg7 x0 x1 (512 * (4 * ((i 2).val / 4) + k.val)) f7) :
    Good (masked pos x0 x1) (value x2) (512 * (4 * ((i 2).val / 4) + k.val + 1))
        (tripR_k0_t3 Variants.none c none i arg3 harg3 arg4 harg4 arg5 harg5 arg6 harg6 arg7 harg7 arg8 harg8 arg9 harg9 arg10 harg10 s0 s1 w.1 w.2.1 w.2.2.1 w.2.2.2.1 w.2.2.2.2.1 w.2.2.2.2.2.1 w.2.2.2.2.2.2.1 w.2.2.2.2.2.2.2 s2 (harg3.unread x0) (harg4.unread x1) (harg5.unread x2) k acc f7 f8 f9 f10)
      ∧ Ready arg7 x0 x1 (512 * (4 * ((i 2).val / 4) + k.val + 1)) (arg7.view.writes (Elt Ideal) f7
        (tripL_k0_t3 Variants.none c none i arg3 harg3 arg4 harg4 arg5 harg5 arg6 harg6 arg7 harg7 arg8 harg8 arg9 harg9 arg10 harg10 s0 s1 w.1 w.2.1 w.2.2.1 w.2.2.2.1 w.2.2.2.2.1 w.2.2.2.2.2.1 w.2.2.2.2.2.2.1 w.2.2.2.2.2.2.2 s2 (harg3.unread x0) (harg4.unread x1) (harg5.unread x2) k acc f7 f8 f9 f10).1) := by
  unfold tripR_k0_t3 tripL_k0_t3 trip_k0_t3
  dsimp only
  refine ⟨⟨?_, ?_, ?_, ?_⟩, ?_⟩
  · exact block_step x0 x1 x2 0 _ _ _ _ _ hp h.1 h7 (value_load harg5 x2 0 _ (off18 i k) _)
  · exact block_step x0 x1 x2 1 _ _ _ _ _ hp h.2.1 (score_back harg3 harg4 x0 x1 1 _ (off17 i k) rfl _ _ _ _ _) (value_load harg5 x2 1 _ (off20 i k) _)
  · exact block_step x0 x1 x2 2 _ _ _ _ _ hp h.2.2.1 (score_back harg3 harg4 x0 x1 2 _ (off19 i k) rfl _ _ _ _ _) (value_load harg5 x2 2 _ (off22 i k) _)
  · exact block_step x0 x1 x2 3 _ _ _ _ _ hp h.2.2.2 (score_back harg3 harg4 x0 x1 3 _ (off21 i k) rfl _ _ _ _ _) (value_load harg5 x2 3 _ (off24 i k) _)
  · exact ready_writes arg3 harg3 arg4 harg4 arg7 harg7 x0 x1 _ (off23 i k) rfl _ _ _ _ _

/-- A trip of the first loop extends the four heads by four blocks. -/
theorem fours_trip (k : Fin (k0_t1_loop i).trips) (acc : Carried Ideal) (f7 : arg7.view.ty.Contents (Elt Ideal)) (f8 : arg8.view.ty.Contents (Elt Ideal))
    (f9 : arg9.view.ty.Contents (Elt Ideal)) (f10 : arg10.view.ty.Contents (Elt Ideal)) (pos : ℕ) (hp : 512 * (4 * k.val + 4) ≤ pos)
    (h : Good (masked pos x0 x1) (value x2) (512 * (4 * k.val)) acc) (h7 : Ready arg7 x0 x1 (512 * (4 * k.val)) f7) :
    Good (masked pos x0 x1) (value x2) (512 * (4 * k.val + 4))
        (tripR_k0_t1 Variants.none c none i arg3 harg3 arg4 harg4 arg5 harg5 arg6 harg6 arg7 harg7 arg8 harg8 arg9 harg9 arg10 harg10 (harg3.unread x0) (harg4.unread x1) (harg5.unread x2) k acc f7 f8 f9 f10)
      ∧ Ready arg7 x0 x1 (512 * (4 * k.val + 4)) (arg7.view.writes (Elt Ideal) f7
        (tripL_k0_t1 Variants.none c none i arg3 harg3 arg4 harg4 arg5 harg5 arg6 harg6 arg7 harg7 arg8 harg8 arg9 harg9 arg10 harg10 (harg3.unread x0) (harg4.unread x1) (harg5.unread x2) k acc f7 f8 f9 f10).1) := by
  unfold tripR_k0_t1 tripL_k0_t1 trip_k0_t1
  dsimp only
  refine ⟨⟨?_, ?_, ?_, ?_⟩, ?_⟩
  · exact block_step x0 x1 x2 0 (4 * k.val + 3) _ _ _ _ (by omega)
      (block_step x0 x1 x2 0 (4 * k.val + 2) _ _ _ _ (by omega)
      (block_step x0 x1 x2 0 (4 * k.val + 1) _ _ _ _ (by omega)
      (block_step x0 x1 x2 0 (4 * k.val) _ _ _ _ (by omega) h.1 h7 (value_load harg5 x2 0 _ (off2 i k 0) _)) (score_back harg3 harg4 x0 x1 0 _ (off7 i k 0) rfl _ _ _ _ _) (value_load harg5 x2 0 _ (off2 i k 1) _)) (score_back harg3 harg4 x0 x1 0 _ (off7 i k 1) rfl _ _ _ _ _) (value_load harg5 x2 0 _ (off2 i k 2) _)) (score_back harg3 harg4 x0 x1 0 _ (off7 i k 2) rfl _ _ _ _ _) (value_load harg5 x2 0 _ (off2 i k 3) _)
  · exact block_step x0 x1 x2 1 (4 * k.val + 3) _ _ _ _ (by omega)
      (block_step x0 x1 x2 1 (4 * k.val + 2) _ _ _ _ (by omega)
      (block_step x0 x1 x2 1 (4 * k.val + 1) _ _ _ _ (by omega)
      (block_step x0 x1 x2 1 (4 * k.val) _ _ _ _ (by omega) h.2.1 (score_back harg3 harg4 x0 x1 1 _ (off1 i k 0) rfl _ _ _ _ _) (value_load harg5 x2 1 _ (off4 i k 0) _)) (score_back harg3 harg4 x0 x1 1 _ (off1 i k 1) rfl _ _ _ _ _) (value_load harg5 x2 1 _ (off4 i k 1) _)) (score_back harg3 harg4 x0 x1 1 _ (off1 i k 2) rfl _ _ _ _ _) (value_load harg5 x2 1 _ (off4 i k 2) _)) (score_back harg3 harg4 x0 x1 1 _ (off1 i k 3) rfl _ _ _ _ _) (value_load harg5 x2 1 _ (off4 i k 3) _)
  · exact block_step x0 x1 x2 2 (4 * k.val + 3) _ _ _ _ (by omega)
      (block_step x0 x1 x2 2 (4 * k.val + 2) _ _ _ _ (by omega)
      (block_step x0 x1 x2 2 (4 * k.val + 1) _ _ _ _ (by omega)
      (block_step x0 x1 x2 2 (4 * k.val) _ _ _ _ (by omega) h.2.2.1 (score_back harg3 harg4 x0 x1 2 _ (off3 i k 0) rfl _ _ _ _ _) (value_load harg5 x2 2 _ (off6 i k 0) _)) (score_back harg3 harg4 x0 x1 2 _ (off3 i k 1) rfl _ _ _ _ _) (value_load harg5 x2 2 _ (off6 i k 1) _)) (score_back harg3 harg4 x0 x1 2 _ (off3 i k 2) rfl _ _ _ _ _) (value_load harg5 x2 2 _ (off6 i k 2) _)) (score_back harg3 harg4 x0 x1 2 _ (off3 i k 3) rfl _ _ _ _ _) (value_load harg5 x2 2 _ (off6 i k 3) _)
  · exact block_step x0 x1 x2 3 (4 * k.val + 3) _ _ _ _ (by omega)
      (block_step x0 x1 x2 3 (4 * k.val + 2) _ _ _ _ (by omega)
      (block_step x0 x1 x2 3 (4 * k.val + 1) _ _ _ _ (by omega)
      (block_step x0 x1 x2 3 (4 * k.val) _ _ _ _ (by omega) h.2.2.2 (score_back harg3 harg4 x0 x1 3 _ (off5 i k 0) rfl _ _ _ _ _) (value_load harg5 x2 3 _ (off8 i k 0) _)) (score_back harg3 harg4 x0 x1 3 _ (off5 i k 1) rfl _ _ _ _ _) (value_load harg5 x2 3 _ (off8 i k 1) _)) (score_back harg3 harg4 x0 x1 3 _ (off5 i k 2) rfl _ _ _ _ _) (value_load harg5 x2 3 _ (off8 i k 2) _)) (score_back harg3 harg4 x0 x1 3 _ (off5 i k 3) rfl _ _ _ _ _) (value_load harg5 x2 3 _ (off8 i k 3) _)
  · exact ready_writes arg3 harg3 arg4 harg4 arg7 harg7 x0 x1 _ (off7 i k 3) rfl _ _ _ _ _

end Cert.KernelIdeal.Attn

end
-- ==== Proof.Attn.Result.lean ====
/-
  The attention body, one grid point: the loops leave the four heads' running states after all blocks before the
  queries, the diagonal block is added with the keys behind each query masked out, and the block stored is each head's
  weighted sums over its sum of weights.
-/
module

public import proofs.«01_k».proof.Proof.Attn.Blocks

@[expose] public section

set_option maxRecDepth 16384
set_option maxHeartbeats 1000000

noncomputable section

namespace Cert.KernelIdeal.Attn

open Cert.KernelIdeal Cert.KernelIdeal.Gen Cert.KernelIdeal.Block Cert.Online
open Idealize.ShloMosaic Idealize.ShloMosaic.TcCoe

/-- The mask's value over the extended reals. -/
theorem mask_eq : (Named.named κ "mask" 0xF149F2CA#32 : Ideal .f32) = (⊥ : EReal) := rfl

/-- The maxima before any key. -/
theorem init_max (x : Fin 512) : k0_pay156 (F := Ideal) (ix2 0 x) = ⊥ := by
  pointwise [k0_pay156]
  exact mask_eq

/-- The sums before any key. -/
theorem init_acc (d : Fin 80) (x : Fin 512) : k0_pay157 (F := Ideal) (ix2 d x) = 0 := by
  pointwise [k0_pay157]

/-- The running states before any key. -/
theorem init_inv (s : Fin 512 → ℕ → EReal) (v : Fin 80 → ℕ → EReal) : Inv s v 0 (k0_pay156 (F := Ideal)) (k0_pay157 (F := Ideal)) :=
  ⟨fun x => init_max x, fun d x => init_acc d x⟩

/-- The diagonal block's scores with the keys behind the query masked out. -/
theorem diag_at (S : FVec Ideal S512x512 .f32) (k x : Fin 512) :
    k0_pay168 (F := Ideal) S (ix2 k x) = if k.val ≤ x.val then S (ix2 k x) else ⊥ := by
  pointwise [k0_pay168]
  have hc : IntOp.cmpi CmpIPredicate.sle (BitVec.ofNat 32 k.val) (BitVec.ofNat 32 x.val) = BitVec.ofBool (decide (k.val ≤ x.val)) := by
    have hk : (BitVec.ofNat 32 k.val).toInt = k.val := by
      rw [BitVec.toInt_eq_toNat_of_lt (by rw [BitVec.toNat_ofNat]; omega), BitVec.toNat_ofNat]; omega
    have hx : (BitVec.ofNat 32 x.val).toInt = x.val := by
      rw [BitVec.toInt_eq_toNat_of_lt (by rw [BitVec.toNat_ofNat]; omega), BitVec.toNat_ofNat]; omega
    simp [IntOp.cmpi, BitVec.sle, hk, hx]
  rw [hc, mask_eq]
  by_cases h : k.val ≤ x.val
  · rw [if_pos h, decide_eq_true h]; rfl
  · rw [if_neg h, decide_eq_false h]; rfl

/-- Four heads' sums as the body stores them: rows 0 to 63 over row 64, the heads one after another, queries first. -/
def quotients (O0 O1 O2 O3 : FVec Ideal S80x512 .f32) : FVec Ideal S512x256 .bf16 :=
  let q := fun O : FVec Ideal S80x512 .f32 => divf (extractStridedSlice S64x512 ![0, 0] O slices_S80x512_o0_0_S64x512)
    (broadcastTo S64x512 (extractStridedSlice S1x512 ![64, 0] O slices_S80x512_o64_0_S1x512) broadcasts_S1x512_S64x512)
  truncf .bf16 (transpose S512x256 [1, 0] (concatenate S256x512 0 [⟨S64x512, q O0⟩, ⟨S64x512, q O1⟩, ⟨S64x512, q O2⟩, ⟨S64x512, q O3⟩]
    concatenates_S64x512_S64x512_S64x512_S64x512_S256x512_d0) transposes_S256x512_p1_0_S512x256) bitsLt_bf16_f32

/-- A stored entry: head `hh`'s row `d` over its row 64. -/
theorem quotients_at (O : Fin 4 → FVec Ideal S80x512 .f32) (x : Fin 512) (hh : Fin 4) (d : Fin 64) :
    quotients (O 0) (O 1) (O 2) (O 3) (ix2 x ⟨64 * hh.val + d.val, by omega⟩)
      = Ideal.div (O hh (ix2 ⟨d.val, by omega⟩ x)) (O hh (ix2 64 x)) := by
  pointwise [quotients]
  have hd := d.isLt
  fin_cases hh
  · rw [dif_pos (by simp)]; simp
  · rw [dif_neg (by simp), dif_pos (by simp)]; simp
  · rw [dif_neg (by simp; omega), dif_neg (by simp; omega), dif_pos (by simp; omega)]
    have : 64 * 2 + d.val - 64 - 64 = d.val := by omega
    simp [this]
  · rw [dif_neg (by simp; omega), dif_neg (by simp; omega), dif_neg (by simp; omega)]
    have : 64 * 3 + d.val - 64 - 64 - 64 = d.val := by omega
    simp [this]

variable (c : Dev nD) (i : grid0.Coords) (arg3 : Memref sig .tc .vmem S1x512x512 .bf16) (harg3 : arg3.IsWhole)
  (arg4 : Memref sig .tc .vmem S1x8192x512 .bf16) (harg4 : arg4.IsWhole)
  (arg5 : Memref sig .tc .vmem S1x16x320x512 .bf16) (harg5 : arg5.IsWhole)
  (arg6 : Memref sig .tc .vmem S1x512x256 .bf16) (harg6 : arg6.IsWhole)
  (arg7 : Memref sig .tc .vmem S512x512 .f32) (harg7 : arg7.IsWhole)
  (arg8 : Memref sig .tc .vmem S512x512 .f32) (harg8 : arg8.IsWhole)
  (arg9 : Memref sig .tc .vmem S512x512 .f32) (harg9 : arg9.IsWhole)
  (arg10 : Memref sig .tc .vmem S512x512 .f32) (harg10 : arg10.IsWhole)
  (x0 : Vec Ideal S1x512x512 .bf16) (x1 : Vec Ideal S1x8192x512 .bf16) (x2 : Vec Ideal S1x16x320x512 .bf16)

/-- The first loop: after `k` trips the running states after `4k` blocks, the next block's scores ready. -/
theorem fours_inv (G7 : arg7.view.ty.Contents (Elt Ideal)) (h7 : Ready arg7 x0 x1 0 G7) : ∀ k ≤ (i 2).val / 4,
    Good (masked (512 * (i 2).val) x0 x1) (value x2) (512 * (4 * k))
        (fours c i arg3 harg3 arg4 harg4 arg5 harg5 arg6 harg6 arg7 harg7 arg8 harg8 arg9 harg9 arg10 harg10 (harg3.unread x0) (harg4.unread x1) (harg5.unread x2) G7 (k0_pay156, k0_pay157, k0_pay156, k0_pay157, k0_pay156, k0_pay157, k0_pay156, k0_pay157) k).1
      ∧ Ready arg7 x0 x1 (512 * (4 * k)) (arg7.view.writes (Elt Ideal) G7
        (fours c i arg3 harg3 arg4 harg4 arg5 harg5 arg6 harg6 arg7 harg7 arg8 harg8 arg9 harg9 arg10 harg10 (harg3.unread x0) (harg4.unread x1) (harg5.unread x2) G7 (k0_pay156, k0_pay157, k0_pay156, k0_pay157, k0_pay156, k0_pay157, k0_pay156, k0_pay157) k).2.1)
  | 0, _ => ⟨⟨init_inv _ _, init_inv _ _, init_inv _ _, init_inv _ _⟩, h7⟩
  | k + 1, hk => by
    obtain ⟨h, h7'⟩ := fours_inv G7 h7 k (by omega)
    have hk' : k < (k0_t1_loop i).trips := by rw [trips1]; omega
    unfold fours
    rw [show k + 1 = (⟨k, hk'⟩ : Fin (k0_t1_loop i).trips).val + 1 from rfl, st_k0_t1_succ, View.writes_append]
    exact fours_trip c i arg3 harg3 arg4 harg4 arg5 harg5 arg6 harg6 arg7 harg7 arg8 harg8 arg9 harg9 arg10 harg10 x0 x1 x2 ⟨k, hk'⟩ _ _ _ _ _ (512 * (i 2).val) (by show 512 * (4 * k + 4) ≤ _; omega) h h7'

/-- The third loop: after `k` trips the running states after `4⌊q/4⌋ + k` blocks, the next block's scores ready. -/
theorem ones_inv (G7 : arg7.view.ty.Contents (Elt Ideal)) (init : Carried Ideal) (h0 : Good (masked (512 * (i 2).val) x0 x1) (value x2) (512 * (4 * ((i 2).val / 4))) init)
    (h7 : Ready arg7 x0 x1 (512 * (4 * ((i 2).val / 4))) G7) : ∀ k ≤ (i 2).val % 4,
    Good (masked (512 * (i 2).val) x0 x1) (value x2) (512 * (4 * ((i 2).val / 4) + k))
        (ones c i arg3 harg3 arg4 harg4 arg5 harg5 arg6 harg6 arg7 harg7 arg8 harg8 arg9 harg9 arg10 harg10 (harg3.unread x0) (harg4.unread x1) (harg5.unread x2) G7 init k).1
      ∧ Ready arg7 x0 x1 (512 * (4 * ((i 2).val / 4) + k)) (arg7.view.writes (Elt Ideal) G7
        (ones c i arg3 harg3 arg4 harg4 arg5 harg5 arg6 harg6 arg7 harg7 arg8 harg8 arg9 harg9 arg10 harg10 (harg3.unread x0) (harg4.unread x1) (harg5.unread x2) G7 init k).2.1)
  | 0, _ => ⟨h0, h7⟩
  | k + 1, hk => by
    obtain ⟨h, h7'⟩ := ones_inv G7 init h0 h7 k (by omega)
    have hk' : k < (k0_t3_loop i).trips := by rw [trips3]; omega
    unfold ones
    rw [show k + 1 = (⟨k, hk'⟩ : Fin (k0_t3_loop i).trips).val + 1 from rfl, st_k0_t3_succ, View.writes_append]
    exact ones_trip c i arg3 harg3 arg4 harg4 arg5 harg5 arg6 harg6 arg7 harg7 arg8 harg8 arg9 harg9 arg10 harg10 x0 x1 x2 _ _ _ init ⟨k, hk'⟩ _ _ _ _ _ (512 * (i 2).val) (by show 512 * (4 * ((i 2).val / 4) + k + 1) ≤ _; omega) h h7'

/-- The first score buffer before the loops holds the first block's scores. -/
theorem first_ready : Ready arg7 x0 x1 0 (arg7.view.writes (Elt Ideal) arg7.view.junk (first c i arg3 harg3 arg4 harg4 arg5 harg5 arg6 harg6 arg7 harg7 arg8 harg8 arg9 harg9 arg10 harg10 x0 x1)) :=
  ready_writes arg3 harg3 arg4 harg4 arg7 harg7 x0 x1 0 rfl rfl _ _ _ _ _

/-- The running states after the first loop, and the next block's scores. -/
theorem afterFours_inv :
    Good (masked (512 * (i 2).val) x0 x1) (value x2) (512 * (4 * ((i 2).val / 4))) (afterFours c i arg3 harg3 arg4 harg4 arg5 harg5 arg6 harg6 arg7 harg7 arg8 harg8 arg9 harg9 arg10 harg10 x0 x1 x2).1
      ∧ Ready arg7 x0 x1 (512 * (4 * ((i 2).val / 4))) (arg7.view.writes (Elt Ideal) arg7.view.junk ((afterFours c i arg3 harg3 arg4 harg4 arg5 harg5 arg6 harg6 arg7 harg7 arg8 harg8 arg9 harg9 arg10 harg10 x0 x1 x2).2.1 ++ first c i arg3 harg3 arg4 harg4 arg5 harg5 arg6 harg6 arg7 harg7 arg8 harg8 arg9 harg9 arg10 harg10 x0 x1)) := by
  rw [View.writes_append]
  unfold afterFours
  rw [show Scf.trips (k0_t1_loop i).lb (k0_t1_loop i).ub (k0_t1_loop i).st = (i 2).val / 4 from trips1 i]
  exact fours_inv c i arg3 harg3 arg4 harg4 arg5 harg5 arg6 harg6 arg7 harg7 arg8 harg8 arg9 harg9 arg10 harg10 x0 x1 x2 _ (first_ready c i arg3 harg3 arg4 harg4 arg5 harg5 arg6 harg6 arg7 harg7 arg8 harg8 arg9 harg9 arg10 harg10 x0 x1) _ le_rfl

/-- The running states after both loops, and the diagonal block's scores. -/
theorem afterOnes_inv :
    Good (masked (512 * (i 2).val) x0 x1) (value x2) (512 * (i 2).val) (afterOnes c i arg3 harg3 arg4 harg4 arg5 harg5 arg6 harg6 arg7 harg7 arg8 harg8 arg9 harg9 arg10 harg10 x0 x1 x2).1
      ∧ ∀ k x : Fin 512, diag0 c i arg3 harg3 arg4 harg4 arg5 harg5 arg6 harg6 arg7 harg7 arg8 harg8 arg9 harg9 arg10 harg10 x0 x1 x2 (ix2 k x) = score x0 x1 0 x (512 * (i 2).val + k.val) := by
  have h := afterFours_inv c i arg3 harg3 arg4 harg4 arg5 harg5 arg6 harg6 arg7 harg7 arg8 harg8 arg9 harg9 arg10 harg10 x0 x1 x2
  have h' := ones_inv c i arg3 harg3 arg4 harg4 arg5 harg5 arg6 harg6 arg7 harg7 arg8 harg8 arg9 harg9 arg10 harg10 x0 x1 x2 _ _ h.1 h.2 ((i 2).val % 4) le_rfl
  rw [Nat.div_add_mod, ← trips3 i, ← View.writes_append] at h'
  exact h'

/-- The diagonal block extends one head. -/
theorem diag_step (q : ℕ) (hh : Fin 4) (M : FVec Ideal S1x512 .f32) (A : FVec Ideal S80x512 .f32) (S : FVec Ideal S512x512 .f32) (V : FVec Ideal S1x1x80x512 .bf16)
    (h : Inv (masked (512 * q) x0 x1 hh) (value x2 hh) (512 * q) M A)
    (hS : ∀ k x : Fin 512, S (ix2 k x) = score x0 x1 hh x (512 * q + k.val))
    (hV : ∀ (d : Fin 80) (k : Fin 512), V (ix4 0 0 d k) = value x2 hh d (512 * q + k.val)) :
    Inv (masked (512 * q) x0 x1 hh) (value x2 hh) (512 * (q + 1)) (k0_pay3 (F := Ideal) M (k0_pay168 S)) (k0_pay4 (F := Ideal) M A (k0_pay168 S) V) := by
  refine step _ _ (512 * q) M A _ V h (fun k x => ?_) hV
  rw [diag_at, hS, masked]
  exact if_congr (by omega) rfl rfl

/-- A stored entry of four heads whose running states are given. -/
theorem heads_at (s : Fin 4 → Fin 512 → ℕ → EReal) (v : Fin 4 → Fin 80 → ℕ → EReal) (n : ℕ) {M0 M1 M2 M3 : FVec Ideal S1x512 .f32} {A0 A1 A2 A3 : FVec Ideal S80x512 .f32}
    (h0 : Inv (s 0) (v 0) n M0 A0) (h1 : Inv (s 1) (v 1) n M1 A1) (h2 : Inv (s 2) (v 2) n M2 A2) (h3 : Inv (s 3) (v 3) n M3 A3)
    (x : Fin 512) (hh : Fin 4) (d : Fin 64) :
    quotients A0 A1 A2 A3 (ix2 x ⟨64 * hh.val + d.val, by omega⟩)
      = Ideal.div (acc (s hh x) (v hh ⟨d.val, by omega⟩) n) (acc (s hh x) (v hh 64) n) := by
  have hO : ∀ (hh : Fin 4) (d : Fin 80) (x : Fin 512), ![A0, A1, A2, A3] hh (ix2 d x) = acc (s hh x) (v hh d) n := by
    intro hh
    fin_cases hh
    exacts [h0.2, h1.2, h2.2, h3.2]
  refine (quotients_at ![A0, A1, A2, A3] x hh d).trans ?_
  rw [hO, hO]

/-- A stored entry: the head's weighted sum of value row `d` over its row 64, over all keys up to the query's block. -/
theorem result_at (x : Fin 512) (hh : Fin 4) (d : Fin 64) :
    result c i arg3 harg3 arg4 harg4 arg5 harg5 arg6 harg6 arg7 harg7 arg8 harg8 arg9 harg9 arg10 harg10 x0 x1 x2 (ix2 x ⟨64 * hh.val + d.val, by omega⟩)
      = Ideal.div (acc (masked (512 * (i 2).val) x0 x1 hh x) (value x2 hh ⟨d.val, by omega⟩) (512 * ((i 2).val + 1)))
          (acc (masked (512 * (i 2).val) x0 x1 hh x) (value x2 hh 64) (512 * ((i 2).val + 1))) := by
  obtain ⟨⟨g0, g1, g2, g3⟩, hd0⟩ := afterOnes_inv c i arg3 harg3 arg4 harg4 arg5 harg5 arg6 harg6 arg7 harg7 arg8 harg8 arg9 harg9 arg10 harg10 x0 x1 x2
  have s0 := diag_step x0 x1 x2 (i 2).val 0 _ _ _ _ g0 hd0 (value_load harg5 x2 0 _ (k0_off34_eq i) (k0_off34_inb i))
  have s1 := diag_step x0 x1 x2 (i 2).val 1 _ _ _ _ g1 (score_load harg3 harg4 x0 x1 1 _ (k0_off33_eq i) (off' := ![0, 0, 128]) rfl (k0_off33_inb i) inb_S1x512x512_S1x512x128_0_0_128) (value_load harg5 x2 1 _ (k0_off36_eq i) (k0_off36_inb i))
  have s2 := diag_step x0 x1 x2 (i 2).val 2 _ _ _ _ g2 (score_load harg3 harg4 x0 x1 2 _ (k0_off35_eq i) (off' := ![0, 0, 256]) rfl (k0_off35_inb i) inb_S1x512x512_S1x512x128_0_0_256) (value_load harg5 x2 2 _ (k0_off38_eq i) (k0_off38_inb i))
  have s3 := diag_step x0 x1 x2 (i 2).val 3 _ _ _ _ g3 (score_load harg3 harg4 x0 x1 3 _ (k0_off37_eq i) (off' := ![0, 0, 384]) rfl (k0_off37_inb i) inb_S1x512x512_S1x512x128_0_0_384) (value_load harg5 x2 3 _ (k0_off39_eq i) (k0_off39_inb i))
  exact heads_at _ _ _ s0 s1 s2 s3 x hh d

end Cert.KernelIdeal.Attn

end
-- ==== Proof.Attn.Entry.lean ====
/-
  What the attention call is given: the queries scaled and padded to 128 lanes a head, the keys padded alike, the values
  transposed by blocks with rows of ones; and what each grid point's three blocks of them hold.
-/
module

public import proofs.«01_k».proof.Proof.Attn.Value
public import proofs.«01_k».proof.Proof.Attn.Result
public import Idealize.ShloMosaic.Lib.Pipeline.ValueKit
public import Idealize.ShloMosaic.Lib.Claim

@[expose] public section
set_option maxRecDepth 16384
noncomputable section
namespace Cert.KernelIdeal.Attn
open Cert.KernelIdeal Cert.KernelIdeal.Gen Cert.KernelIdeal.Block Cert.Online
open Idealize.ShloMosaic Idealize.ShloMosaic.TcCoe Idealize.ShloMosaic.StableHlo

variable (m : (ℓ : Loc nD τ sig) → Buf (Elt Ideal) ℓ) (c : Dev nD)

/-- The factor of the queries: one over the root of 96, over the logarithm of 2. -/
def scale2 : FVec Ideal S_ .f32 :=
  Host.divf (Host.divf (constant S_ .f32 0x3F800000#32) (Host.sqrt (constant S_ .f32 0x42C00000#32))) (Host.log (constant S_ .f32 0x40000000#32))

/-- The queries as the call takes them. -/
def qHost (a0 : FVec Ideal S4x8192x8x64 .f32) (a1 : FVec Ideal S4x8192x8x32 .f32) : FVec Ideal S4x8192x1024 .bf16 :=
  truncf .bf16 (shapeCast S4x8192x1024 (concatenate S4x8192x8x128 3
    [⟨S4x8192x8x64, mulf a0 (broadcastInDim S4x8192x8x64 ![] bcast_S_S4x8192x8x64 scale2)⟩,
     ⟨S4x8192x8x32, mulf a1 (broadcastInDim S4x8192x8x32 ![] bcast_S_S4x8192x8x32 scale2)⟩,
     ⟨S4x8192x8x32, broadcastInDim S4x8192x8x32 ![] bcast_S_S4x8192x8x32 (constant S_ .f32 0x00000000#32)⟩]
    concatenates_S4x8192x8x64_S4x8192x8x32_S4x8192x8x32_S4x8192x8x128_d3) shapeCasts_S4x8192x8x128_S4x8192x1024) bitsLt_bf16_f32

/-- The keys as the call takes them. -/
def kHost (a2 : FVec Ideal S4x8192x8x64 .f32) (a3 : FVec Ideal S4x8192x32 .f32) : FVec Ideal S4x8192x1024 .bf16 :=
  truncf .bf16 (shapeCast S4x8192x1024 (concatenate S4x8192x8x128 3
    [⟨S4x8192x8x64, a2⟩,
     ⟨S4x8192x8x32, broadcastInDim S4x8192x8x32 ![0, 1, 2, 3] bcast_S4x8192x1x32_S4x8192x8x32_0_1_2_3 (broadcastInDim S4x8192x1x32 ![0, 1, 3] bcast_S4x8192x32_S4x8192x1x32_0_1_3 a3)⟩,
     ⟨S4x8192x8x32, broadcastInDim S4x8192x8x32 ![] bcast_S_S4x8192x8x32 (constant S_ .f32 0x00000000#32)⟩]
    concatenates_S4x8192x8x64_S4x8192x8x32_S4x8192x8x32_S4x8192x8x128_d3) shapeCasts_S4x8192x8x128_S4x8192x1024) bitsLt_bf16_f32

/-- Three pieces read each at its own reference. -/
theorem nary3_result' {x a b y : Ref sig .tc} (f : ((k : Fin 3) → ((![x, a, b] : Fin 3 → Ref sig .tc) k).ty.Contents (Elt Ideal)) → y.ty.Contents (Elt Ideal)) (hxs hy)
    (F : Valuation τ sig (Elt Ideal)) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]
  congr 1
  funext k
  fin_cases k <;> rfl

set_option maxHeartbeats 4000000 in
/-- The call's queries. -/
theorem entry_q : (V m c main_v11 : FVec Ideal S4x8192x1024 .bf16) = qHost (m ((c.tc : Thread nD τ).loc main_arg0)) (m ((c.tc : Thread nD τ).loc main_arg1)) := by
  show after hostOps0 _ _ = _
  simp (disch := decide) only [after_cons, after_nil, nullary_result', unary_result', binary_result', reshape_result', nary3_result',
    nullary_result_ne', unary_result_ne', binary_result_ne', reshape_result_ne', nary_result_ne']
  rfl

set_option maxHeartbeats 4000000 in
/-- The call's keys. -/
theorem entry_k : (V m c main_v16 : FVec Ideal S4x8192x1024 .bf16) = kHost (m ((c.tc : Thread nD τ).loc main_arg2)) (m ((c.tc : Thread nD τ).loc main_arg3)) := by
  show after hostOps0 _ _ = _
  simp (disch := decide) only [after_cons, after_nil, nullary_result', unary_result', binary_result', reshape_result', nary3_result',
    nullary_result_ne', unary_result_ne', binary_result_ne', reshape_result_ne', nary_result_ne']
  rfl

/-- The values' rows by head: row `d` of head `h`, ones past the 64th. -/
theorem rows_by_head (a4 : FVec Ideal S4x8192x8x64 .f32) (b : Fin 4) (s : Fin 16) (h : Fin 8) (d : Fin 80) (k : Fin 512) :
    (if hd : (80 * h.val + d.val) % 80 < 64 then a4 (ix4 b ⟨s.val * 512 + k.val, by omega⟩ ⟨(80 * h.val + d.val) / 80, by omega⟩ ⟨(80 * h.val + d.val) % 80, hd⟩) else (1 : EReal))
      = if hd : d.val < 64 then a4 (ix4 b ⟨512 * s.val + k.val, by omega⟩ h ⟨d.val, hd⟩) else (1 : EReal) := by
  have e1 : (80 * h.val + d.val) % 80 = d.val := by omega
  have e2 : (80 * h.val + d.val) / 80 = h.val := by omega
  simp only [e1, e2, Fin.eta, mul_comm 512 s.val]

/-- The call's values at an entry, by row. -/
theorem entry_row (b : Fin 4) (s : Fin 16) (j : Fin 640) (k : Fin 512) :
    (V m c main_v22 : FVec Ideal S4x16x640x512 .bf16) (ix4 b s j k)
      = (if hd : j.val % 80 < 64 then (m ((c.tc : Thread nD τ).loc main_arg4) : FVec Ideal S4x8192x8x64 .f32) (ix4 b ⟨s.val * 512 + k.val, by omega⟩ ⟨j.val / 80, by omega⟩ ⟨j.val % 80, hd⟩) else (1 : EReal)) := by
  entry_read
  pointwise

/-- The call's values at an entry: the value, or one past its 64 rows. -/
theorem entry_v (b : Fin 4) (s : Fin 16) (h : Fin 8) (d : Fin 80) (k : Fin 512) :
    (V m c main_v22 : FVec Ideal S4x16x640x512 .bf16) (ix4 b s ⟨80 * h.val + d.val, by omega⟩ k)
      = if hd : d.val < 64 then (m ((c.tc : Thread nD τ).loc main_arg4) : FVec Ideal S4x8192x8x64 .f32) (ix4 b ⟨512 * s.val + k.val, by omega⟩ h ⟨d.val, hd⟩) else (1 : EReal) :=
  (entry_row m c b s ⟨80 * h.val + d.val, by omega⟩ k).trans (rows_by_head (m ((c.tc : Thread nD τ).loc main_arg4)) b s h d k)

/-- The heads' lanes side by side. -/
theorem by_lane (A : FVec Ideal S4x8192x8x128 .f32) (b : Fin 4) (s : Fin 8192) (h : Fin 8) (l : Fin 128) :
    truncf .bf16 (shapeCast S4x8192x1024 A shapeCasts_S4x8192x8x128_S4x8192x1024) bitsLt_bf16_f32 (ix3 b s ⟨128 * h.val + l.val, by omega⟩) = A (ix4 b s h l) := by
  pointwise

/-- The call's queries at an entry. -/
theorem q_at (a0 : FVec Ideal S4x8192x8x64 .f32) (a1 : FVec Ideal S4x8192x8x32 .f32) (b : Fin 4) (s : Fin 8192) (h : Fin 8) (l : Fin 128) :
    qHost a0 a1 (ix3 b s ⟨128 * h.val + l.val, by omega⟩)
      = if hl : l.val < 64 then a0 (ix4 b s h ⟨l.val, hl⟩) * scale2 ix0
        else if hl : l.val - 64 < 32 then a1 (ix4 b s h ⟨l.val - 64, by omega⟩) * scale2 ix0 else (0 : EReal) := by
  unfold qHost
  generalize scale2 = s2
  rw [by_lane]
  pointwise

/-- The call's keys at an entry. -/
theorem k_at (a2 : FVec Ideal S4x8192x8x64 .f32) (a3 : FVec Ideal S4x8192x32 .f32) (b : Fin 4) (s : Fin 8192) (h : Fin 8) (l : Fin 128) :
    kHost a2 a3 (ix3 b s ⟨128 * h.val + l.val, by omega⟩)
      = if hl : l.val < 64 then a2 (ix4 b s h ⟨l.val, hl⟩)
        else if hl : l.val - 64 < 32 then a3 (ix3 b s ⟨l.val - 64, by omega⟩) else (0 : EReal) := by
  unfold kHost
  rw [by_lane]
  pointwise

/-! The blocks of a grid point: its batch, its four heads, its 512 queries. -/

/-- The batch of a grid point. -/
def bat (t : Fin cfg0.N) : Fin 4 := grid0.coords t 0
/-- The group of four heads of a grid point. -/
def grp (t : Fin cfg0.N) : Fin 2 := grid0.coords t 1
/-- The block of queries of a grid point. -/
def qb (t : Fin cfg0.N) : Fin 16 := grid0.coords t 2

theorem idx0 : ∀ t : Fin cfg0.N, win0_0.index t = ![(grid0.coords t 0).val, (grid0.coords t 2).val, (grid0.coords t 1).val] :=
  (by decide +kernel : ∀ t : Fin grid0.N, win0_0.index t = ![(grid0.coords t 0).val, (grid0.coords t 2).val, (grid0.coords t 1).val])
theorem idx1 : ∀ t : Fin cfg0.N, win0_1.index t = ![(grid0.coords t 0).val, 0, (grid0.coords t 1).val] :=
  (by decide +kernel : ∀ t : Fin grid0.N, win0_1.index t = ![(grid0.coords t 0).val, 0, (grid0.coords t 1).val])
theorem idx2 : ∀ t : Fin cfg0.N, win0_2.index t = ![(grid0.coords t 0).val, 0, (grid0.coords t 1).val, 0] :=
  (by decide +kernel : ∀ t : Fin grid0.N, win0_2.index t = ![(grid0.coords t 0).val, 0, (grid0.coords t 1).val, 0])
theorem idx3 : ∀ t : Fin cfg0.N, win0_3.index t = ![(grid0.coords t 0).val, (grid0.coords t 2).val, (grid0.coords t 1).val] :=
  (by decide +kernel : ∀ t : Fin grid0.N, win0_3.index t = ![(grid0.coords t 0).val, (grid0.coords t 2).val, (grid0.coords t 1).val])

/-- A block of window 0 read off its array. -/
theorem read0 (W : (b : Ref sig .tc) → Buf (Elt Ideal) ((c : Thread nD τ).loc b)) (t : Fin cfg0.N) (y : S1x512x512.Idx) :
    ((cfg0.win 0).blk t).view.read (Elt Ideal) (W (Pipeline.arrRef spec0 0)) y = W main_v11 ((win0_0.blk t).view.emb y) := rfl

/-- Where an entry of the block of window 0 lies. -/
theorem emb0 (t : Fin cfg0.N) (x j : Fin 512) : (win0_0.blk t).view.emb (ix3 0 x j) = ix3 (bat t) ⟨512 * (qb t).val + x.val, by omega⟩ ⟨512 * (grp t).val + j.val, by omega⟩ := by
  blk_ext [idx0 t, bat, qb, grp]

/-- A grid point's queries. -/
theorem block_q (t : Fin cfg0.N) (x j : Fin 512) : iblk m c 0 t (ix3 0 x j) = V m c main_v11 (ix3 (bat t) ⟨512 * (qb t).val + x.val, by omega⟩ ⟨512 * (grp t).val + j.val, by omega⟩) :=
  (read0 c (V m c) t (ix3 0 x j)).trans (congrArg (V m c main_v11) (emb0 t x j))

/-- A block of window 1 read off its array. -/
theorem read1 (W : (b : Ref sig .tc) → Buf (Elt Ideal) ((c : Thread nD τ).loc b)) (t : Fin cfg0.N) (y : S1x8192x512.Idx) :
    ((cfg0.win 1).blk t).view.read (Elt Ideal) (W (Pipeline.arrRef spec0 1)) y = W main_v16 ((win0_1.blk t).view.emb y) := rfl

/-- Where an entry of the block of window 1 lies. -/
theorem emb1 (t : Fin cfg0.N) (n : Fin 8192) (j : Fin 512) : (win0_1.blk t).view.emb (ix3 0 n j) = ix3 (bat t) n ⟨512 * (grp t).val + j.val, by omega⟩ := by
  blk_ext [idx1 t, bat, grp]

/-- A grid point's keys. -/
theorem block_k (t : Fin cfg0.N) (n : Fin 8192) (j : Fin 512) : iblk m c 1 t (ix3 0 n j) = V m c main_v16 (ix3 (bat t) n ⟨512 * (grp t).val + j.val, by omega⟩) :=
  (read1 c (V m c) t (ix3 0 n j)).trans (congrArg (V m c main_v16) (emb1 t n j))

/-- A block of window 2 read off its array. -/
theorem read2 (W : (b : Ref sig .tc) → Buf (Elt Ideal) ((c : Thread nD τ).loc b)) (t : Fin cfg0.N) (y : S1x16x320x512.Idx) :
    ((cfg0.win 2).blk t).view.read (Elt Ideal) (W (Pipeline.arrRef spec0 2)) y = W main_v22 ((win0_2.blk t).view.emb y) := rfl

/-- Where an entry of the block of window 2 lies. -/
theorem emb2 (t : Fin cfg0.N) (n : Fin 16) (j : Fin 320) (k : Fin 512) : (win0_2.blk t).view.emb (ix4 0 n j k) = ix4 (bat t) n ⟨320 * (grp t).val + j.val, by omega⟩ k := by
  blk_ext [idx2 t, bat, grp]

/-- A grid point's values. -/
theorem block_v (t : Fin cfg0.N) (n : Fin 16) (j : Fin 320) (k : Fin 512) : iblk m c 2 t (ix4 0 n j k) = V m c main_v22 (ix4 (bat t) n ⟨320 * (grp t).val + j.val, by omega⟩ k) :=
  (read2 c (V m c) t (ix4 0 n j k)).trans (congrArg (V m c main_v22) (emb2 t n j k))

/-- Where an entry of the output block lies. -/
theorem emb3 (t : Fin cfg0.N) (x : Fin 512) (j : Fin 256) : (win0_3.blk t).view.emb (ix3 0 x j) = ix3 (bat t) ⟨512 * (qb t).val + x.val, by omega⟩ ⟨256 * (grp t).val + j.val, by omega⟩ := by
  blk_ext [idx3 t, bat, qb, grp]

end Cert.KernelIdeal.Attn
end
-- ==== Proof.Factors.lean ====
/-
  The factors the two programs scale by, as real numbers; and what it says of an array that every entry's absolute value
  lies under plus infinity.
-/
module

public import proofs.«01_k».proof.Proof.Reference
public import proofs.«01_k».proof.Proof.Attn.Entry
public import proofs.«01_k».proof.Pre_finite
public import Idealize.ShloMosaic.Lib.ReduceAll

@[expose] public section
set_option maxRecDepth 16384
noncomputable section
namespace Cert.Factors
open Idealize.ShloMosaic Idealize.ShloMosaic.StableHlo

/-- One over the root of 96. -/
def root : ℝ := 1 * (1 / Real.sqrt 96)

/-- One over the logarithm of 2. -/
def perLog : ℝ := 1 / Real.log 2

theorem bits_one : Ideal.ofBits .f32 0x3F800000#32 = ((1 : ℝ) : EReal) := by
  simp [Ideal.ofBits, Ideal.ieee]
  rw [← EReal.coe_mul]
  norm_num

theorem bits_two : Ideal.ofBits .f32 0x40000000#32 = ((2 : ℝ) : EReal) := by
  simp [Ideal.ofBits, Ideal.ieee]
  rw [← EReal.coe_mul]
  norm_num

theorem bits_96 : Ideal.ofBits .f32 0x42C00000#32 = ((96 : ℝ) : EReal) := by
  simp [Ideal.ofBits, Ideal.ieee]
  rw [← EReal.coe_mul]
  norm_num

/-- The quotient of one by the root of 96. -/
theorem root_eq : Ideal.div (Ideal.ofBits .f32 0x3F800000#32) (Ideal.sqrt (Ideal.ofBits .f32 0x42C00000#32)) = (root : EReal) := by
  have h : Ideal.sqrt ((96 : ℝ) : EReal) = (Real.sqrt 96 : EReal) := if_neg (by norm_num)
  have h0 : Real.sqrt 96 ≠ 0 := (Real.sqrt_pos.mpr (by norm_num)).ne'
  rw [bits_one, bits_96, h, Ideal.div_coe h0, ← EReal.coe_mul]
  rfl

/-- The reference's factor. -/
theorem scale_eq : Cert.ReferenceIdeal.Read.scale ix0 = (root : EReal) := root_eq

/-- The kernel's factor. -/
theorem scale2_eq : Cert.KernelIdeal.Attn.scale2 ix0 = ((root * perLog : ℝ) : EReal) := by
  have h : Ideal.log ((2 : ℝ) : EReal) = (Real.log 2 : EReal) := if_neg (by norm_num)
  have h0 : Real.log 2 ≠ 0 := (Real.log_pos (by norm_num)).ne'
  have e : Cert.KernelIdeal.Attn.scale2 ix0
      = Ideal.div (Ideal.div (Ideal.ofBits .f32 0x3F800000#32) (Ideal.sqrt (Ideal.ofBits .f32 0x42C00000#32))) (Ideal.log (Ideal.ofBits .f32 0x40000000#32)) := rfl
  rw [e, root_eq, bits_two, h, Ideal.div_coe h0, ← EReal.coe_mul]
  rfl

/-- An extended real whose absolute value compares under plus infinity is a real number. -/
theorem real_of_abs {x : EReal} (h : Ideal.cmp .olt (max x (-x)) (Ideal.ofBits .f32 0x7F800000#32) = 1#1) : x ≠ ⊤ ∧ x ≠ ⊥ := by
  have hi : Ideal.ofBits .f32 0x7F800000#32 = (⊤ : EReal) := by simp [Ideal.ofBits, Ideal.ieee]
  rw [hi] at h
  constructor
  · rintro rfl
    simp [Ideal.cmp] at h
  · rintro rfl
    simp [Ideal.cmp] at h

/-- An array all of whose entries compare under plus infinity in absolute value holds real numbers. -/
theorem real_of_all {s : Shape} {axes : List (Fin s.rank)} (x : FVec Ideal s .f32) (b : Shape.BroadcastsInDim ⟨0, ![]⟩ s ![]) (hr : s.ReducesTo axes ⟨0, ![]⟩) (hu : 0 < (⟨0, ![]⟩ : Shape).numel)
    (h : Host.reduce IntOp.andi (cmpf .olt (Host.absf x) (broadcastInDim s ![] b (constant (F := Ideal) ⟨0, ![]⟩ .f32 0x7F800000#32))) (constantI ⟨0, ![]⟩ 1 1#1) hr hu ix0 = 1#1)
    (i : s.Idx) : x i ≠ ⊤ ∧ x i ≠ ⊥ :=
  haveI : Subsingleton (Shape.Idx ⟨0, ![]⟩) := ⟨fun u w => funext fun a => a.elim0⟩
  real_of_abs (Host.reduce_andi_all _ _ hr hu ix0 h i)

/-- The precondition's word on the queries' and keys' four arrays. -/
theorem real_of_finite [Cert.Pre_finite.Facts] (a0 : FVec Ideal Cert.Pre_finite.S4x8192x8x64 .f32) (a1 : FVec Ideal Cert.Pre_finite.S4x8192x8x32 .f32) (a2 : FVec Ideal Cert.Pre_finite.S4x8192x8x64 .f32)
    (a3 : FVec Ideal Cert.Pre_finite.S4x8192x32 .f32) (a4 : FVec Ideal Cert.Pre_finite.S4x8192x8x64 .f32) (h : Cert.Pre_finite.fn (F := Ideal) a0 a1 a2 a3 a4 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) ∧ (∀ i, a3 i ≠ ⊤ ∧ a3 i ≠ ⊥) := by
  have e := congrFun h ix0
  have hand : ∀ u w : BitVec 1, IntOp.andi u w = 1#1 → u = 1#1 ∧ w = 1#1 := by decide
  obtain ⟨e, e3⟩ := hand _ _ e
  obtain ⟨e, e2⟩ := hand _ _ e
  obtain ⟨e0, e1⟩ := hand _ _ e
  exact ⟨real_of_all a0 _ _ _ e0, real_of_all a1 _ _ _ e1, real_of_all a2 _ _ _ e2, real_of_all a3 _ _ _ e3⟩

end Cert.Factors
end
-- ==== Proof.Equal.lean ====
/-
  The attention call's result is the reference's, entry by entry, when the queries and keys are real numbers.
-/
module

public import proofs.«01_k».proof.Proof.Equation
public import proofs.«01_k».proof.Proof.Factors

@[expose] public section
set_option maxRecDepth 16384
noncomputable section
namespace Cert.KernelIdeal.Attn
open Cert.KernelIdeal Cert.KernelIdeal.Gen Cert.KernelIdeal.Block Cert.Online Cert.Factors
open Idealize.ShloMosaic Idealize.ShloMosaic.TcCoe Idealize.ShloMosaic.StableHlo

/-- The head `hh` of a group of four. -/
def head (g : Fin 2) (hh : Fin 4) : Fin 8 := ⟨4 * g.val + hh.val, by omega⟩

/-- Query `x` of a block of 512. -/
def query (q : Fin 16) (x : Fin 512) : Fin 8192 := ⟨512 * q.val + x.val, by omega⟩

theorem lane_head (g : Fin 2) (hh : Fin 4) (l : Fin 128) :
    (⟨512 * g.val + (lane hh l).val, by omega⟩ : Fin 1024) = ⟨128 * (head g hh).val + l.val, by omega⟩ := by
  apply Fin.ext
  simp only [lane, head]
  omega

section Cell

variable (a0 : FVec Ideal S4x8192x8x64 .f32) (a1 : FVec Ideal S4x8192x8x32 .f32) (a2 : FVec Ideal S4x8192x8x64 .f32) (a3 : FVec Ideal S4x8192x32 .f32) (a4 : FVec Ideal S4x8192x8x64 .f32)
  (h0 : ∀ i, a0 i ≠ ⊤ ∧ a0 i ≠ ⊥) (h1 : ∀ i, a1 i ≠ ⊤ ∧ a1 i ≠ ⊥) (h2 : ∀ i, a2 i ≠ ⊤ ∧ a2 i ≠ ⊥) (h3 : ∀ i, a3 i ≠ ⊤ ∧ a3 i ≠ ⊥)
  (b : Fin 4) (g : Fin 2) (q : Fin 16)
  (x0 : FVec Ideal S1x512x512 .bf16) (x1 : FVec Ideal S1x8192x512 .bf16) (x2 : FVec Ideal S1x16x320x512 .bf16)
  (hx0 : ∀ x j, x0 (ix3 0 x j) = qHost a0 a1 (ix3 b ⟨512 * q.val + x.val, by omega⟩ ⟨512 * g.val + j.val, by omega⟩))
  (hx1 : ∀ n j, x1 (ix3 0 n j) = kHost a2 a3 (ix3 b n ⟨512 * g.val + j.val, by omega⟩))
  (hx2 : ∀ (n : Fin 16) (hh : Fin 4) (d : Fin 80) (k : Fin 512), x2 (ix4 0 n (row hh d) k)
    = if hd : d.val < 64 then a4 (ix4 b ⟨512 * n.val + k.val, by omega⟩ (head g hh) ⟨d.val, hd⟩) else (1 : EReal))

include hx0 hx1 h0 h1 h2 h3 in
/-- A score of the call is the reference's unmasked score over the logarithm of 2, and the latter is a real number. -/
theorem score_eq (hh : Fin 4) (x : Fin 512) (k : Fin 8192) :
    ∃ z : ℝ, ((∑ l : Fin 64, a0 (ix4 b (query q x) (head g hh) l) * a2 (ix4 b k (head g hh) l)) + ∑ l : Fin 32, a3 (ix3 b k l) * a1 (ix4 b (query q x) (head g hh) l)) * (root : EReal) = z
      ∧ score x0 x1 hh x k.val = ((∑ l : Fin 64, a0 (ix4 b (query q x) (head g hh) l) * a2 (ix4 b k (head g hh) l))
          + ∑ l : Fin 32, a3 (ix3 b k l) * a1 (ix4 b (query q x) (head g hh) l)) * (root : EReal) * (perLog : EReal) := by
  have hf : ∀ l : Fin 128, keyAt x1 k.val (lane hh l) * x0 (ix3 0 x (lane hh l))
      = kHost a2 a3 (ix3 b k ⟨128 * (head g hh).val + l.val, by omega⟩) * qHost a0 a1 (ix3 b (query q x) ⟨128 * (head g hh).val + l.val, by omega⟩) := fun l => by
    rw [keyAt, dif_pos k.isLt, hx1, hx0, lane_head]
    rfl
  refine score_lanes (fun l => a0 (ix4 b (query q x) (head g hh) l)) (fun l => a2 (ix4 b k (head g hh) l)) (fun l => a1 (ix4 b (query q x) (head g hh) l)) (fun l => a3 (ix3 b k l))
    root perLog (fun _ => h0 _) (fun _ => h2 _) (fun _ => h1 _) (fun _ => h3 _) _ (fun l => ?_) (fun l => ?_) (fun l => ?_)
  · rw [hf, k_at, q_at, dif_pos l.isLt, dif_pos l.isLt, scale2_eq]
  · have e1 : ¬ 64 + l.val < 64 := by omega
    have e2 : 64 + l.val - 64 < 32 := by omega
    rw [hf, k_at, q_at, dif_neg e1, dif_neg e1, dif_pos e2, dif_pos e2, scale2_eq]
    simp only [Nat.add_sub_cancel_left]
  · have e1 : ¬ 64 + (32 + l.val) < 64 := by omega
    have e2 : ¬ 64 + (32 + l.val) - 64 < 32 := by omega
    rw [hf, k_at, q_at, dif_neg e1, dif_neg e1, dif_neg e2, dif_neg e2, mul_zero]

include hx2 in
/-- A value row of the call, below the 64th: the head's values. -/
theorem value_eq (hh : Fin 4) (d : Fin 64) (k : Fin 8192) : value x2 hh ⟨d.val, by omega⟩ k.val = a4 (ix4 b k (head g hh) d) := by
  rw [value, dif_pos k.isLt, hx2, dif_pos d.isLt]
  congr 2
  apply Fin.ext
  simp only
  omega

include hx2 in
/-- The 64th value row of the call: ones. -/
theorem onesRow_eq (hh : Fin 4) (k : Fin 8192) : value x2 hh 64 k.val = 1 := by
  rw [value, dif_pos k.isLt, hx2, dif_neg (by decide)]

include hx0 hx1 hx2 h0 h1 h2 h3 in
/-- An entry of the call's result is the reference's. -/
theorem cell_eq (hh : Fin 4) (x : Fin 512) (d : Fin 64) :
    Ideal.div (acc (masked (512 * q.val) x0 x1 hh x) (value x2 hh ⟨d.val, by omega⟩) (512 * (q.val + 1))) (acc (masked (512 * q.val) x0 x1 hh x) (value x2 hh 64) (512 * (q.val + 1)))
      = Cert.ReferenceIdeal.Read.attention a0 a1 a2 a3 a4 (ix3 b (query q x) ⟨64 * (head g hh).val + d.val, by omega⟩) := by
  have hl : 0 < perLog := by have := Real.log_pos (x := 2) (by norm_num); unfold perLog; positivity
  rw [Cert.ReferenceIdeal.Read.attention_at]
  have hS : ∀ k : Fin 8192, ∃ z : ℝ, Cert.ReferenceIdeal.Read.scores a0 a1 a2 a3 (ix4 b (head g hh) (query q x) k) = (if k.val ≤ 512 * q.val + x.val then (z : EReal) else ⊥)
      ∧ masked (512 * q.val) x0 x1 hh x k.val = Cert.ReferenceIdeal.Read.scores a0 a1 a2 a3 (ix4 b (head g hh) (query q x) k) * (perLog : EReal) := fun k => by
    obtain ⟨z, hz, he⟩ := score_eq a0 a1 a2 a3 h0 h1 h2 h3 b g q x0 x1 hx0 hx1 hh x k
    have hr := Cert.ReferenceIdeal.Read.scores_at a0 a1 a2 a3 b (head g hh) (query q x) k
    rw [scale_eq, hz] at hr
    change _ = (if k.val ≤ 512 * q.val + x.val then (z : EReal) else ⊥) at hr
    refine ⟨z, hr, ?_⟩
    rw [hr, masked, he, hz]
    by_cases hk : k.val ≤ 512 * q.val + x.val
    · rw [if_pos hk, if_pos hk]
    · rw [if_neg hk, if_neg hk, EReal.bot_mul_coe_of_pos hl]
  refine quotient_eq (by omega) (fun k : Fin 8192 => Cert.ReferenceIdeal.Read.scores a0 a1 a2 a3 (ix4 b (head g hh) (query q x) k)) (fun k => a4 (ix4 b k (head g hh) d)) rfl
    (fun k => (hS k).choose_spec.2) (fun k hk _ => if_neg (by omega)) (fun k => value_eq a4 b g x2 hx2 hh d k) (fun k => onesRow_eq a4 b g x2 hx2 hh k) (query q x) ?_ fun k => ?_
  · obtain ⟨z, hz, _⟩ := hS (query q x)
    show Cert.ReferenceIdeal.Read.scores a0 a1 a2 a3 (ix4 b (head g hh) (query q x) (query q x)) ≠ ⊥
    rw [hz, if_pos (show (query q x).val ≤ 512 * q.val + x.val from le_refl _)]
    exact EReal.coe_ne_bot z
  · obtain ⟨z, hz, _⟩ := hS k
    show Cert.ReferenceIdeal.Read.scores a0 a1 a2 a3 (ix4 b (head g hh) (query q x) k) ≠ ⊤
    rw [hz]
    split_ifs
    · exact EReal.coe_ne_top z
    · exact bot_ne_top

end Cell

/-- The stored block is the body's result, with the batch's axis of one put back. -/
theorem stored_at (O : FVec Ideal S512x256 .bf16) (x : Fin 512) (j : Fin 256) : k0_pay1 (F := Ideal) O (ix3 0 x j) = O (ix2 x j) := by
  pointwise [k0_pay1]

/-- An index of a block of 512 queries and 256 channels, by its coordinates. -/
theorem block_index (y : S1x512x256.Idx) : ∃ (x : Fin 512) (hh : Fin 4) (d : Fin 64), y = ix3 0 x ⟨64 * hh.val + d.val, by omega⟩ := by
  have hj : (y 2).val < 256 := (y 2).isLt
  have h0 : (y 0).val < 1 := (y 0).isLt
  refine ⟨y 1, ⟨(y 2).val / 64, by omega⟩, ⟨(y 2).val % 64, by omega⟩, funext fun a => ?_⟩
  fin_cases a <;> apply Fin.ext <;> simp [ix3] <;> omega

theorem row_head (g : Fin 2) (hh : Fin 4) (d : Fin 80) :
    (⟨320 * g.val + (row hh d).val, by omega⟩ : Fin 640) = ⟨80 * (head g hh).val + d.val, by omega⟩ := by
  apply Fin.ext
  simp only [row, head]
  omega

variable (m : (ℓ : Loc nD τ sig) → Buf (Elt Ideal) ℓ) (c : Dev nD)

/-- The reference's result of the call's arguments. -/
def expected : FVec Ideal S4x8192x512 .bf16 :=
  Cert.ReferenceIdeal.Read.attention (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

variable (h0 : ∀ i, (m ((c.tc : Thread nD τ).loc main_arg0) : FVec Ideal S4x8192x8x64 .f32) i ≠ (⊤ : EReal) ∧ (m ((c.tc : Thread nD τ).loc main_arg0) : FVec Ideal S4x8192x8x64 .f32) i ≠ (⊥ : EReal))
  (h1 : ∀ i, (m ((c.tc : Thread nD τ).loc main_arg1) : FVec Ideal S4x8192x8x32 .f32) i ≠ (⊤ : EReal) ∧ (m ((c.tc : Thread nD τ).loc main_arg1) : FVec Ideal S4x8192x8x32 .f32) i ≠ (⊥ : EReal))
  (h2 : ∀ i, (m ((c.tc : Thread nD τ).loc main_arg2) : FVec Ideal S4x8192x8x64 .f32) i ≠ (⊤ : EReal) ∧ (m ((c.tc : Thread nD τ).loc main_arg2) : FVec Ideal S4x8192x8x64 .f32) i ≠ (⊥ : EReal))
  (h3 : ∀ i, (m ((c.tc : Thread nD τ).loc main_arg3) : FVec Ideal S4x8192x32 .f32) i ≠ (⊤ : EReal) ∧ (m ((c.tc : Thread nD τ).loc main_arg3) : FVec Ideal S4x8192x32 .f32) i ≠ (⊥ : EReal))

/-- A grid point's value rows by head. -/
theorem block_row (t : Fin cfg0.N) (n : Fin 16) (hh : Fin 4) (d : Fin 80) (k : Fin 512) :
    (iblk m c 2 t : FVec Ideal S1x16x320x512 .bf16) (ix4 0 n (row hh d) k)
      = if hd : d.val < 64 then (m ((c.tc : Thread nD τ).loc main_arg4) : FVec Ideal S4x8192x8x64 .f32) (ix4 (bat t) ⟨512 * n.val + k.val, by omega⟩ (head (grp t) hh) ⟨d.val, hd⟩) else (1 : EReal) := by
  refine (block_v m c t n (row hh d) k).trans ?_
  rw [row_head]
  exact entry_v m c (bat t) n (head (grp t) hh) d k

include h0 h1 h2 h3 in
/-- What a grid point's body computes is the reference's result at that point's queries and channels. -/
theorem point_eq (t : Fin cfg0.N) (arg3 : Memref sig .tc .vmem S1x512x512 .bf16) (harg3 : arg3.IsWhole)
    (arg4 : Memref sig .tc .vmem S1x8192x512 .bf16) (harg4 : arg4.IsWhole)
    (arg5 : Memref sig .tc .vmem S1x16x320x512 .bf16) (harg5 : arg5.IsWhole)
    (arg6 : Memref sig .tc .vmem S1x512x256 .bf16) (harg6 : arg6.IsWhole)
    (arg7 : Memref sig .tc .vmem S512x512 .f32) (harg7 : arg7.IsWhole)
    (arg8 : Memref sig .tc .vmem S512x512 .f32) (harg8 : arg8.IsWhole)
    (arg9 : Memref sig .tc .vmem S512x512 .f32) (harg9 : arg9.IsWhole)
    (arg10 : Memref sig .tc .vmem S512x512 .f32) (harg10 : arg10.IsWhole) (y : S1x512x256.Idx) :
    k0_pay1 (F := Ideal) (result c (grid0.coords t) arg3 harg3 arg4 harg4 arg5 harg5 arg6 harg6 arg7 harg7 arg8 harg8 arg9 harg9 arg10 harg10 (iblk m c 0 t) (iblk m c 1 t) (iblk m c 2 t)) y
      = expected m c ((win0_3.blk t).view.emb y) := by
  obtain ⟨x, hh, d, rfl⟩ := block_index y
  rw [emb3, stored_at]
  refine (result_at c (grid0.coords t) arg3 harg3 arg4 harg4 arg5 harg5 arg6 harg6 arg7 harg7 arg8 harg8 arg9 harg9 arg10 harg10 (iblk m c 0 t) (iblk m c 1 t) (iblk m c 2 t) x hh d).trans ?_
  refine (cell_eq _ _ _ _ _ h0 h1 h2 h3 (bat t) (grp t) (qb t) (iblk m c 0 t) (iblk m c 1 t) (iblk m c 2 t)
    (fun x j => (block_q m c t x j).trans (congrFun (entry_q m c) _)) (fun n j => (block_k m c t n j).trans (congrFun (entry_k m c) _)) (block_row m c t) hh x d).trans ?_
  refine congrArg (expected m c) ?_
  congr 1
  apply Fin.ext
  simp only [head]
  omega

include h0 h1 h2 h3 in
/-- The output array after the run is the reference's result. -/
theorem array_eq : (dats m 0 c).arrAt 3 cfg0.N = expected m c := by
  refine (dats m 0 c).arrAt_eq_of_covers 3 (expected m c) (by decide +kernel) fun t hf y => ?_
  blk_simp
  rw [after0_3]
  unfold outsAt0 out0_A_3 pieces
  frame_out
  exact point_eq m c h0 h1 h2 h3 t _ _ _ _ _ _ _ _ _ _ _ _ _ _ _ _ y

end Cert.KernelIdeal.Attn
end
-- ==== Proof.Ffn.Steps.lean ====
module

public import proofs.«01_k».proof.Proof.Gen.Kernel2Ideal.Launch
public import proofs.«01_k».proof.Proof.Gen.Kernel2Ideal.Points
public import Idealize.ShloMosaic.Lib.Pipeline.FrameBody
public import Idealize.ShloMosaic.Lib.Tactic
public import Idealize.ShloMosaic.Lib.VecWindow

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem

variable {F : FTy → Type} [FloatOps F]

/-- The programs of this kernel's core. -/
abbrev Step (F : FTy → Type) [FloatOps F] (α : Type) := Prog (TpuEff nD τ sig (Elt F) Λ₀ .tc) α

/-- The first lane of half `k` of a buffer, and the first column of half `k` of chunk `c` of a weight. -/
abbrev lane (k : ℕ) : ℕ := k * 256
abbrev col (k c : ℕ) : ℕ := k * 2816 + c * 256

theorem inb_up {k c : ℕ} (hk : k < 2) (hc : c < 11) : ∀ a, (![0, col k c] : Fin 2 → ℕ) a + S1024x256.size a ≤ S1024x5632.size a := by
  intro a; fin_cases a <;> simp [Shape.size, lane, col, S1024x256, S1024x5632] <;> omega
theorem inb_taps {k c : ℕ} (hk : k < 2) (hc : c < 11) : ∀ a, (![0, col k c] : Fin 2 → ℕ) a + S8x256.size a ≤ S8x5632.size a := by
  intro a; fin_cases a <;> simp [Shape.size, lane, col, S8x256, S8x5632] <;> omega
theorem inb_carry {k c : ℕ} (hk : k < 2) (hc : c < 11) : ∀ a, (![c, 0, lane k] : Fin 3 → ℕ) a + S1x8x256.size a ≤ S11x8x512.size a := by
  intro a; fin_cases a <;> simp [Shape.size, lane, col, S1x8x256, S11x8x512] <;> omega
theorem inb_halo {k : ℕ} (hk : k < 2) : ∀ a, (![0, lane k] : Fin 2 → ℕ) a + S8x256.size a ≤ S520x512.size a := by
  intro a; fin_cases a <;> simp [Shape.size, lane, col, S8x256, S520x512] <;> omega
theorem inb_rows {k o : ℕ} (hk : k < 2) (ho : o ≤ 8) : ∀ a, (![o, lane k] : Fin 2 → ℕ) a + S512x256.size a ≤ S520x512.size a := by
  intro a; fin_cases a <;> simp [Shape.size, lane, col, S512x256, S520x512] <;> omega
theorem inb_down {c : ℕ} (hc : c < 11) : ∀ a, (![c * 256, 0] : Fin 2 → ℕ) a + S256x1024.size a ≤ S2816x1024.size a := by
  intro a; fin_cases a <;> simp [Shape.size, S256x1024, S2816x1024] <;> omega

/-- A block of rows of the input, normed by its mean square and multiplied by the gain. -/
def normed (v1 : FVec F S512x1024 .f32) (v3 : FVec F S1x1024 .f32) : FVec F S512x1024 .f32 :=
  mulf (mulf v1 (broadcastTo S512x1024 (rsqrt (addf (divf (shapeCast S512x1 (multiReduction .add [1] S512 (mulf v1 v1) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024)) (broadcastTo S512x1024 v3 broadcasts_S1x1024_S512x1024)

/-- The product of the normed rows with 256 columns of the weight. -/
def product (x : Vec F S1x512x1024 .bf16) (w : Vec F S1024x256 .bf16) : FVec F S512x256 .f32 :=
  matmul dot_S512x1024_S1024x256_S512x256_1_0_0_1_n_n none (shapeCast S512x1024 x shapeCasts_S1x512x1024_S512x1024) (shapeCast S1024x256 w shapeCasts_S1024x256_S1024x256) (constant S512x256 .f32 0x00000000#32)

/-- The eight rows before the block: zeros in the first block of a sequence, the carried rows in the others. -/
def halo (first : BitVec 1) (d : Vec F S1x8x256 .f32) : FVec F S8x256 .f32 :=
  shapeCast S8x256 (Scalar.select first (broadcast S8x256 (Scalar.ofBits .f32 0x00000000#32)) (shapeCast S8x256 d shapeCasts_S1x8x256_S8x256) : FVec F S8x256 .f32) shapeCasts_S8x256_S8x256

/-- The last eight rows of a product. -/
def lastRows (h : FVec F S512x256 .f32) : FVec F S1x8x256 .f32 :=
  shapeCast S1x8x256 (extractStridedSlice S8x256 ![504, 0] h slices_S512x256_o504_0_S8x256) shapeCasts_S8x256_S1x8x256

/-- The convolution along the rows of 256 columns: three taps and the bias. -/
def conv (w : Vec F S8x256 .f32) (d8 d6 d7 : Vec F S512x256 .f32) : FVec F S512x256 .f32 :=
  addf (addf (addf (mulf (broadcastTo S512x256 (extractStridedSlice S1x256 ![2, 0] (shapeCast S8x256 w shapeCasts_S8x256_S8x256) slices_S8x256_o2_0_S1x256) broadcasts_S1x256_S512x256) d8) (broadcastTo S512x256 (extractStridedSlice S1x256 ![3, 0] (shapeCast S8x256 w shapeCasts_S8x256_S8x256) slices_S8x256_o3_0_S1x256) broadcasts_S1x256_S512x256))
    (mulf (broadcastTo S512x256 (extractStridedSlice S1x256 ![0, 0] (shapeCast S8x256 w shapeCasts_S8x256_S8x256) slices_S8x256_o0_0_S1x256) broadcasts_S1x256_S512x256) d6))
    (mulf (broadcastTo S512x256 (extractStridedSlice S1x256 ![1, 0] (shapeCast S8x256 w shapeCasts_S8x256_S8x256) slices_S8x256_o1_0_S1x256) broadcasts_S1x256_S512x256) d7)

/-- The first half's silu times the second half. -/
def gated (u v : FVec F S512x256 .f32) : FVec F S512x256 .bf16 :=
  shapeCast S512x256 (truncf .bf16 (mulf (mulf u (divf (broadcast S512x256 (Scalar.ofBits .f32 0x3F800000#32)) (addf (broadcast S512x256 (Scalar.ofBits .f32 0x3F800000#32)) (exp (subf (broadcast S512x256 (Scalar.ofBits .f32 0x00000000#32)) u))))) v) bitsLt_bf16_f32) shapeCasts_S512x256_S512x256

/-- The output block with the product of the gated rows and 256 rows of the second weight added. -/
def added (o : Vec F S1x512x1024 .f32) (a : Vec F S512x256 .bf16) (w : Vec F S256x1024 .bf16) : FVec F S1x512x1024 .f32 :=
  shapeCast S1x512x1024 (addf (shapeCast S512x1024 o shapeCasts_S1x512x1024_S512x1024) (matmul dot_S512x256_S256x1024_S512x1024_1_0_0_1_n_n none a (shapeCast S256x1024 w shapeCasts_S256x1024_S256x1024) (constant S512x1024 .f32 0x00000000#32))) shapeCasts_S512x1024_S1x512x1024

/-- The start: the normed rows go to the scratch buffer, the rows themselves to the output block. -/
def start (arg2 : Memref sig .tc .vmem S1x512x1024 .f32) (arg3 : Memref sig .tc .vmem S1x1024 .f32) (arg8 : Memref sig .tc .vmem S1x512x1024 .f32) (arg9 : Memref sig .tc .vmem S1x512x1024 .bf16) (harg9 : arg9.IsWhole) : Step F PUnit := do
  let v0 : Vec F S1x512x1024 .f32 ← Prog.lift (.load arg2 (Rect.unit (s := S1x512x1024) ![0, 0, 0] S1x512x1024.size inb_S1x512x1024_S1x512x1024_0_0_0).toLoadRect (View.loadsAt_vmem h_S1x512x1024))
  let v2 : Vec F S1x1024 .f32 ← Prog.lift (.load arg3 (Rect.unit (s := S1x1024) ![0, 0] S1x1024.size inb_S1x1024_S1x1024_0_0).toLoadRect (View.loadsAt_vmem h_S1x1024))
  let _ : Vec F S1x512x1024 .bf16 ← Prog.lift (.load arg9 (Rect.unit (s := S1x512x1024) ![0, 0, 0] S1x512x1024.size inb_S1x512x1024_S1x512x1024_0_0_0).toLoadRect (View.loadsAt_vmem h_S1x512x1024))
  Prog.lift (.store arg9 (Rect.unit (s := S1x512x1024) ![0, 0, 0] S1x512x1024.size inb_S1x512x1024_S1x512x1024_0_0_0) (shapeCast S1x512x1024 (truncf .bf16 (normed (shapeCast S512x1024 v0 shapeCasts_S1x512x1024_S512x1024) (shapeCast S1x1024 v2 shapeCasts_S1x1024_S1x1024)) bitsLt_bf16_f32) shapeCasts_S512x1024_S1x512x1024) Finset.univ (View.stores_vmem h_S1x512x1024 (harg9.storeExact_slice rfl _ packedbf16_S1x512x1024_S1x512x1024_0_0_0) (fun _ => rfl)) (.inl rfl))
  let _ : Vec F S1x512x1024 .f32 ← Prog.lift (.load arg8 (Rect.unit (s := S1x512x1024) ![0, 0, 0] S1x512x1024.size inb_S1x512x1024_S1x512x1024_0_0_0).toLoadRect (View.loadsAt_vmem h_S1x512x1024))
  Prog.lift (.store arg8 (Rect.unit (s := S1x512x1024) ![0, 0, 0] S1x512x1024.size inb_S1x512x1024_S1x512x1024_0_0_0) (shapeCast S1x512x1024 (shapeCast S512x1024 v0 shapeCasts_S1x512x1024_S512x1024 : FVec F S512x1024 .f32) shapeCasts_S512x1024_S1x512x1024) Finset.univ (View.stores_vmem_bits_univ h_S1x512x1024 rfl) (.inl rfl))

/-- One half of the first product of chunk `c`: the carried rows and the product's rows go to a row buffer, the product's last rows are carried on. -/
def upHalf (first : BitVec 1) (arg4 : Memref sig .tc .vmem S1024x5632 .bf16) (arg9 : Memref sig .tc .vmem S1x512x1024 .bf16) (arg14 : Memref sig .tc .vmem S11x8x512 .f32) (hb : Memref sig .tc .vmem S520x512 .f32) (k c : ℕ) (hk : k < 2) (hc : c < 11) : Step F PUnit := do
  let x : Vec F S1x512x1024 .bf16 ← Prog.lift (.load arg9 (Rect.unit (s := S1x512x1024) ![0, 0, 0] S1x512x1024.size inb_S1x512x1024_S1x512x1024_0_0_0).toLoadRect (View.loadsAt_vmem h_S1x512x1024))
  let w : Vec F S1024x256 .bf16 ← Prog.lift (.load arg4 (Rect.unit (s := S1024x5632) ![0, col k c] S1024x256.size (inb_up hk hc)).toLoadRect (View.loadsAt_vmem h_S1024x256))
  let d : Vec F S1x8x256 .f32 ← Prog.lift (.load arg14 (Rect.unit (s := S11x8x512) ![c, 0, lane k] S1x8x256.size (inb_carry hk hc)).toLoadRect (View.loadsAt_vmem h_S1x8x256))
  let _ : Vec F S8x256 .f32 ← Prog.lift (.load hb (Rect.unit (s := S520x512) ![0, lane k] S8x256.size (inb_halo hk)).toLoadRect (View.loadsAt_vmem h_S8x256))
  Prog.lift (.store hb (Rect.unit (s := S520x512) ![0, lane k] S8x256.size (inb_halo hk)) (halo first d) Finset.univ (View.stores_vmem_bits_univ h_S8x256 rfl) (.inl rfl))
  let _ : Vec F S512x256 .f32 ← Prog.lift (.load hb (Rect.unit (s := S520x512) ![8, lane k] S512x256.size (inb_rows hk (le_refl 8))).toLoadRect (View.loadsAt_vmem h_S512x256))
  Prog.lift (.store hb (Rect.unit (s := S520x512) ![8, lane k] S512x256.size (inb_rows hk (le_refl 8))) (shapeCast S512x256 (product x w) shapeCasts_S512x256_S512x256) Finset.univ (View.stores_vmem_bits_univ h_S512x256 rfl) (.inl rfl))
  let _ : Vec F S1x8x256 .f32 ← Prog.lift (.load arg14 (Rect.unit (s := S11x8x512) ![c, 0, lane k] S1x8x256.size (inb_carry hk hc)).toLoadRect (View.loadsAt_vmem h_S1x8x256))
  Prog.lift (.store arg14 (Rect.unit (s := S11x8x512) ![c, 0, lane k] S1x8x256.size (inb_carry hk hc)) (lastRows (product x w)) Finset.univ (View.stores_vmem_bits_univ h_S1x8x256 rfl) (.inl rfl))

/-- Both halves of the first product of chunk `c`. -/
def up (first : BitVec 1) (arg4 : Memref sig .tc .vmem S1024x5632 .bf16) (arg9 : Memref sig .tc .vmem S1x512x1024 .bf16) (arg14 : Memref sig .tc .vmem S11x8x512 .f32) (hb : Memref sig .tc .vmem S520x512 .f32) (c : ℕ) (hc : c < 11) : Step F PUnit := do
  upHalf first arg4 arg9 arg14 hb 0 c (by omega) hc
  upHalf first arg4 arg9 arg14 hb 1 c (by omega) hc

/-- One half of the convolution of chunk `c`. -/
def convHalf (arg5 : Memref sig .tc .vmem S8x5632 .f32) (hb : Memref sig .tc .vmem S520x512 .f32) (k c : ℕ) (hk : k < 2) (hc : c < 11) : Step F (FVec F S512x256 .f32) := do
  let w : Vec F S8x256 .f32 ← Prog.lift (.load arg5 (Rect.unit (s := S8x5632) ![0, col k c] S8x256.size (inb_taps hk hc)).toLoadRect (View.loadsAt_vmem h_S8x256))
  let d8 : Vec F S512x256 .f32 ← Prog.lift (.load hb (Rect.unit (s := S520x512) ![8, lane k] S512x256.size (inb_rows hk (le_refl 8))).toLoadRect (View.loadsAt_vmem h_S512x256))
  let d6 : Vec F S512x256 .f32 ← Prog.lift (.load hb (Rect.unit (s := S520x512) ![6, lane k] S512x256.size (inb_rows hk (by omega))).toLoadRect (View.loadsAt_vmem h_S512x256))
  let d7 : Vec F S512x256 .f32 ← Prog.lift (.load hb (Rect.unit (s := S520x512) ![7, lane k] S512x256.size (inb_rows hk (by omega))).toLoadRect (View.loadsAt_vmem h_S512x256))
  pure (conv w d8 d6 d7)

/-- The convolution, silu and gate of chunk `c`. -/
def gate (arg5 : Memref sig .tc .vmem S8x5632 .f32) (hb : Memref sig .tc .vmem S520x512 .f32) (ab : Memref sig .tc .vmem S512x256 .bf16) (hab : ab.IsWhole) (c : ℕ) (hc : c < 11) : Step F PUnit := do
  let u ← convHalf arg5 hb 0 c (by omega) hc
  let v ← convHalf arg5 hb 1 c (by omega) hc
  let _ : Vec F S512x256 .bf16 ← Prog.lift (.load ab (Rect.unit (s := S512x256) ![0, 0] S512x256.size inb_S512x256_S512x256_0_0).toLoadRect (View.loadsAt_vmem h_S512x256))
  Prog.lift (.store ab (Rect.unit (s := S512x256) ![0, 0] S512x256.size inb_S512x256_S512x256_0_0) (gated u v) Finset.univ (View.stores_vmem h_S512x256 (hab.storeExact_slice rfl _ packedbf16_S512x256_S512x256_0_0) (fun _ => rfl)) (.inl rfl))

/-- The second product of chunk `c`, added to the output block. -/
def down (arg6 : Memref sig .tc .vmem S2816x1024 .bf16) (arg8 : Memref sig .tc .vmem S1x512x1024 .f32) (ab : Memref sig .tc .vmem S512x256 .bf16) (c : ℕ) (hc : c < 11) : Step F PUnit := do
  let o : Vec F S1x512x1024 .f32 ← Prog.lift (.load arg8 (Rect.unit (s := S1x512x1024) ![0, 0, 0] S1x512x1024.size inb_S1x512x1024_S1x512x1024_0_0_0).toLoadRect (View.loadsAt_vmem h_S1x512x1024))
  let a : Vec F S512x256 .bf16 ← Prog.lift (.load ab (Rect.unit (s := S512x256) ![0, 0] S512x256.size inb_S512x256_S512x256_0_0).toLoadRect (View.loadsAt_vmem h_S512x256))
  let w : Vec F S256x1024 .bf16 ← Prog.lift (.load arg6 (Rect.unit (s := S2816x1024) ![c * 256, 0] S256x1024.size (inb_down hc)).toLoadRect (View.loadsAt_vmem h_S256x1024))
  let _ : Vec F S1x512x1024 .f32 ← Prog.lift (.load arg8 (Rect.unit (s := S1x512x1024) ![0, 0, 0] S1x512x1024.size inb_S1x512x1024_S1x512x1024_0_0_0).toLoadRect (View.loadsAt_vmem h_S1x512x1024))
  Prog.lift (.store arg8 (Rect.unit (s := S1x512x1024) ![0, 0, 0] S1x512x1024.size inb_S1x512x1024_S1x512x1024_0_0_0) (added o a w) Finset.univ (View.stores_vmem_bits_univ h_S1x512x1024 rfl) (.inl rfl))

/-- The last norm of the output block. -/
def finish (arg7 : Memref sig .tc .vmem S1x1024 .f32) (arg8 : Memref sig .tc .vmem S1x512x1024 .f32) : Step F PUnit := do
  let o : Vec F S1x512x1024 .f32 ← Prog.lift (.load arg8 (Rect.unit (s := S1x512x1024) ![0, 0, 0] S1x512x1024.size inb_S1x512x1024_S1x512x1024_0_0_0).toLoadRect (View.loadsAt_vmem h_S1x512x1024))
  let g : Vec F S1x1024 .f32 ← Prog.lift (.load arg7 (Rect.unit (s := S1x1024) ![0, 0] S1x1024.size inb_S1x1024_S1x1024_0_0).toLoadRect (View.loadsAt_vmem h_S1x1024))
  let _ : Vec F S1x512x1024 .f32 ← Prog.lift (.load arg8 (Rect.unit (s := S1x512x1024) ![0, 0, 0] S1x512x1024.size inb_S1x512x1024_S1x512x1024_0_0_0).toLoadRect (View.loadsAt_vmem h_S1x512x1024))
  Prog.lift (.store arg8 (Rect.unit (s := S1x512x1024) ![0, 0, 0] S1x512x1024.size inb_S1x512x1024_S1x512x1024_0_0_0) (shapeCast S1x512x1024 (normed (shapeCast S512x1024 o shapeCasts_S1x512x1024_S512x1024) (shapeCast S1x1024 g shapeCasts_S1x1024_S1x1024)) shapeCasts_S512x1024_S1x512x1024) Finset.univ (View.stores_vmem_bits_univ h_S1x512x1024 rfl) (.inl rfl))

/-- From chunk `i` on, `n` turns: the first product of the next chunk, the second product of the chunk before, the gate of this one; the two row buffers and the two gated buffers change places. -/
def turns (first : BitVec 1) (arg4 : Memref sig .tc .vmem S1024x5632 .bf16) (arg5 : Memref sig .tc .vmem S8x5632 .f32) (arg6 : Memref sig .tc .vmem S2816x1024 .bf16) (arg8 : Memref sig .tc .vmem S1x512x1024 .f32) (arg9 : Memref sig .tc .vmem S1x512x1024 .bf16) (arg14 : Memref sig .tc .vmem S11x8x512 .f32) :
    (n i : ℕ) → i + n ≤ 10 → (hA hB : Memref sig .tc .vmem S520x512 .f32) → (aA aB : Memref sig .tc .vmem S512x256 .bf16) → aA.IsWhole → aB.IsWhole → Step F PUnit
  | 0, _, _, _, _, _, _, _, _ => pure ⟨⟩
  | n + 1, i, h, hA, hB, aA, aB, wA, wB => do
    up first arg4 arg9 arg14 hA (i + 1) (by omega)
    down arg6 arg8 aA (i - 1) (by omega)
    gate arg5 hB aB wB i (by omega)
    turns first arg4 arg5 arg6 arg8 arg9 arg14 n (i + 1) (by omega) hB hA aB aA wB wA

/-- Whether the point is the first of its sequence. -/
def isFirst (i : grid0.Coords) : BitVec 1 := Scalar.cmpi .eq (BitVec.ofNat 32 (i 1).val) 0#32

set_option maxHeartbeats 4000000 in
/-- The kernel's body is the sequence of its steps. -/
theorem body_eq (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S8x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x1024 .bf16) (harg9 : arg9.IsWhole) (arg10 : Memref sig .tc .vmem S520x512 .f32) (harg10 : arg10.IsWhole) (arg11 : Memref sig .tc .vmem S520x512 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S11x8x512 .f32) (harg14 : arg14.IsWhole) :
    cc0_ffn_final (F := F) i arg2 harg2 arg3 harg3 arg4 harg4 arg5 harg5 arg6 harg6 arg7 harg7 arg8 harg8 arg9 harg9 arg10 harg10 arg11 harg11 arg12 harg12 arg13 harg13 arg14 harg14 = (do
      start arg2 arg3 arg8 arg9 harg9
      up (isFirst i) arg4 arg9 arg14 arg10 0 (by omega)
      up (isFirst i) arg4 arg9 arg14 arg11 1 (by omega)
      gate arg5 arg10 arg12 harg12 0 (by omega)
      turns (isFirst i) arg4 arg5 arg6 arg8 arg9 arg14 9 1 (by omega) arg10 arg11 arg12 arg13 harg12 harg13
      down arg6 arg8 arg13 9 (by omega)
      gate arg5 arg10 arg12 harg12 10 (by omega)
      down arg6 arg8 arg12 10 (by omega)
      finish arg7 arg8) := by
  chain_rfl

end Cert.Kernel2Ideal.Ffn

end
-- ==== Proof.Ffn.Specs.lean ====
module

public import proofs.«01_k».proof.Proof.Ffn.Steps

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What the steps compute, as functions of vectors -/

/-- The product of half `k` of chunk `c`. -/
def prodV (w4 : Vec F S1024x5632 .bf16) (xn : Vec F S1x512x1024 .bf16) (k c : ℕ) (hk : k < 2) (hc : c < 11) : FVec F S512x256 .f32 :=
  product xn (VecWindow.window w4 ![0, col k c] S1024x256.size (inb_up hk hc))

def halfC (w4 : Vec F S1024x5632 .bf16) (xn : Vec F S1x512x1024 .bf16) (k c : ℕ) (hk : k < 2) (hc : c < 11) (C : Vec F S11x8x512 .f32) : Vec F S11x8x512 .f32 :=
  VecWindow.put C ![c, 0, lane k] S1x8x256.size (lastRows (prodV w4 xn k c hk hc))

def halfH (first : BitVec 1) (w4 : Vec F S1024x5632 .bf16) (xn : Vec F S1x512x1024 .bf16) (k c : ℕ) (hk : k < 2) (hc : c < 11) (C : Vec F S11x8x512 .f32) (H : Vec F S520x512 .f32) : Vec F S520x512 .f32 :=
  VecWindow.put (VecWindow.put H ![0, lane k] S8x256.size (halo first (VecWindow.window C ![c, 0, lane k] S1x8x256.size (inb_carry hk hc))))
    ![8, lane k] S512x256.size (shapeCast S512x256 (prodV w4 xn k c hk hc) shapeCasts_S512x256_S512x256)

def upC (w4 : Vec F S1024x5632 .bf16) (xn : Vec F S1x512x1024 .bf16) (c : ℕ) (hc : c < 11) (C : Vec F S11x8x512 .f32) : Vec F S11x8x512 .f32 :=
  halfC w4 xn 1 c (by omega) hc (halfC w4 xn 0 c (by omega) hc C)

def upH (first : BitVec 1) (w4 : Vec F S1024x5632 .bf16) (xn : Vec F S1x512x1024 .bf16) (c : ℕ) (hc : c < 11) (C : Vec F S11x8x512 .f32) (H : Vec F S520x512 .f32) : Vec F S520x512 .f32 :=
  halfH first w4 xn 1 c (by omega) hc (halfC w4 xn 0 c (by omega) hc C) (halfH first w4 xn 0 c (by omega) hc C H)

def convV (taps : Vec F S8x5632 .f32) (H : Vec F S520x512 .f32) (k c : ℕ) (hk : k < 2) (hc : c < 11) : FVec F S512x256 .f32 :=
  conv (VecWindow.window taps ![0, col k c] S8x256.size (inb_taps hk hc)) (VecWindow.window H ![8, lane k] S512x256.size (inb_rows hk (le_refl 8)))
    (VecWindow.window H ![6, lane k] S512x256.size (inb_rows hk (by omega))) (VecWindow.window H ![7, lane k] S512x256.size (inb_rows hk (by omega)))

def gateV (taps : Vec F S8x5632 .f32) (H : Vec F S520x512 .f32) (c : ℕ) (hc : c < 11) : FVec F S512x256 .bf16 :=
  gated (convV taps H 0 c (by omega) hc) (convV taps H 1 c (by omega) hc)

def downV (w6 : Vec F S2816x1024 .bf16) (o : Vec F S1x512x1024 .f32) (a : Vec F S512x256 .bf16) (c : ℕ) (hc : c < 11) : Vec F S1x512x1024 .f32 :=
  added o a (VecWindow.window w6 ![c * 256, 0] S256x1024.size (inb_down hc))

def startX (x : Vec F S1x512x1024 .f32) (g : Vec F S1x1024 .f32) : Vec F S1x512x1024 .bf16 :=
  shapeCast S1x512x1024 (truncf .bf16 (normed (shapeCast S512x1024 x shapeCasts_S1x512x1024_S512x1024) (shapeCast S1x1024 g shapeCasts_S1x1024_S1x1024)) bitsLt_bf16_f32) shapeCasts_S512x1024_S1x512x1024

def startO (x : Vec F S1x512x1024 .f32) : Vec F S1x512x1024 .f32 :=
  shapeCast S1x512x1024 (shapeCast S512x1024 x shapeCasts_S1x512x1024_S512x1024 : FVec F S512x1024 .f32) shapeCasts_S512x1024_S1x512x1024

def finishO (g : Vec F S1x1024 .f32) (o : Vec F S1x512x1024 .f32) : Vec F S1x512x1024 .f32 :=
  shapeCast S1x512x1024 (normed (shapeCast S512x1024 o shapeCasts_S1x512x1024_S512x1024) (shapeCast S1x1024 g shapeCasts_S1x1024_S1x1024)) shapeCasts_S512x1024_S1x512x1024

/-! ## The steps, run once -/

theorem start_spec (c : Dev nD) (arg2 : Memref sig .tc .vmem S1x512x1024 .f32) (arg3 : Memref sig .tc .vmem S1x1024 .f32) (arg8 : Memref sig .tc .vmem S1x512x1024 .f32) (arg9 : Memref sig .tc .vmem S1x512x1024 .bf16) (harg9 : arg9.IsWhole)
    (x : Vec F S1x512x1024 .f32) (g : Vec F S1x1024 .f32) (o : Vec F S1x512x1024 .f32) (xn : Vec F S1x512x1024 .bf16) (E : Set ℕ) (K : PUnit → sProp 𝕄) :
    iprop(owns (c : Thread nD τ) arg2 fullShare x ∗ owns (c : Thread nD τ) arg3 fullShare g ∗ owns (c : Thread nD τ) arg8 fullShare o ∗ owns (c : Thread nD τ) arg9 fullShare xn
        ∗ (iprop(owns (c : Thread nD τ) arg2 fullShare x ∗ owns (c : Thread nD τ) arg3 fullShare g ∗ owns (c : Thread nD τ) arg8 fullShare (startO x) ∗ owns (c : Thread nD τ) arg9 fullShare (startX x g)) -∗ K ⟨⟩))
      ⊢ wp frame (wpE (defs₀ (F := F)) Variants.none c none) E (start arg2 arg3 arg8 arg9 harg9) K := by
  unfold start owns
  iintro ⟨⟨%f2, %h2, H2⟩, ⟨%f3, %h3, H3⟩, ⟨%f8, %h8, H8⟩, ⟨%f9, %h9, H9⟩, Hk⟩
  subst h2; subst h3; subst h8; subst h9
  sl_exec
  sl_step
  iapply Hk
  isplitl [H2]
  · iexists _; isplitr; swap; · iexact H2
    ipureintro; rfl
  isplitl [H3]
  · iexists _; isplitr; swap; · iexact H3
    ipureintro; rfl
  isplitl [H8]
  · iexists _; isplitr; swap; · iexact H8
    ipureintro
    unfold startO
    rw [View.read_writes_full, View.readAt_full]
  iexists _; isplitr; swap; · iexact H9
  ipureintro
  unfold startX
  rw [View.read_writes_full, View.readAt_full, View.readAt_full]

theorem upHalf_spec (c : Dev nD) (first : BitVec 1) (arg4 : Memref sig .tc .vmem S1024x5632 .bf16) (arg9 : Memref sig .tc .vmem S1x512x1024 .bf16) (arg14 : Memref sig .tc .vmem S11x8x512 .f32) (hb : Memref sig .tc .vmem S520x512 .f32) (k n : ℕ) (hk : k < 2) (hn : n < 11)
    (w4 : Vec F S1024x5632 .bf16) (xn : Vec F S1x512x1024 .bf16) (C : Vec F S11x8x512 .f32) (H : Vec F S520x512 .f32) (E : Set ℕ) (K : PUnit → sProp 𝕄) :
    iprop(owns (c : Thread nD τ) arg4 fullShare w4 ∗ owns (c : Thread nD τ) arg9 fullShare xn ∗ owns (c : Thread nD τ) arg14 fullShare C ∗ owns (c : Thread nD τ) hb fullShare H
        ∗ (iprop(owns (c : Thread nD τ) arg4 fullShare w4 ∗ owns (c : Thread nD τ) arg9 fullShare xn ∗ owns (c : Thread nD τ) arg14 fullShare (halfC w4 xn k n hk hn C) ∗ owns (c : Thread nD τ) hb fullShare (halfH first w4 xn k n hk hn C H)) -∗ K ⟨⟩))
      ⊢ wp frame (wpE (defs₀ (F := F)) Variants.none c none) E (upHalf first arg4 arg9 arg14 hb k n hk hn) K := by
  unfold upHalf owns
  iintro ⟨⟨%f2, %h2, H2⟩, ⟨%f3, %h3, H3⟩, ⟨%f8, %h8, H8⟩, ⟨%f9, %h9, H9⟩, Hk⟩
  subst h2; subst h3; subst h8; subst h9
  sl_exec
  sl_step
  iapply Hk
  isplitl [H2]
  · iexists _; isplitr; swap; · iexact H2
    ipureintro; rfl
  isplitl [H3]
  · iexists _; isplitr; swap; · iexact H3
    ipureintro; rfl
  isplitl [H8]
  · iexists _; isplitr; swap; · iexact H8
    ipureintro
    rw [View.read_writes_cons_put _ _ _ _ _ rfl, View.writes_nil, View.readAt_full arg9.view, View.readAt_unit arg4.view _ (inb_up hk hn) rfl (inb_up hk hn)]; rfl
  iexists _; isplitr; swap; · iexact H9
  ipureintro
  rw [View.read_writes_cons_put _ _ _ _ _ rfl, View.read_writes_cons_put _ _ _ _ _ rfl, View.writes_nil, View.readAt_full arg9.view, View.readAt_unit arg4.view _ (inb_up hk hn) rfl (inb_up hk hn), View.readAt_unit arg14.view _ (inb_carry hk hn) rfl (inb_carry hk hn)]; rfl

theorem gate_spec (c : Dev nD) (arg5 : Memref sig .tc .vmem S8x5632 .f32) (hb : Memref sig .tc .vmem S520x512 .f32) (ab : Memref sig .tc .vmem S512x256 .bf16) (hab : ab.IsWhole) (n : ℕ) (hn : n < 11)
    (taps : Vec F S8x5632 .f32) (H : Vec F S520x512 .f32) (a : Vec F S512x256 .bf16) (E : Set ℕ) (K : PUnit → sProp 𝕄) :
    iprop(owns (c : Thread nD τ) arg5 fullShare taps ∗ owns (c : Thread nD τ) hb fullShare H ∗ owns (c : Thread nD τ) ab fullShare a
        ∗ (iprop(owns (c : Thread nD τ) arg5 fullShare taps ∗ owns (c : Thread nD τ) hb fullShare H ∗ owns (c : Thread nD τ) ab fullShare (gateV taps H n hn)) -∗ K ⟨⟩))
      ⊢ wp frame (wpE (defs₀ (F := F)) Variants.none c none) E (gate arg5 hb ab hab n hn) K := by
  unfold gate convHalf owns
  iintro ⟨⟨%f2, %h2, H2⟩, ⟨%f3, %h3, H3⟩, ⟨%f8, %h8, H8⟩, Hk⟩
  subst h2; subst h3; subst h8
  sl_exec
  sl_step
  iapply Hk
  isplitl [H2]
  · iexists _; isplitr; swap; · iexact H2
    ipureintro; rfl
  isplitl [H3]
  · iexists _; isplitr; swap; · iexact H3
    ipureintro; rfl
  iexists _; isplitr; swap; · iexact H8
  ipureintro
  rw [View.read_writes_full]; rfl

theorem down_spec (c : Dev nD) (arg6 : Memref sig .tc .vmem S2816x1024 .bf16) (arg8 : Memref sig .tc .vmem S1x512x1024 .f32) (ab : Memref sig .tc .vmem S512x256 .bf16) (n : ℕ) (hn : n < 11)
    (w6 : Vec F S2816x1024 .bf16) (o : Vec F S1x512x1024 .f32) (a : Vec F S512x256 .bf16) (E : Set ℕ) (K : PUnit → sProp 𝕄) :
    iprop(owns (c : Thread nD τ) arg6 fullShare w6 ∗ owns (c : Thread nD τ) arg8 fullShare o ∗ owns (c : Thread nD τ) ab fullShare a
        ∗ (iprop(owns (c : Thread nD τ) arg6 fullShare w6 ∗ owns (c : Thread nD τ) arg8 fullShare (downV w6 o a n hn) ∗ owns (c : Thread nD τ) ab fullShare a) -∗ K ⟨⟩))
      ⊢ wp frame (wpE (defs₀ (F := F)) Variants.none c none) E (down arg6 arg8 ab n hn) K := by
  unfold down owns
  iintro ⟨⟨%f2, %h2, H2⟩, ⟨%f3, %h3, H3⟩, ⟨%f8, %h8, H8⟩, Hk⟩
  subst h2; subst h3; subst h8
  sl_exec
  sl_step
  iapply Hk
  isplitl [H2]
  · iexists _; isplitr; swap; · iexact H2
    ipureintro; rfl
  isplitl [H3]
  · iexists _; isplitr; swap; · iexact H3
    ipureintro
    rw [View.read_writes_full, View.readAt_full, View.readAt_full, View.readAt_unit _ _ (inb_down hn) rfl (inb_down hn)]; rfl
  iexists _; isplitr; swap; · iexact H8
  ipureintro; rfl

theorem finish_spec (c : Dev nD) (arg7 : Memref sig .tc .vmem S1x1024 .f32) (arg8 : Memref sig .tc .vmem S1x512x1024 .f32)
    (g : Vec F S1x1024 .f32) (o : Vec F S1x512x1024 .f32) (E : Set ℕ) (K : PUnit → sProp 𝕄) :
    iprop(owns (c : Thread nD τ) arg7 fullShare g ∗ owns (c : Thread nD τ) arg8 fullShare o
        ∗ (iprop(owns (c : Thread nD τ) arg7 fullShare g ∗ owns (c : Thread nD τ) arg8 fullShare (finishO g o)) -∗ K ⟨⟩))
      ⊢ wp frame (wpE (defs₀ (F := F)) Variants.none c none) E (finish arg7 arg8) K := by
  unfold finish owns
  iintro ⟨⟨%f2, %h2, H2⟩, ⟨%f3, %h3, H3⟩, Hk⟩
  subst h2; subst h3
  sl_exec
  sl_step
  iapply Hk
  isplitl [H2]
  · iexists _; isplitr; swap; · iexact H2
    ipureintro; rfl
  iexists _; isplitr; swap; · iexact H3
  ipureintro
  rw [View.read_writes_full, View.readAt_full, View.readAt_full]; rfl

end Cert.Kernel2Ideal.Ffn

end
-- ==== Proof.Ffn.Whole.lean ====
module

public import proofs.«01_k».proof.Proof.Ffn.Specs

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem up_spec (c : Dev nD) (first : BitVec 1) (arg4 : Memref sig .tc .vmem S1024x5632 .bf16) (arg9 : Memref sig .tc .vmem S1x512x1024 .bf16) (arg14 : Memref sig .tc .vmem S11x8x512 .f32) (hb : Memref sig .tc .vmem S520x512 .f32) (n : ℕ) (hn : n < 11)
    (w4 : Vec F S1024x5632 .bf16) (xn : Vec F S1x512x1024 .bf16) (C : Vec F S11x8x512 .f32) (H : Vec F S520x512 .f32) (E : Set ℕ) (K : PUnit → sProp 𝕄) :
    iprop(owns (c : Thread nD τ) arg4 fullShare w4 ∗ owns (c : Thread nD τ) arg9 fullShare xn ∗ owns (c : Thread nD τ) arg14 fullShare C ∗ owns (c : Thread nD τ) hb fullShare H
        ∗ (iprop(owns (c : Thread nD τ) arg4 fullShare w4 ∗ owns (c : Thread nD τ) arg9 fullShare xn ∗ owns (c : Thread nD τ) arg14 fullShare (upC w4 xn n hn C) ∗ owns (c : Thread nD τ) hb fullShare (upH first w4 xn n hn C H)) -∗ K ⟨⟩))
      ⊢ wp frame (wpE (defs₀ (F := F)) Variants.none c none) E (up first arg4 arg9 arg14 hb n hn) K := by
  unfold up
  rw [wp_bind]
  iintro ⟨H4, H9, H14, Hb, Hk⟩
  iapply (upHalf_spec c first arg4 arg9 arg14 hb 0 n _ hn w4 xn C H E _)
  isplitl [H4]; · iexact H4
  isplitl [H9]; · iexact H9
  isplitl [H14]; · iexact H14
  isplitl [Hb]; · iexact Hb
  iintro ⟨H4, H9, H14, Hb⟩
  iapply (upHalf_spec c first arg4 arg9 arg14 hb 1 n _ hn w4 xn _ _ E _)
  isplitl [H4]; · iexact H4
  isplitl [H9]; · iexact H9
  isplitl [H14]; · iexact H14
  isplitl [Hb]; · iexact Hb
  iexact Hk

/-- The vectors that the turns change: the two row buffers, the two gated buffers, the output block, the carried rows. -/
structure St (F : FTy → Type) [FloatOps F] where
  hA : Vec F S520x512 .f32
  hB : Vec F S520x512 .f32
  aA : Vec F S512x256 .bf16
  aB : Vec F S512x256 .bf16
  o : Vec F S1x512x1024 .f32
  C : Vec F S11x8x512 .f32

/-- One turn at chunk `i`; the buffers change places. -/
def turnS (first : BitVec 1) (w4 : Vec F S1024x5632 .bf16) (taps : Vec F S8x5632 .f32) (w6 : Vec F S2816x1024 .bf16) (xn : Vec F S1x512x1024 .bf16) (i : ℕ) (hi : i < 10) (s : St F) : St F :=
  ⟨s.hB, upH first w4 xn (i + 1) (by omega) s.C s.hA, gateV taps s.hB i (by omega), s.aA, downV w6 s.o s.aA (i - 1) (by omega), upC w4 xn (i + 1) (by omega) s.C⟩

def turnsS (first : BitVec 1) (w4 : Vec F S1024x5632 .bf16) (taps : Vec F S8x5632 .f32) (w6 : Vec F S2816x1024 .bf16) (xn : Vec F S1x512x1024 .bf16) : (n i : ℕ) → i + n ≤ 10 → St F → St F
  | 0, _, _, s => s
  | n + 1, i, h, s => turnsS first w4 taps w6 xn n (i + 1) (by omega) (turnS first w4 taps w6 xn i (by omega) s)

/-- The first of two if `n` is even, the second if it is odd. -/
def pick {α : Type} : ℕ → α → α → α
  | 0, a, _ => a
  | n + 1, a, b => pick n b a

theorem turns_spec (c : Dev nD) (first : BitVec 1) (arg4 : Memref sig .tc .vmem S1024x5632 .bf16) (arg5 : Memref sig .tc .vmem S8x5632 .f32) (arg6 : Memref sig .tc .vmem S2816x1024 .bf16) (arg8 : Memref sig .tc .vmem S1x512x1024 .f32) (arg9 : Memref sig .tc .vmem S1x512x1024 .bf16) (arg14 : Memref sig .tc .vmem S11x8x512 .f32) (w4 : Vec F S1024x5632 .bf16) (taps : Vec F S8x5632 .f32) (w6 : Vec F S2816x1024 .bf16) (xn : Vec F S1x512x1024 .bf16) (E : Set ℕ) (K : PUnit → sProp 𝕄) (n : ℕ) :
    ∀ (i : ℕ) (h : i + n ≤ 10) (hA hB : Memref sig .tc .vmem S520x512 .f32) (aA aB : Memref sig .tc .vmem S512x256 .bf16) (wA : aA.IsWhole) (wB : aB.IsWhole) (s : St F),
    iprop(owns (c : Thread nD τ) arg4 fullShare w4 ∗ owns (c : Thread nD τ) arg5 fullShare taps ∗ owns (c : Thread nD τ) arg6 fullShare w6 ∗ owns (c : Thread nD τ) arg9 fullShare xn ∗ owns (c : Thread nD τ) arg8 fullShare s.o ∗ owns (c : Thread nD τ) arg14 fullShare s.C ∗ owns (c : Thread nD τ) hA fullShare s.hA ∗ owns (c : Thread nD τ) hB fullShare s.hB ∗ owns (c : Thread nD τ) aA fullShare s.aA ∗ owns (c : Thread nD τ) aB fullShare s.aB
        ∗ (iprop(owns (c : Thread nD τ) arg4 fullShare w4 ∗ owns (c : Thread nD τ) arg5 fullShare taps ∗ owns (c : Thread nD τ) arg6 fullShare w6 ∗ owns (c : Thread nD τ) arg9 fullShare xn ∗ owns (c : Thread nD τ) arg8 fullShare (turnsS first w4 taps w6 xn n i h s).o ∗ owns (c : Thread nD τ) arg14 fullShare (turnsS first w4 taps w6 xn n i h s).C ∗ owns (c : Thread nD τ) (pick n hA hB) fullShare (turnsS first w4 taps w6 xn n i h s).hA ∗ owns (c : Thread nD τ) (pick n hB hA) fullShare (turnsS first w4 taps w6 xn n i h s).hB ∗ owns (c : Thread nD τ) (pick n aA aB) fullShare (turnsS first w4 taps w6 xn n i h s).aA ∗ owns (c : Thread nD τ) (pick n aB aA) fullShare (turnsS first w4 taps w6 xn n i h s).aB) -∗ K ⟨⟩))
      ⊢ wp frame (wpE (defs₀ (F := F)) Variants.none c none) E (turns first arg4 arg5 arg6 arg8 arg9 arg14 n i h hA hB aA aB wA wB) K := by
  induction n with
  | zero =>
    intro i h hA hB aA aB wA wB s
    show _ ⊢ wp frame (wpE (defs₀ (F := F)) Variants.none c none) E (pure ⟨⟩) K
    rw [wp_pure]
    iintro ⟨H4, H5, H6, H9, H8, H14, HA, HB, GA, GB, Hk⟩
    imodintro
    iapply Hk
    isplitl [H4]; · iexact H4
    isplitl [H5]; · iexact H5
    isplitl [H6]; · iexact H6
    isplitl [H9]; · iexact H9
    isplitl [H8]; · iexact H8
    isplitl [H14]; · iexact H14
    isplitl [HA]; · iexact HA
    isplitl [HB]; · iexact HB
    isplitl [GA]; · iexact GA
    iexact GB
  | succ n ih =>
    intro i h hA hB aA aB wA wB s
    unfold turns
    rw [wp_bind]
    simp only [wp_bind]
    iintro ⟨H4, H5, H6, H9, H8, H14, HA, HB, GA, GB, Hk⟩
    iapply (up_spec c first arg4 arg9 arg14 hA (i + 1) _ w4 xn s.C s.hA E _)
    isplitl [H4]; · iexact H4
    isplitl [H9]; · iexact H9
    isplitl [H14]; · iexact H14
    isplitl [HA]; · iexact HA
    iintro ⟨H4, H9, H14, HA⟩
    iapply (down_spec c arg6 arg8 aA (i - 1) _ w6 s.o s.aA E _)
    isplitl [H6]; · iexact H6
    isplitl [H8]; · iexact H8
    isplitl [GA]; · iexact GA
    iintro ⟨H6, H8, GA⟩
    iapply (gate_spec c arg5 hB aB wB i _ taps s.hB s.aB E _)
    isplitl [H5]; · iexact H5
    isplitl [HB]; · iexact HB
    isplitl [GB]; · iexact GB
    iintro ⟨H5, HB, GB⟩
    iapply (ih (i + 1) _ hB hA aB aA wB wA (turnS first w4 taps w6 xn i _ s))
    isplitl [H4]; · iexact H4
    isplitl [H5]; · iexact H5
    isplitl [H6]; · iexact H6
    isplitl [H9]; · iexact H9
    isplitl [H8]; · iexact H8
    isplitl [H14]; · iexact H14
    isplitl [HB]; · iexact HB
    isplitl [HA]; · iexact HA
    isplitl [GB]; · iexact GB
    isplitl [GA]; · iexact GA
    iexact Hk

/-- The vectors after the first chunk. -/
def beginS (first : BitVec 1) (w4 : Vec F S1024x5632 .bf16) (taps : Vec F S8x5632 .f32) (w6 : Vec F S2816x1024 .bf16) (xn : Vec F S1x512x1024 .bf16) (o : Vec F S1x512x1024 .f32) (H0 H1 : Vec F S520x512 .f32) (a0 a1 : Vec F S512x256 .bf16) (C : Vec F S11x8x512 .f32) : St F :=
  ⟨upH first w4 xn 0 (by omega) C H0, upH first w4 xn 1 (by omega) (upC w4 xn 0 (by omega) C) H1, gateV taps (upH first w4 xn 0 (by omega) C H0) 0 (by omega), a1, o,
    upC w4 xn 1 (by omega) (upC w4 xn 0 (by omega) C)⟩

/-- The vectors after the turns. -/
def midS (first : BitVec 1) (w4 : Vec F S1024x5632 .bf16) (taps : Vec F S8x5632 .f32) (w6 : Vec F S2816x1024 .bf16) (xn : Vec F S1x512x1024 .bf16) (o : Vec F S1x512x1024 .f32) (H0 H1 : Vec F S520x512 .f32) (a0 a1 : Vec F S512x256 .bf16) (C : Vec F S11x8x512 .f32) : St F :=
  turnsS first w4 taps w6 xn 9 1 (by omega) (beginS first w4 taps w6 xn o H0 H1 a0 a1 C)

/-- The output block before the last norm. -/
def sumS (first : BitVec 1) (w4 : Vec F S1024x5632 .bf16) (taps : Vec F S8x5632 .f32) (w6 : Vec F S2816x1024 .bf16) (xn : Vec F S1x512x1024 .bf16) (o : Vec F S1x512x1024 .f32) (H0 H1 : Vec F S520x512 .f32) (a0 a1 : Vec F S512x256 .bf16) (C : Vec F S11x8x512 .f32) : Vec F S1x512x1024 .f32 :=
  downV w6 (downV w6 (midS first w4 taps w6 xn o H0 H1 a0 a1 C).o (midS first w4 taps w6 xn o H0 H1 a0 a1 C).aA 9 (by omega)) (gateV taps (midS first w4 taps w6 xn o H0 H1 a0 a1 C).hB 10 (by omega)) 10 (by omega)

set_option maxHeartbeats 1000000 in
/-- The body run once. -/
theorem body_spec (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S8x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x1024 .bf16) (harg9 : arg9.IsWhole) (arg10 : Memref sig .tc .vmem S520x512 .f32) (harg10 : arg10.IsWhole) (arg11 : Memref sig .tc .vmem S520x512 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S11x8x512 .f32) (harg14 : arg14.IsWhole)
    (x : Vec F S1x512x1024 .f32) (g : Vec F S1x1024 .f32) (w4 : Vec F S1024x5632 .bf16) (taps : Vec F S8x5632 .f32) (w6 : Vec F S2816x1024 .bf16) (g7 : Vec F S1x1024 .f32) (o : Vec F S1x512x1024 .f32)
    (xn : Vec F S1x512x1024 .bf16) (H0 H1 : Vec F S520x512 .f32) (a0 a1 : Vec F S512x256 .bf16) (C : Vec F S11x8x512 .f32) (E : Set ℕ) (K : PUnit → sProp 𝕄) :
    iprop(owns (c : Thread nD τ) arg2 fullShare x ∗ owns (c : Thread nD τ) arg3 fullShare g ∗ owns (c : Thread nD τ) arg4 fullShare w4 ∗ owns (c : Thread nD τ) arg5 fullShare taps ∗ owns (c : Thread nD τ) arg6 fullShare w6 ∗ owns (c : Thread nD τ) arg7 fullShare g7 ∗ owns (c : Thread nD τ) arg8 fullShare o ∗ owns (c : Thread nD τ) arg9 fullShare xn ∗ owns (c : Thread nD τ) arg10 fullShare H0 ∗ owns (c : Thread nD τ) arg11 fullShare H1 ∗ owns (c : Thread nD τ) arg12 fullShare a0 ∗ owns (c : Thread nD τ) arg13 fullShare a1 ∗ owns (c : Thread nD τ) arg14 fullShare C
        ∗ (iprop(owns (c : Thread nD τ) arg2 fullShare x ∗ owns (c : Thread nD τ) arg3 fullShare g ∗ owns (c : Thread nD τ) arg4 fullShare w4 ∗ owns (c : Thread nD τ) arg5 fullShare taps ∗ owns (c : Thread nD τ) arg6 fullShare w6 ∗ owns (c : Thread nD τ) arg7 fullShare g7 ∗ owns (c : Thread nD τ) arg8 fullShare (finishO g7 (sumS (isFirst i) w4 taps w6 (startX x g) (startO x) H0 H1 a0 a1 C))
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ owns (c : Thread nD τ) arg14 fullShare (midS (isFirst i) w4 taps w6 (startX x g) (startO x) H0 H1 a0 a1 C).C) -∗ K ⟨⟩))
      ⊢ wp frame (wpE (defs₀ (F := F)) Variants.none c none) E (cc0_ffn_final (F := F) i arg2 harg2 arg3 harg3 arg4 harg4 arg5 harg5 arg6 harg6 arg7 harg7 arg8 harg8 arg9 harg9 arg10 harg10 arg11 harg11 arg12 harg12 arg13 harg13 arg14 harg14) K := by
  rw [body_eq]
  simp only [wp_bind]
  iintro ⟨H2, H3, H4, H5, H6, H7, H8, H9, H10, H11, H12, H13, H14, Hk⟩
  iapply (start_spec c arg2 arg3 arg8 arg9 harg9 x g o xn E _)
  isplitl [H2]; · iexact H2
  isplitl [H3]; · iexact H3
  isplitl [H8]; · iexact H8
  isplitl [H9]; · iexact H9
  iintro ⟨H2, H3, H8, H9⟩
  iapply (up_spec c (isFirst i) arg4 arg9 arg14 arg10 0 _ w4 _ C H0 E _)
  isplitl [H4]; · iexact H4
  isplitl [H9]; · iexact H9
  isplitl [H14]; · iexact H14
  isplitl [H10]; · iexact H10
  iintro ⟨H4, H9, H14, H10⟩
  iapply (up_spec c (isFirst i) arg4 arg9 arg14 arg11 1 _ w4 _ _ H1 E _)
  isplitl [H4]; · iexact H4
  isplitl [H9]; · iexact H9
  isplitl [H14]; · iexact H14
  isplitl [H11]; · iexact H11
  iintro ⟨H4, H9, H14, H11⟩
  iapply (gate_spec c arg5 arg10 arg12 harg12 0 _ taps _ a0 E _)
  isplitl [H5]; · iexact H5
  isplitl [H10]; · iexact H10
  isplitl [H12]; · iexact H12
  iintro ⟨H5, H10, H12⟩
  iapply (turns_spec c (isFirst i) arg4 arg5 arg6 arg8 arg9 arg14 w4 taps w6 (startX x g) E _ 9 1 _ arg10 arg11 arg12 arg13 harg12 harg13 (beginS (isFirst i) w4 taps w6 (startX x g) (startO x) H0 H1 a0 a1 C))
  isplitl [H4]; · iexact H4
  isplitl [H5]; · iexact H5
  isplitl [H6]; · iexact H6
  isplitl [H9]; · iexact H9
  isplitl [H8]; · iexact H8
  isplitl [H14]; · iexact H14
  isplitl [H10]; · iexact H10
  isplitl [H11]; · iexact H11
  isplitl [H12]; · iexact H12
  isplitl [H13]; · iexact H13
  iintro ⟨H4, H5, H6, H9, H8, H14, H11, H10, H13, H12⟩
  iapply (down_spec c arg6 arg8 arg13 9 _ w6 _ _ E _)
  isplitl [H6]; · iexact H6
  isplitl [H8]; · iexact H8
  isplitl [H13]; · iexact H13
  iintro ⟨H6, H8, H13⟩
  iapply (gate_spec c arg5 arg10 arg12 harg12 10 _ taps _ _ E _)
  isplitl [H5]; · iexact H5
  isplitl [H10]; · iexact H10
  isplitl [H12]; · iexact H12
  iintro ⟨H5, H10, H12⟩
  iapply (down_spec c arg6 arg8 arg12 10 _ w6 _ _ E _)
  isplitl [H6]; · iexact H6
  isplitl [H8]; · iexact H8
  isplitl [H12]; · iexact H12
  iintro ⟨H6, H8, H12⟩
  iapply (finish_spec c arg7 arg8 g7 _ E _)
  isplitl [H7]; · iexact H7
  isplitl [H8]; · iexact H8
  iintro ⟨H7, H8⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iexact H14

end Cert.Kernel2Ideal.Ffn

end
-- ==== Proof.Ffn.State.lean ====
module

public import proofs.«01_k».proof.Proof.Ffn.Whole

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What the body leaves, without the old contents of its scratch buffers -/

theorem put4_congr {α : Type} (H H' : S520x512.Idx → α) (z0 z1 : ((a : Fin 2) → Fin (S8x256.size a)) → α) (m0 m1 : ((a : Fin 2) → Fin (S512x256.size a)) → α) :
    VecWindow.put (s := S520x512) (VecWindow.put (s := S520x512) (VecWindow.put (s := S520x512) (VecWindow.put (s := S520x512) H ![0, lane 0] S8x256.size z0) ![8, lane 0] S512x256.size m0) ![0, lane 1] S8x256.size z1) ![8, lane 1] S512x256.size m1
      = VecWindow.put (s := S520x512) (VecWindow.put (s := S520x512) (VecWindow.put (s := S520x512) (VecWindow.put (s := S520x512) H' ![0, lane 0] S8x256.size z0) ![8, lane 0] S512x256.size m0) ![0, lane 1] S8x256.size z1) ![8, lane 1] S512x256.size m1 := by
  funext y
  have b0 : (y 0).val < 520 := (y 0).isLt
  have b1 : (y 1).val < 512 := (y 1).isLt
  unfold VecWindow.put
  by_cases h1 : ∀ a, (![8, lane 1] : Fin 2 → ℕ) a ≤ (y a).val ∧ (y a).val < (![8, lane 1] : Fin 2 → ℕ) a + S512x256.size a
  · rw [dif_pos h1, dif_pos h1]
  rw [dif_neg h1, dif_neg h1]
  by_cases h2 : ∀ a, (![0, lane 1] : Fin 2 → ℕ) a ≤ (y a).val ∧ (y a).val < (![0, lane 1] : Fin 2 → ℕ) a + S8x256.size a
  · rw [dif_pos h2, dif_pos h2]
  rw [dif_neg h2, dif_neg h2]
  by_cases h3 : ∀ a, (![8, lane 0] : Fin 2 → ℕ) a ≤ (y a).val ∧ (y a).val < (![8, lane 0] : Fin 2 → ℕ) a + S512x256.size a
  · rw [dif_pos h3, dif_pos h3]
  rw [dif_neg h3, dif_neg h3]
  by_cases h4 : ∀ a, (![0, lane 0] : Fin 2 → ℕ) a ≤ (y a).val ∧ (y a).val < (![0, lane 0] : Fin 2 → ℕ) a + S8x256.size a
  · rw [dif_pos h4, dif_pos h4]
  exfalso
  have e : ∀ (o l p q : ℕ) , (o ≤ (y 0).val ∧ (y 0).val < o + p) → (l ≤ (y 1).val ∧ (y 1).val < l + q) → ∀ a : Fin 2, (![o, l] : Fin 2 → ℕ) a ≤ (y a).val ∧ (y a).val < (![o, l] : Fin 2 → ℕ) a + (![p, q] : Fin 2 → ℕ) a := by
    intro o l p q h h' a
    fin_cases a
    · exact h
    · exact h'
  by_cases r : (y 0).val < 8 <;> by_cases l : (y 1).val < 256
  · exact h4 (e 0 0 8 256 (by omega) (by omega))
  · exact h2 (e 0 256 8 256 (by omega) (by omega))
  · exact h3 (e 8 0 512 256 (by omega) (by omega))
  · exact h1 (e 8 256 512 256 (by omega) (by omega))

variable (w4 : Vec F S1024x5632 .bf16) (xn : Vec F S1x512x1024 .bf16)

theorem halfC_same (k c : ℕ) (hk : k < 2) (hc : c < 11) (C : Vec F S11x8x512 .f32) :
    VecWindow.window (halfC w4 xn k c hk hc C) ![c, 0, lane k] S1x8x256.size (inb_carry hk hc) = lastRows (prodV w4 xn k c hk hc) :=
  VecWindow.window_put_same _ _ _ _ _

theorem halfC_other (k c : ℕ) (hk : k < 2) (hc : c < 11) (C : Vec F S11x8x512 .f32) (k' c' : ℕ) (hk' : k' < 2) (hc' : c' < 11) (h : k ≠ k' ∨ c ≠ c') :
    VecWindow.window (halfC w4 xn k c hk hc C) ![c', 0, lane k'] S1x8x256.size (inb_carry hk' hc') = VecWindow.window C ![c', 0, lane k'] S1x8x256.size (inb_carry hk' hc') := by
  by_cases e : c = c'
  · have hkk : k ≠ k' := h.resolve_right (not_not_intro e)
    refine VecWindow.window_put_of_disjoint _ _ _ _ _ _ _ 2 ?_
    show k' * 256 + 256 ≤ k * 256 ∨ k * 256 + 256 ≤ k' * 256
    omega
  · refine VecWindow.window_put_of_disjoint _ _ _ _ _ _ _ 0 ?_
    show c' + 1 ≤ c ∨ c + 1 ≤ c'
    omega

theorem upC_same (k c : ℕ) (hk : k < 2) (hc : c < 11) (C : Vec F S11x8x512 .f32) :
    VecWindow.window (upC w4 xn c hc C) ![c, 0, lane k] S1x8x256.size (inb_carry hk hc) = lastRows (prodV w4 xn k c hk hc) := by
  unfold upC
  obtain rfl | rfl : k = 0 ∨ k = 1 := by omega
  · rw [halfC_other w4 xn 1 c _ hc _ 0 c hk hc (.inl (by decide)), halfC_same]
  · rw [halfC_same]

theorem upC_other (c : ℕ) (hc : c < 11) (C : Vec F S11x8x512 .f32) (k' c' : ℕ) (hk' : k' < 2) (hc' : c' < 11) (h : c ≠ c') :
    VecWindow.window (upC w4 xn c hc C) ![c', 0, lane k'] S1x8x256.size (inb_carry hk' hc') = VecWindow.window C ![c', 0, lane k'] S1x8x256.size (inb_carry hk' hc') := by
  unfold upC
  rw [halfC_other w4 xn 1 c _ hc _ k' c' hk' hc' (.inr h), halfC_other w4 xn 0 c _ hc _ k' c' hk' hc' (.inr h)]

/-- The eight rows before a block, for each half of each chunk. -/
abbrev Halo (F : FTy → Type) [FloatOps F] := (k c : ℕ) → k < 2 → c < 11 → FVec F S8x256 .f32

/-- The row buffer of chunk `c`. -/
def rowsV (Z : Halo F) (c : ℕ) (hc : c < 11) : Vec F S520x512 .f32 :=
  VecWindow.put (s := S520x512) (VecWindow.put (s := S520x512) (VecWindow.put (s := S520x512) (VecWindow.put (s := S520x512) (constant S520x512 .f32 0x00000000#32 : FVec F S520x512 .f32) ![0, lane 0] S8x256.size (Z 0 c (by omega) hc)) ![8, lane 0] S512x256.size
    (shapeCast S512x256 (prodV w4 xn 0 c (by omega) hc) shapeCasts_S512x256_S512x256)) ![0, lane 1] S8x256.size (Z 1 c (by omega) hc)) ![8, lane 1] S512x256.size (shapeCast S512x256 (prodV w4 xn 1 c (by omega) hc) shapeCasts_S512x256_S512x256)

theorem upH_eq (first : BitVec 1) (Z : Halo F) (c : ℕ) (hc : c < 11) (C : Vec F S11x8x512 .f32) (H : Vec F S520x512 .f32)
    (hZ : ∀ k hk, halo first (VecWindow.window C ![c, 0, lane k] S1x8x256.size (inb_carry hk hc)) = Z k c hk hc) :
    upH first w4 xn c hc C H = rowsV w4 xn Z c hc := by
  unfold upH rowsV halfH
  rw [halfC_other w4 xn 0 c _ hc C 1 c (by decide) hc (.inl (by decide)), hZ 0, hZ 1]
  exact put4_congr _ _ _ _ _ _

variable (taps : Vec F S8x5632 .f32) (w6 : Vec F S2816x1024 .bf16) (Z : Halo F) (o : Vec F S1x512x1024 .f32)

/-- The output block after the first `n` chunks. -/
def sumV : ℕ → Vec F S1x512x1024 .f32
  | 0 => o
  | n + 1 => if h : n < 11 then downV w6 (sumV n) (gateV taps (rowsV w4 xn Z n h) n h) n h else sumV n

/-- The state before the turn of chunk `i`, if the carried rows were `C` at the start. -/
structure Inv (C : Vec F S11x8x512 .f32) (i : ℕ) (hi : i < 11) (s : St F) : Prop where
  hB : s.hB = rowsV w4 xn Z i hi
  aA : s.aA = gateV taps (rowsV w4 xn Z (i - 1) (by omega)) (i - 1) (by omega)
  o : s.o = sumV w4 xn taps w6 Z o (i - 1)
  done : ∀ k j hk (hj : j < 11), j ≤ i → VecWindow.window s.C ![j, 0, lane k] S1x8x256.size (inb_carry hk hj) = lastRows (prodV w4 xn k j hk hj)
  todo : ∀ k j hk (hj : j < 11), i < j → VecWindow.window s.C ![j, 0, lane k] S1x8x256.size (inb_carry hk hj) = VecWindow.window C ![j, 0, lane k] S1x8x256.size (inb_carry hk hj)

variable (first : BitVec 1) (C : Vec F S11x8x512 .f32)
  (hZ : ∀ k c hk (hc : c < 11), halo first (VecWindow.window C ![c, 0, lane k] S1x8x256.size (inb_carry hk hc)) = Z k c hk hc)

include hZ

theorem inv_begin (H0 H1 : Vec F S520x512 .f32) (a0 a1 : Vec F S512x256 .bf16) :
    Inv w4 xn taps w6 Z o C 1 (by decide) (beginS first w4 taps w6 xn o H0 H1 a0 a1 C) where
  hB := by
    show upH first w4 xn 1 _ (upC w4 xn 0 _ C) H1 = _
    refine upH_eq w4 xn first Z 1 (by decide) _ _ fun k hk => ?_
    rw [upC_other w4 xn 0 _ C k 1 hk (by decide) (by decide)]
    exact hZ k 1 hk (by omega)
  aA := by
    show gateV taps (upH first w4 xn 0 _ C H0) 0 _ = gateV taps (rowsV w4 xn Z 0 _) 0 _
    rw [upH_eq w4 xn first Z 0 _ C H0 fun k hk => hZ k 0 hk _]
  o := rfl
  done := by
    intro k j hk hj h
    show VecWindow.window (upC w4 xn 1 _ (upC w4 xn 0 _ C)) _ _ _ = _
    obtain rfl | rfl : j = 0 ∨ j = 1 := by omega
    · rw [upC_other w4 xn 1 _ _ k 0 hk hj (by decide), upC_same]
    · rw [upC_same]
  todo := by
    intro k j hk hj h
    show VecWindow.window (upC w4 xn 1 _ (upC w4 xn 0 _ C)) _ _ _ = _
    rw [upC_other w4 xn 1 _ _ k j hk hj (by omega), upC_other w4 xn 0 _ _ k j hk hj (by omega)]

theorem inv_turn (i : ℕ) (hi : i < 10) (h1 : 1 ≤ i) (s : St F) (h : Inv w4 xn taps w6 Z o C i (by omega) s) :
    Inv w4 xn taps w6 Z o C (i + 1) (by omega) (turnS first w4 taps w6 xn i hi s) where
  hB := by
    show upH first w4 xn (i + 1) _ s.C s.hA = _
    refine upH_eq w4 xn first Z (i + 1) (by omega) _ _ fun k hk => ?_
    rw [h.todo k (i + 1) hk (by omega) (by omega)]
    exact hZ k (i + 1) hk (by omega)
  aA := by
    show gateV taps s.hB i _ = _
    rw [h.hB]; rfl
  o := by
    have e : i + 1 - 1 = i - 1 + 1 := by omega
    have b : i - 1 < 11 := by omega
    rw [e]
    refine Eq.trans ?_ (dif_pos b).symm
    show downV w6 s.o s.aA (i - 1) b = _
    rw [h.o, h.aA]
  done := by
    intro k j hk hj hji
    show VecWindow.window (upC w4 xn (i + 1) _ s.C) _ _ _ = _
    by_cases e : j = i + 1
    · subst e; rw [upC_same]
    · rw [upC_other w4 xn (i + 1) _ _ k j hk hj (by omega)]
      exact h.done k j hk hj (by omega)
  todo := by
    intro k j hk hj hji
    show VecWindow.window (upC w4 xn (i + 1) _ s.C) _ _ _ = _
    rw [upC_other w4 xn (i + 1) _ _ k j hk hj (by omega)]
    exact h.todo k j hk hj (by omega)

theorem inv_turns (n : ℕ) : ∀ (i : ℕ) (h : i + n ≤ 10) (h1 : 1 ≤ i) (s : St F), Inv w4 xn taps w6 Z o C i (by omega) s →
    Inv w4 xn taps w6 Z o C (i + n) (by omega) (turnsS first w4 taps w6 xn n i h s) := by
  induction n with
  | zero => intro i h h1 s hs; exact hs
  | succ n ih =>
    intro i h h1 s hs
    have := ih (i + 1) (by omega) (by omega) _ (inv_turn w4 xn taps w6 Z o first C hZ i (by omega) h1 s hs)
    have e : i + 1 + n = i + (n + 1) := by omega
    simp only [e] at this
    exact this

theorem inv_mid (H0 H1 : Vec F S520x512 .f32) (a0 a1 : Vec F S512x256 .bf16) :
    Inv w4 xn taps w6 Z o C 10 (by decide) (midS first w4 taps w6 xn o H0 H1 a0 a1 C) :=
  inv_turns w4 xn taps w6 Z o first C hZ 9 1 (by decide) (by decide) _ (inv_begin w4 xn taps w6 Z o first C hZ H0 H1 a0 a1)

/-- The output block before the last norm. -/
theorem sumS_eq (H0 H1 : Vec F S520x512 .f32) (a0 a1 : Vec F S512x256 .bf16) :
    sumS first w4 taps w6 xn o H0 H1 a0 a1 C = sumV w4 xn taps w6 Z o 11 := by
  have h := inv_mid w4 xn taps w6 Z o first C hZ H0 H1 a0 a1
  unfold sumS
  rw [h.hB, h.aA, h.o]
  rfl

/-- The rows that the body carries to the next point. -/
theorem carry_eq (H0 H1 : Vec F S520x512 .f32) (a0 a1 : Vec F S512x256 .bf16) (k j : ℕ) (hk : k < 2) (hj : j < 11) :
    VecWindow.window (midS first w4 taps w6 xn o H0 H1 a0 a1 C).C ![j, 0, lane k] S1x8x256.size (inb_carry hk hj) = lastRows (prodV w4 xn k j hk hj) :=
  (inv_mid w4 xn taps w6 Z o first C hZ H0 H1 a0 a1).done k j hk hj (by omega)

omit hZ in
/-- In the first block of a sequence the rows before are zeros, whatever is carried. -/
theorem halo_first (d d' : Vec F S1x8x256 .f32) : halo 1#1 d = halo 1#1 d' := rfl

end Cert.Kernel2Ideal.Ffn

end
-- ==== Proof.Ffn.Frame.lean ====
module

public import proofs.«01_k».proof.Proof.Ffn.State
public import Idealize.ShloMosaic.Lib.Claim
public import Idealize.ShloMosaic.Lib.Ring
public import Idealize.ShloMosaic.Lib.WordCmp

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run up to the kernel -/

/-- The buffers' contents when the kernel starts: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The frame claim from a run whose arrays are the proof data's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x5632 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x5632 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2816x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x1024 .f32 := win0_6.stage (cfg0.slots t 6)
abbrev hs0_6 (t : Fin cfg0.N) : (ms0_6 t).IsWhole := hstage0_6 ((cfg0.slots t 6).cast nbuf0_6)
abbrev scM0_0 : Memref sig .tc .vmem S1x512x1024 .bf16 := Memref.whole cc0_scratch0
abbrev scM0_1 : Memref sig .tc .vmem S520x512 .f32 := Memref.whole cc0_scratch1
abbrev scM0_2 : Memref sig .tc .vmem S520x512 .f32 := Memref.whole cc0_scratch2
abbrev scM0_3 : Memref sig .tc .vmem S512x256 .bf16 := Memref.whole cc0_scratch3
abbrev scM0_4 : Memref sig .tc .vmem S512x256 .bf16 := Memref.whole cc0_scratch4
abbrev scM0_5 : Memref sig .tc .vmem S11x8x512 .f32 := Memref.whole cc0_scratch5

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-! ## What each point leaves -/

/-- The blocks of point `t`, at their vector types. -/
abbrev xAt (c : Dev nD) (t : Fin cfg0.N) : Vec F S1x512x1024 .f32 := iblk m c 0 t
abbrev gAt (c : Dev nD) (t : Fin cfg0.N) : Vec F S1x1024 .f32 := iblk m c 1 t
abbrev w4At (c : Dev nD) (t : Fin cfg0.N) : Vec F S1024x5632 .bf16 := iblk m c 2 t
abbrev tapsAt (c : Dev nD) (t : Fin cfg0.N) : Vec F S8x5632 .f32 := iblk m c 3 t
abbrev w6At (c : Dev nD) (t : Fin cfg0.N) : Vec F S2816x1024 .bf16 := iblk m c 4 t
abbrev g7At (c : Dev nD) (t : Fin cfg0.N) : Vec F S1x1024 .f32 := iblk m c 5 t

/-- The normed rows of point `t`. -/
def xnAt (c : Dev nD) (t : Fin cfg0.N) : Vec F S1x512x1024 .bf16 := startX (xAt m c t) (gAt m c t)

/-- The rows that point `t` carries on. -/
def carried (c : Dev nD) (t : Fin cfg0.N) (k j : ℕ) (hk : k < 2) (hj : j < 11) : FVec F S1x8x256 .f32 :=
  lastRows (prodV (w4At m c t) (xnAt m c t) k j hk hj)

/-- The point before. -/
def prev (t : Fin cfg0.N) : Fin cfg0.N := ⟨t.val - 1, lt_of_le_of_lt (Nat.sub_le _ _) t.isLt⟩

/-- The eight rows before the block of point `t`. -/
def haloAt (c : Dev nD) (t : Fin cfg0.N) : Halo F := fun k j hk hj =>
  halo (isFirst (grid0.coords t)) (carried m c (prev t) k j hk hj)

/-- The output block of point `t`. -/
def outAt (c : Dev nD) (t : Fin cfg0.N) : Vec F S1x512x1024 .f32 :=
  finishO (g7At m c t) (sumV (w4At m c t) (xnAt m c t) (tapsAt m c t) (w6At m c t) (haloAt m c t) (startO (xAt m c t)) 11)

/-- What the carried rows are before point `t`: after the first point, those of the point before. -/
def Carries (c : Dev nD) (t : ℕ) (C : Vec F S11x8x512 .f32) : Prop :=
  ∀ s : Fin cfg0.N, s.val + 1 = t → ∀ k j hk hj, VecWindow.window C ![j, 0, lane k] S1x8x256.size (inb_carry hk hj) = carried m c s k j hk hj

/-- The invariant: the scratch buffers hold anything, but for the carried rows. -/
def Inv' (c : Dev nD) (t : ℕ) : sProp 𝕄 :=
  iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ C, ⌜Carries m c t C⌝ ∗ owns (c : Thread nD τ) scM0_5 fullShare C)) ∗ (∃ r, prngReg c r))

theorem isFirst_zero (t : Fin cfg0.N) (h : t.val = 0) : isFirst (grid0.coords t) = 1#1 := by
  obtain rfl : t = ⟨0, by decide⟩ := Fin.ext h
  decide

theorem halo_carries (c : Dev nD) (t : Fin cfg0.N) (C : Vec F S11x8x512 .f32) (hC : Carries m c t.val C) :
    ∀ k j hk (hj : j < 11), halo (isFirst (grid0.coords t)) (VecWindow.window C ![j, 0, lane k] S1x8x256.size (inb_carry hk hj)) = haloAt m c t k j hk hj := by
  intro k j hk hj
  unfold haloAt
  by_cases h : t.val = 0
  · rw [isFirst_zero t h]; exact halo_first _ _
  · rw [hC (prev t) (show t.val - 1 + 1 = t.val by omega) k j hk hj]

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := Inv' m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body starts from at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.castSucc = Inv' m c t.val from rfl, show (dats m 0 c).Φ t.succ = Inv' m c (t.val + 1) from rfl]
  unfold Inv'
  iintro ⟨⟨⟨⟨%ds0, HS0⟩, ⟨%ds1, HS1⟩, ⟨%ds2, HS2⟩, ⟨%ds3, HS3⟩, ⟨%ds4, HS4⟩, ⟨%C, %hC, HS5⟩⟩, Hg⟩, Ho, ⟨%d0, H0⟩, ⟨%d1, H1⟩, ⟨%d2, H2⟩, ⟨%d3, H3⟩, ⟨%d4, H4⟩, ⟨%d5, H5⟩, ⟨%d6, H6⟩⟩
  iapply (body_spec c (grid0.coords t) _ _ _ _ _ _ _ _ _ _ _ _ _ _ _ _ _ _ _ _ _ _ _ _ _ _ (xAt m c t) (gAt m c t) (w4At m c t) (tapsAt m c t) (w6At m c t) (g7At m c t) _ ds0 ds1 ds2 ds3 ds4 C Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  isplitl [HS5]; · iexact HS5
  rw [sumS_eq (w4At m c t) (startX (xAt m c t) (gAt m c t)) (tapsAt m c t) (w6At m c t) (haloAt m c t) (startO (xAt m c t)) (isFirst (grid0.coords t)) C (halo_carries m c t C hC)]
  iintro ⟨H0, H1, H2, H3, H4, H5, H6, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexists _; isplitr; swap; · iexact HS5
      ipureintro
      intro s hs k j hk hj
      obtain rfl : s = t := Fin.ext (by omega)
      exact carry_eq (w4At m c s) (startX (xAt m c s) (gAt m c s)) (tapsAt m c s) (w6At m c s) (haloAt m c s) (startO (xAt m c s)) (isFirst (grid0.coords s)) C (halo_carries m c s C hC) _ _ _ _ k j hk hj
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem inv_in (c : Dev nD) : (Pipeline.ΦA spec0 c : sProp 𝕄) ⊢ (dats m 0 c).Φ 0 := by
  rw [show (dats m 0 c).Φ 0 = Inv' m c 0 from rfl, PhiA0_eq]
  unfold Inv'
  iintro ⟨⟨HS0, HS1, HS2, HS3, HS4, ⟨%C, HS5⟩⟩, Hg⟩
  isplitl [HS0 HS1 HS2 HS3 HS4 HS5]
  · isplitl [HS0]; · iexact HS0
    isplitl [HS1]; · iexact HS1
    isplitl [HS2]; · iexact HS2
    isplitl [HS3]; · iexact HS3
    isplitl [HS4]; · iexact HS4
    iexists C; isplitr; swap; · iexact HS5
    ipureintro
    intro s hs
    exact absurd hs (Nat.succ_ne_zero _)
  iexact Hg

theorem inv_out (c : Dev nD) : (dats m 0 c).Φ (Fin.last cfg0.N) ⊢ (Pipeline.ΦA spec0 c : sProp 𝕄) := by
  rw [show (dats m 0 c).Φ (Fin.last cfg0.N) = Inv' m c cfg0.N from rfl, PhiA0_eq]
  unfold Inv'
  iintro ⟨⟨HS0, HS1, HS2, HS3, HS4, ⟨%C, %hC, HS5⟩⟩, Hg⟩
  isplitl [HS0 HS1 HS2 HS3 HS4 HS5]
  · isplitl [HS0]; · iexact HS0
    isplitl [HS1]; · iexact HS1
    isplitl [HS2]; · iexact HS2
    isplitl [HS3]; · iexact HS3
    isplitl [HS4]; · iexact HS4
    iexists C; iexact HS5
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m) (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- Every run ends, keeps the argument arrays, and leaves every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel2Ideal.Ffn

end
-- ==== Proof.Ffn.Printed.lean ====
/-
  The feed-forward program as printed and its idealization are the same text, as no operation was rewritten: so the frame
  proved for every reading of floats in the one holds in the other.
-/
module

public import proofs.«01_k».proof.Proof.Ffn.Frame
public import proofs.«01_k».proof.Defs
public import proofs.«01_k».proof.Proof.Gen.Kernel2

@[expose] public section
noncomputable section
namespace Cert.Kernel2.Ffn
open Idealize.ShloMosaic Idealize.SL.Sem

variable {F : FTy → Type} [FloatOps F]

theorem same_body : (Cert.Kernel2.cc0_ffn_final (F := F)) = (Cert.Kernel2Ideal.cc0_ffn_final (F := F)) := rfl

theorem same_main : (Cert.Kernel2.main (F := F)) = (Cert.Kernel2Ideal.main (F := F)) := rfl

theorem same_calls : (Cert.Kernel2.defs₀ (F := F)) = (Cert.Kernel2Ideal.defs₀ (F := F)) := by
  unfold Cert.Kernel2.defs₀ Cert.Kernel2Ideal.defs₀
  congr 1
  funext l a
  match l, a with
  | ⟨0, _⟩, (t, s) => rfl
  | ⟨n + 1, h⟩, _ => exact absurd h (Nat.not_lt.2 (Nat.le_add_left _ _))

theorem same_defs : (Cert.Kernel2.defs (F := F)) = (Cert.Kernel2Ideal.defs (F := F)) :=
  congrArg (Pipeline.defs (Cert.Kernel2.pcfgs (F := F))) same_calls

/-- The frame of the program as printed. -/
theorem frame : @Cert.quiescent_Kernel2 Cert.Kernel2.Gen.facts := fun m g _ =>
  (congrArg (fun D => θ_run D (onTc (τ := Cert.Kernel2.τ) (Cert.Kernel2.main (F := Bits))) ⟨m, fun _ => 0, g⟩ _) (same_defs (F := Bits))).mpr
    (Cert.Kernel2Ideal.Ffn.frame (F := Bits) m g)

end Cert.Kernel2.Ffn
end
-- ==== Proof.Ffn.Reference.lean ====
/-
  The reference's feed-forward network, entry by entry: the normed rows, their products with the first weight, the
  convolution along the sequence, the gated products, the residual sum and the last norm.
-/
module

public import proofs.«01_k».proof.Proof.Gen.Reference2Ideal.Run
public import Idealize.ShloMosaic.Lib.Pipeline.ValueKit
public import Idealize.ShloMosaic.Lib.Claim

@[expose] public section
set_option maxRecDepth 16384
noncomputable section
namespace Cert.Reference2Ideal.Read
open Cert.Reference2Ideal Cert.Reference2Ideal.Gen Cert.Reference2Ideal.Value
open Idealize.ShloMosaic Idealize.ShloMosaic.TcCoe Idealize.ShloMosaic.StableHlo

/-- Rows normed by their mean square and multiplied by the gain. -/
def rms (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1
    (Host.reduceAdd (mulf x x) (constant S_ .f32 0x00000000#32) reducesTo_S4x8192x1024_S4x8192_d2 h_S_)) (broadcastInDim S4x8192x1 ![] bcast_S_S4x8192x1 (constant S_ .f32 0x44800000#32)))
      (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- The normed rows times the first weight. -/
def wide (n : FVec Ideal S4x8192x1024 .f32) (w : FVec Ideal S1024x5632 .f32) : FVec Ideal S4x8192x5632 .f32 :=
  Host.dotGeneral dot_S4x8192x1024_S1024x5632_S4x8192x5632_2_0_01_1_n_n none n w

/-- Two rows of zeros before each sequence. -/
def padded (h : FVec Ideal S4x8192x5632 .f32) : FVec Ideal S4x8194x5632 .f32 :=
  pad S4x8194x5632 ![0, 2, 0] ![0, 0, 0] ![0, 0, 0] h (sitofp .f32 (constantI S_ 32 0#32)) pads_S4x8192x5632_S4x8194x5632_000_200_000 h_S_

/-- The convolution along the sequence. -/
def convolved (p : FVec Ideal S4x8194x5632 .f32) (cw : FVec Ideal S3x5632 .f32) (cb : FVec Ideal S5632 .f32) : FVec Ideal S4x8192x5632 .f32 :=
  addf (addf (addf (addf (broadcastInDim S4x8192x5632 ![] bcast_S_S4x8192x5632 (constant S_ .f32 0x00000000#32))
    (mulf (extractStridedSlice S4x8192x5632 ![0, 0, 0] p slices_S4x8194x5632_S4x8192x5632_0_0_0) (broadcastInDim S4x8192x5632 ![0, 1, 2] bcast_S1x1x5632_S4x8192x5632_0_1_2 (broadcastInDim S1x1x5632 ![2] bcast_S5632_S1x1x5632_2 (shapeCast S5632 (extractStridedSlice S1x5632 ![0, 0] cw slices_S3x5632_S1x5632_0_0) shapeCasts_S1x5632_S5632)))))
    (mulf (extractStridedSlice S4x8192x5632 ![0, 1, 0] p slices_S4x8194x5632_S4x8192x5632_0_1_0) (broadcastInDim S4x8192x5632 ![0, 1, 2] bcast_S1x1x5632_S4x8192x5632_0_1_2 (broadcastInDim S1x1x5632 ![2] bcast_S5632_S1x1x5632_2 (shapeCast S5632 (extractStridedSlice S1x5632 ![1, 0] cw slices_S3x5632_S1x5632_1_0) shapeCasts_S1x5632_S5632)))))
    (mulf (extractStridedSlice S4x8192x5632 ![0, 2, 0] p slices_S4x8194x5632_S4x8192x5632_0_2_0) (broadcastInDim S4x8192x5632 ![0, 1, 2] bcast_S1x1x5632_S4x8192x5632_0_1_2 (broadcastInDim S1x1x5632 ![2] bcast_S5632_S1x1x5632_2 (shapeCast S5632 (extractStridedSlice S1x5632 ![2, 0] cw slices_S3x5632_S1x5632_2_0) shapeCasts_S1x5632_S5632)))))
    (broadcastInDim S4x8192x5632 ![0, 1, 2] bcast_S1x1x5632_S4x8192x5632_0_1_2 (broadcastInDim S1x1x5632 ![2] bcast_S5632_S1x1x5632_2 cb))

/-- The silu of the first half. -/
def silu (u : FVec Ideal S4x8192x2816 .f32) : FVec Ideal S4x8192x2816 .f32 :=
  mulf u (Host.divf (broadcastInDim S4x8192x2816 ![] bcast_S_S4x8192x2816 (constant S_ .f32 0x3F800000#32))
    (addf (broadcastInDim S4x8192x2816 ![] bcast_S_S4x8192x2816 (constant S_ .f32 0x3F800000#32)) (Host.exp (Host.negf u))))

/-- The silu of the first half times the second half. -/
def gate (v : FVec Ideal S4x8192x5632 .f32) : FVec Ideal S4x8192x2816 .f32 :=
  mulf (silu (extractStridedSlice S4x8192x2816 ![0, 0, 0] v slices_S4x8192x5632_S4x8192x2816_0_0_0))
    (extractStridedSlice S4x8192x2816 ![0, 0, 2816] v slices_S4x8192x5632_S4x8192x2816_0_0_2816)

/-- The residual sum. -/
def total (x : FVec Ideal S4x8192x1024 .f32) (a : FVec Ideal S4x8192x2816 .f32) (w : FVec Ideal S2816x1024 .f32) : FVec Ideal S4x8192x1024 .f32 :=
  addf x (Host.dotGeneral dot_S4x8192x2816_S2816x1024_S4x8192x1024_2_0_01_1_n_n none a w)

/-- The reference's result, by its stages. -/
def ffn (x : FVec Ideal S4x8192x1024 .f32) (g : FVec Ideal S1024 .f32) (wu : FVec Ideal S1024x5632 .f32) (cw : FVec Ideal S3x5632 .f32) (cb : FVec Ideal S5632 .f32)
    (wd : FVec Ideal S2816x1024 .f32) (g7 : FVec Ideal S1024 .f32) : FVec Ideal S4x8192x1024 .f32 :=
  rms (total x (gate (convolved (padded (wide (rms x g) wu)) cw cb)) wd) g7

set_option maxHeartbeats 1000000 in
theorem res_eq (m : (ℓ : Loc nD τ sig) → Buf (Elt Ideal) ℓ) (c : Dev nD) :
    res_main_v58 m c = ffn (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  unfold res_main_v58 ffn total gate silu convolved padded wide rms
  rfl

/-- An entry of a normed row. -/
def normE (x g : Fin 1024 → EReal) (j : Fin 1024) : EReal :=
  x j * Ideal.rsqrt (Ideal.div (∑ i : Fin 1024, x i * x i) (Ideal.ofBits .f32 0x44800000#32) + Ideal.ofBits .f32 0x358637BD#32) * g j

theorem rms_at (x : FVec Ideal S4x8192x1024 .f32) (g : FVec Ideal S1024 .f32) (b : Fin 4) (s : Fin 8192) (j : Fin 1024) :
    rms x g (ix3 b s j) = normE (fun j => x (ix3 b s j)) (fun j => g (ix1 j)) j := by
  unfold normE
  pointwise [rms]

theorem wide_at (n : FVec Ideal S4x8192x1024 .f32) (w : FVec Ideal S1024x5632 .f32) (b : Fin 4) (s : Fin 8192) (e : Fin 5632) :
    wide n w (ix3 b s e) = ∑ j : Fin 1024, n (ix3 b s j) * w (ix2 j e) := by
  pointwise [wide]

theorem padded_at (h : FVec Ideal S4x8192x5632 .f32) (b : Fin 4) (s : Fin 8194) (e : Fin 5632) :
    padded h (ix3 b s e) = if hs : 2 ≤ s.val then h (ix3 b ⟨s.val - 2, by omega⟩ e) else (0 : EReal) := by
  pointwise [padded]
  have e0 : FloatOps.sitofp (F := Ideal) FTy.f32 (0#32) = (0 : EReal) := by
    show ((((0#32 : BitVec 32).toInt : ℤ) : ℝ) : EReal) = 0
    simp
  by_cases hs : 2 ≤ s.val
  · rw [dif_pos ⟨hs, by omega⟩, dif_pos hs]
  · rw [dif_neg (fun h => hs h.1), dif_neg hs]
    exact e0

theorem convolved_at (p : FVec Ideal S4x8194x5632 .f32) (cw : FVec Ideal S3x5632 .f32) (cb : FVec Ideal S5632 .f32) (b : Fin 4) (s : Fin 8192) (e : Fin 5632) :
    convolved p cw cb (ix3 b s e) = p (ix3 b ⟨s.val, by omega⟩ e) * cw (ix2 0 e) + p (ix3 b ⟨1 + s.val, by omega⟩ e) * cw (ix2 1 e)
      + p (ix3 b ⟨2 + s.val, by omega⟩ e) * cw (ix2 2 e) + cb (ix1 e) := by
  pointwise [convolved]

theorem silu_at (u : FVec Ideal S4x8192x2816 .f32) (b : Fin 4) (s : Fin 8192) (e : Fin 2816) :
    silu u (ix3 b s e) = u (ix3 b s e) * Ideal.div 1 (1 + Ideal.exp (-(u (ix3 b s e)))) := by
  pointwise [silu]

theorem gate_at (v : FVec Ideal S4x8192x5632 .f32) (b : Fin 4) (s : Fin 8192) (e : Fin 2816) :
    gate v (ix3 b s e) = v (ix3 b s ⟨e.val, by omega⟩) * Ideal.div 1 (1 + Ideal.exp (-(v (ix3 b s ⟨e.val, by omega⟩)))) * v (ix3 b s ⟨2816 + e.val, by omega⟩) := by
  unfold gate
  pointwise [silu_at]

theorem total_at (x : FVec Ideal S4x8192x1024 .f32) (a : FVec Ideal S4x8192x2816 .f32) (w : FVec Ideal S2816x1024 .f32) (b : Fin 4) (s : Fin 8192) (j : Fin 1024) :
    total x a w (ix3 b s j) = x (ix3 b s j) + ∑ e : Fin 2816, a (ix3 b s e) * w (ix2 e j) := by
  pointwise [total]

end Cert.Reference2Ideal.Read
end
-- ==== Proof.Ffn.Cells.lean ====
/-
  The kernel's vector functions, entry by entry: the normed rows, the products with 256 columns of the first weight, the
  row buffer, the convolution, the gated products and the sums with the second weight.
-/
module

public import proofs.«01_k».proof.Proof.Ffn.Frame
public import proofs.«01_k».proof.Proof.Ffn.Reference
public import Idealize.ShloMosaic.Lib.Pipeline.ValueKit
public import Idealize.ShloMosaic.Lib.Claim

@[expose] public section
set_option maxRecDepth 16384
noncomputable section
namespace Cert.Kernel2Ideal.Ffn
open Cert.Kernel2Ideal Cert.Kernel2Ideal.Gen
open Cert.Reference2Ideal.Read (normE)
open Idealize.ShloMosaic Idealize.ShloMosaic.TcCoe Idealize.ShloMosaic.StableHlo

theorem normed_at (x : FVec Ideal S512x1024 .f32) (g : FVec Ideal S1x1024 .f32) (r : Fin 512) (j : Fin 1024) :
    normed x g (ix2 r j) = normE (fun j => x (ix2 r j)) (fun j => g (ix2 0 j)) j := by
  unfold normE
  pointwise [normed]

theorem startX_at (x : FVec Ideal S1x512x1024 .f32) (g : FVec Ideal S1x1024 .f32) (r : Fin 512) (j : Fin 1024) :
    startX (F := Ideal) x g (ix3 0 r j) = normE (fun j => x (ix3 0 r j)) (fun j => g (ix2 0 j)) j := by
  unfold startX
  pointwise [normed_at]

theorem finishO_at (g : FVec Ideal S1x1024 .f32) (o : FVec Ideal S1x512x1024 .f32) (r : Fin 512) (j : Fin 1024) :
    finishO (F := Ideal) g o (ix3 0 r j) = normE (fun j => o (ix3 0 r j)) (fun j => g (ix2 0 j)) j := by
  unfold finishO
  pointwise [normed_at]

theorem startO_at (x : FVec Ideal S1x512x1024 .f32) (r : Fin 512) (j : Fin 1024) :
    startO (F := Ideal) x (ix3 0 r j) = x (ix3 0 r j) := by
  pointwise [startO]

theorem product_at (x : FVec Ideal S1x512x1024 .bf16) (w : FVec Ideal S1024x256 .bf16) (r : Fin 512) (l : Fin 256) :
    product (F := Ideal) x w (ix2 r l) = ∑ j : Fin 1024, x (ix3 0 r j) * w (ix2 j l) := by
  pointwise [product]

/-- A window of a matrix, entry by entry. -/
theorem window2 {a b p q : ℕ} {α : Type} (x : Shape.Idx (⟨2, ![a, b]⟩ : Shape) → α) (o1 o2 : ℕ) (inb) (i : Fin p) (j : Fin q) (h1 : o1 + i.val < a) (h2 : o2 + j.val < b) :
    VecWindow.window (s := (⟨2, ![a, b]⟩ : Shape)) x ![o1, o2] (⟨2, ![p, q]⟩ : Shape).size inb (ix2 i j) = x (ix2 ⟨o1 + i.val, h1⟩ ⟨o2 + j.val, h2⟩) := by
  unfold VecWindow.window
  refine congrArg x ?_
  funext d
  apply Fin.ext
  fin_cases d <;> simp [ix2]

theorem prodV_at (w4 : FVec Ideal S1024x5632 .bf16) (xn : FVec Ideal S1x512x1024 .bf16) (k c : ℕ) (hk : k < 2) (hc : c < 11) (r : Fin 512) (l : Fin 256) :
    prodV (F := Ideal) w4 xn k c hk hc (ix2 r l) = ∑ j : Fin 1024, xn (ix3 0 r j) * w4 (ix2 j ⟨col k c + l.val, by unfold col; omega⟩) := by
  unfold prodV
  rw [product_at]
  refine Finset.sum_congr rfl fun j _ => ?_
  refine congrArg (xn (ix3 0 r j) * ·) ?_
  refine (window2 w4 0 (col k c) _ j l (by omega) (by unfold col; omega)).trans ?_
  congr 2
  apply Fin.ext
  simp

theorem halo_at (f : BitVec 1) (d : FVec Ideal S1x8x256 .f32) (r : Fin 8) (l : Fin 256) :
    halo (F := Ideal) f d (ix2 r l) = if f = 1#1 then (0 : EReal) else d (ix3 0 r l) := by
  pointwise [halo]
  rfl

theorem lastRows_at (h : FVec Ideal S512x256 .f32) (r : Fin 8) (l : Fin 256) :
    lastRows h (ix3 0 r l) = h (ix2 ⟨504 + r.val, by omega⟩ l) := by
  pointwise [lastRows]

theorem conv_at (w : FVec Ideal S8x256 .f32) (d8 d6 d7 : FVec Ideal S512x256 .f32) (r : Fin 512) (l : Fin 256) :
    conv (F := Ideal) w d8 d6 d7 (ix2 r l) = w (ix2 2 l) * d8 (ix2 r l) + w (ix2 3 l) + w (ix2 0 l) * d6 (ix2 r l) + w (ix2 1 l) * d7 (ix2 r l) := by
  pointwise [conv]

theorem gated_at (u v : FVec Ideal S512x256 .f32) (r : Fin 512) (l : Fin 256) :
    gated (F := Ideal) u v (ix2 r l) = u (ix2 r l) * Ideal.div 1 (1 + Ideal.exp (-(u (ix2 r l)))) * v (ix2 r l) := by
  pointwise [gated]
  rw [zero_sub]

theorem added_at (o : FVec Ideal S1x512x1024 .f32) (a : FVec Ideal S512x256 .bf16) (w : FVec Ideal S256x1024 .bf16) (r : Fin 512) (j : Fin 1024) :
    added (F := Ideal) o a w (ix3 0 r j) = o (ix3 0 r j) + ∑ l : Fin 256, a (ix2 r l) * w (ix2 l j) := by
  pointwise [added]

/-! The row buffer: the carried rows, then the products. -/

theorem put2_in {a b p q : ℕ} {α : Type} (x : Shape.Idx (⟨2, ![a, b]⟩ : Shape) → α) (o1 o2 : ℕ) (w : Shape.Idx (⟨2, ![p, q]⟩ : Shape) → α) (i : Fin a) (j : Fin b)
    (h1 : o1 ≤ i.val) (h1' : i.val < o1 + p) (h2 : o2 ≤ j.val) (h2' : j.val < o2 + q) :
    VecWindow.put (s := (⟨2, ![a, b]⟩ : Shape)) x ![o1, o2] (⟨2, ![p, q]⟩ : Shape).size w (ix2 i j) = w (ix2 ⟨i.val - o1, by omega⟩ ⟨j.val - o2, by omega⟩) := by
  have h : ∀ d, (![o1, o2] : Fin 2 → ℕ) d ≤ ((ix2 i j : Shape.Idx (⟨2, ![a, b]⟩ : Shape)) d).val ∧ ((ix2 i j : Shape.Idx (⟨2, ![a, b]⟩ : Shape)) d).val < (![o1, o2] : Fin 2 → ℕ) d + (⟨2, ![p, q]⟩ : Shape).size d := by
    intro d
    fin_cases d
    · exact ⟨h1, h1'⟩
    · exact ⟨h2, h2'⟩
  unfold VecWindow.put
  rw [dif_pos h]
  refine congrArg w ?_
  funext d
  apply Fin.ext
  fin_cases d <;> simp [ix2, Rect.unitLocal]

theorem put2_out {a b p q : ℕ} {α : Type} (x : Shape.Idx (⟨2, ![a, b]⟩ : Shape) → α) (o1 o2 : ℕ) (w : Shape.Idx (⟨2, ![p, q]⟩ : Shape) → α) (i : Fin a) (j : Fin b)
    (h : i.val < o1 ∨ o1 + p ≤ i.val ∨ j.val < o2 ∨ o2 + q ≤ j.val) :
    VecWindow.put (s := (⟨2, ![a, b]⟩ : Shape)) x ![o1, o2] (⟨2, ![p, q]⟩ : Shape).size w (ix2 i j) = x (ix2 i j) := by
  unfold VecWindow.put
  rw [dif_neg]
  intro h'
  have a1 := h' 0
  have a2 := h' 1
  have b1 : o1 ≤ i.val ∧ i.val < o1 + p := a1
  have b2 : o2 ≤ j.val ∧ j.val < o2 + q := a2
  omega

/-- Rows 8 and up of the row buffer are the products. -/
theorem rows_new (w4 : FVec Ideal S1024x5632 .bf16) (xn : FVec Ideal S1x512x1024 .bf16) (Z : Halo Ideal) (k c : ℕ) (hk : k < 2) (hc : c < 11) (i : Fin 520) (hi : 8 ≤ i.val) (l : Fin 256) :
    rowsV (F := Ideal) w4 xn Z c hc (ix2 i ⟨lane k + l.val, by unfold lane; omega⟩) = prodV (F := Ideal) w4 xn k c hk hc (ix2 ⟨i.val - 8, by omega⟩ l) := by
  have cast (v : FVec Ideal S512x256 .f32) (a : Fin 512) (b : Fin 256) : shapeCast S512x256 v shapeCasts_S512x256_S512x256 (ix2 a b) = v (ix2 a b) := by pointwise
  have hl := l.isLt
  have hi' := i.isLt
  unfold rowsV
  obtain rfl | rfl : k = 0 ∨ k = 1 := by omega
  · rw [put2_out _ 8 (lane 1) _ _ _ (by simp only [lane]; omega), put2_out _ 0 (lane 1) _ _ _ (by simp only [lane]; omega),
      put2_in _ 8 (lane 0) _ _ _ hi (by omega) (by simp only [lane]; omega) (by simp only [lane]; omega), cast]
    congr 2
    apply Fin.ext
    simp [lane]
  · rw [put2_in _ 8 (lane 1) _ _ _ hi (by omega) (by simp only [lane]; omega) (by simp only [lane]; omega), cast]
    congr 2
    apply Fin.ext
    simp [lane]

/-- The first eight rows of the row buffer are the carried ones. -/
theorem rows_old (w4 : FVec Ideal S1024x5632 .bf16) (xn : FVec Ideal S1x512x1024 .bf16) (Z : Halo Ideal) (k c : ℕ) (hk : k < 2) (hc : c < 11) (i : Fin 520) (hi : i.val < 8) (l : Fin 256) :
    rowsV (F := Ideal) w4 xn Z c hc (ix2 i ⟨lane k + l.val, by unfold lane; omega⟩) = Z k c hk hc (ix2 ⟨i.val, hi⟩ l) := by
  have hl := l.isLt
  unfold rowsV
  obtain rfl | rfl : k = 0 ∨ k = 1 := by omega
  · rw [put2_out _ 8 (lane 1) _ _ _ (by simp only [lane]; omega), put2_out _ 0 (lane 1) _ _ _ (by simp only [lane]; omega),
      put2_out _ 8 (lane 0) _ _ _ (by omega),
      put2_in _ 0 (lane 0) _ _ _ (by omega) (by omega) (by simp only [lane]; omega) (by simp only [lane]; omega)]
    congr 2
    apply Fin.ext
    simp [lane]
  · rw [put2_out _ 8 (lane 1) _ _ _ (by omega),
      put2_in _ 0 (lane 1) _ _ _ (by omega) (by omega) (by simp only [lane]; omega) (by simp only [lane]; omega)]
    congr 2
    apply Fin.ext
    simp [lane]

theorem convV_at (taps : FVec Ideal S8x5632 .f32) (H : FVec Ideal S520x512 .f32) (k c : ℕ) (hk : k < 2) (hc : c < 11) (r : Fin 512) (l : Fin 256) :
    convV (F := Ideal) taps H k c hk hc (ix2 r l)
      = taps (ix2 2 ⟨col k c + l.val, by unfold col; omega⟩) * H (ix2 ⟨8 + r.val, by omega⟩ ⟨lane k + l.val, by unfold lane; omega⟩) + taps (ix2 3 ⟨col k c + l.val, by unfold col; omega⟩)
        + taps (ix2 0 ⟨col k c + l.val, by unfold col; omega⟩) * H (ix2 ⟨6 + r.val, by omega⟩ ⟨lane k + l.val, by unfold lane; omega⟩)
        + taps (ix2 1 ⟨col k c + l.val, by unfold col; omega⟩) * H (ix2 ⟨7 + r.val, by omega⟩ ⟨lane k + l.val, by unfold lane; omega⟩) := by
  have tap (i : Fin 8) : VecWindow.window (s := S8x5632) taps ![0, col k c] S8x256.size (inb_taps hk hc) (ix2 i l) = taps (ix2 i ⟨col k c + l.val, by unfold col; omega⟩) := by
    refine (window2 taps 0 (col k c) _ i l (by omega) (by unfold col; omega)).trans ?_
    congr 2
    apply Fin.ext
    simp
  have row (o : ℕ) (ho : o ≤ 8) : VecWindow.window (s := S520x512) H ![o, lane k] S512x256.size (inb_rows hk ho) (ix2 r l) = H (ix2 ⟨o + r.val, by omega⟩ ⟨lane k + l.val, by unfold lane; omega⟩) :=
    window2 H o (lane k) _ r l (by omega) (by unfold lane; omega)
  unfold convV
  rw [conv_at, tap, tap, tap, tap, row 8 (by omega), row 6 (by omega), row 7 (by omega)]

theorem downV_at (w6 : FVec Ideal S2816x1024 .bf16) (o : FVec Ideal S1x512x1024 .f32) (a : FVec Ideal S512x256 .bf16) (c : ℕ) (hc : c < 11) (r : Fin 512) (j : Fin 1024) :
    downV (F := Ideal) w6 o a c hc (ix3 0 r j) = o (ix3 0 r j) + ∑ l : Fin 256, a (ix2 r l) * w6 (ix2 ⟨c * 256 + l.val, by omega⟩ j) := by
  unfold downV
  rw [added_at]
  refine congrArg (o (ix3 0 r j) + ·) (Finset.sum_congr rfl fun l _ => congrArg (a (ix2 r l) * ·) ?_)
  refine (window2 w6 (c * 256) 0 _ l j (by omega) (by omega)).trans ?_
  congr 2
  apply Fin.ext
  simp

/-- The sum over all the chunks: the entry at the start and one sum over the 2816 gated products. -/
theorem sumV_at (w4 : FVec Ideal S1024x5632 .bf16) (xn : FVec Ideal S1x512x1024 .bf16) (taps : FVec Ideal S8x5632 .f32) (w6 : FVec Ideal S2816x1024 .bf16) (Z : Halo Ideal) (o : FVec Ideal S1x512x1024 .f32)
    (r : Fin 512) (j : Fin 1024) (A : Fin 2816 → EReal)
    (hA : ∀ c (hc : c < 11) (l : Fin 256), gateV (F := Ideal) taps (rowsV w4 xn Z c hc) c hc (ix2 r l) = A ⟨c * 256 + l.val, by omega⟩) :
    sumV (F := Ideal) w4 xn taps w6 Z o 11 (ix3 0 r j) = o (ix3 0 r j) + ∑ e : Fin 2816, A e * w6 (ix2 e j) := by
  let f : ℕ → EReal := fun e => if he : e < 2816 then A ⟨e, he⟩ * w6 (ix2 ⟨e, he⟩ j) else 0
  have key (n : ℕ) (hn : n ≤ 11) : sumV (F := Ideal) w4 xn taps w6 Z o n (ix3 0 r j) = o (ix3 0 r j) + ∑ e ∈ Finset.range (n * 256), f e := by
    induction n with
    | zero => simp [sumV]
    | succ n ih =>
      have h : n < 11 := by omega
      have e1 : (n + 1) * 256 = n * 256 + 256 := by ring
      rw [sumV, dif_pos h, downV_at, ih (by omega), e1, Finset.sum_range_add, add_assoc, Finset.sum_range (n := 256)]
      refine congrArg (o (ix3 0 r j) + ·) (congrArg ((∑ e ∈ Finset.range (n * 256), f e) + ·) (Finset.sum_congr rfl fun l _ => ?_))
      have hl : n * 256 + l.val < 2816 := by omega
      rw [hA n h l]
      simp only [f, dif_pos hl]
  rw [key 11 le_rfl]
  refine congrArg (o (ix3 0 r j) + ·) ?_
  show ∑ e ∈ Finset.range 2816, f e = _
  rw [Finset.sum_range]
  refine Finset.sum_congr rfl fun e _ => ?_
  simp only [f, dif_pos e.isLt]

end Cert.Kernel2Ideal.Ffn
end
-- ==== Proof.Ffn.Entry.lean ====
/-
  What the feed-forward call is given: the gains as rows, the weights, the taps and the bias in one array; and what each
  grid point's blocks of them hold.
-/
module

public import proofs.«01_k».proof.Proof.Ffn.Cells

@[expose] public section
set_option maxRecDepth 16384
noncomputable section
namespace Cert.Kernel2Ideal.Ffn
open Cert.Kernel2Ideal Cert.Kernel2Ideal.Gen
open Idealize.ShloMosaic Idealize.ShloMosaic.TcCoe Idealize.ShloMosaic.StableHlo

variable (m : (ℓ : Loc nD τ sig) → Buf (Elt Ideal) ℓ) (c : Dev nD)

/-- Three pieces read each at its own reference. -/
theorem nary3_result' {x a b y : Ref sig .tc} (f : ((k : Fin 3) → ((![x, a, b] : Fin 3 → Ref sig .tc) k).ty.Contents (Elt Ideal)) → y.ty.Contents (Elt Ideal)) (hxs hy)
    (F : Valuation τ sig (Elt Ideal)) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]
  congr 1
  funext k
  fin_cases k <;> rfl

/-- The taps and the bias as the call takes them. -/
def tapsHost (a3 : FVec Ideal S3x5632 .f32) (a4 : FVec Ideal S5632 .f32) : FVec Ideal S8x5632 .f32 :=
  concatenate S8x5632 0
    [⟨S3x5632, a3⟩, ⟨S1x5632, broadcastInDim S1x5632 ![1] bcast_S5632_S1x5632_1 a4⟩,
     ⟨S4x5632, broadcastInDim S4x5632 ![] bcast_S_S4x5632 (constant S_ .f32 0x00000000#32)⟩]
    concatenates_S3x5632_S1x5632_S4x5632_S8x5632_d0

set_option maxHeartbeats 4000000 in
theorem entry_taps : (V m c main_v2 : FVec Ideal S8x5632 .f32) = tapsHost (m ((c.tc : Thread nD τ).loc main_arg3)) (m ((c.tc : Thread nD τ).loc main_arg4)) := by
  show after hostOps0 _ _ = _
  simp (disch := decide) only [after_cons, after_nil, nullary_result', unary_result', binary_result', reshape_result', nary3_result',
    nullary_result_ne', unary_result_ne', binary_result_ne', reshape_result_ne', nary_result_ne']
  rfl

theorem entry_g (j : Fin 1024) : (V m c main_v3 : FVec Ideal S1x1024 .f32) (ix2 0 j) = (m ((c.tc : Thread nD τ).loc main_arg1) : FVec Ideal S1024 .f32) (ix1 j) := by
  entry_read
  pointwise
theorem entry_up (i : Fin 1024) (j : Fin 5632) : (V m c main_v4 : FVec Ideal S1024x5632 .bf16) (ix2 i j) = (m ((c.tc : Thread nD τ).loc main_arg2) : FVec Ideal S1024x5632 .f32) (ix2 i j) := by
  entry_read
  pointwise
theorem entry_down (i : Fin 2816) (j : Fin 1024) : (V m c main_v5 : FVec Ideal S2816x1024 .bf16) (ix2 i j) = (m ((c.tc : Thread nD τ).loc main_arg5) : FVec Ideal S2816x1024 .f32) (ix2 i j) := by
  entry_read
  pointwise
theorem entry_g7 (j : Fin 1024) : (V m c main_v6 : FVec Ideal S1x1024 .f32) (ix2 0 j) = (m ((c.tc : Thread nD τ).loc main_arg6) : FVec Ideal S1024 .f32) (ix1 j) := by
  entry_read
  pointwise

theorem taps0 (a3 : FVec Ideal S3x5632 .f32) (a4 : FVec Ideal S5632 .f32) (e : Fin 5632) : tapsHost a3 a4 (ix2 0 e) = a3 (ix2 0 e) := by
  pointwise [tapsHost]
theorem taps1 (a3 : FVec Ideal S3x5632 .f32) (a4 : FVec Ideal S5632 .f32) (e : Fin 5632) : tapsHost a3 a4 (ix2 1 e) = a3 (ix2 1 e) := by
  pointwise [tapsHost]
theorem taps2 (a3 : FVec Ideal S3x5632 .f32) (a4 : FVec Ideal S5632 .f32) (e : Fin 5632) : tapsHost a3 a4 (ix2 2 e) = a3 (ix2 2 e) := by
  pointwise [tapsHost]
theorem taps3 (a3 : FVec Ideal S3x5632 .f32) (a4 : FVec Ideal S5632 .f32) (e : Fin 5632) : tapsHost a3 a4 (ix2 3 e) = a4 (ix1 e) := by
  pointwise [tapsHost]

/-! The blocks of a grid point: its sequence and its 512 rows; the other windows are whole arrays. -/

/-- The sequence of a grid point. -/
def bat (t : Fin cfg0.N) : Fin 4 := grid0.coords t 0
/-- The block of rows of a grid point. -/
def qb (t : Fin cfg0.N) : Fin 16 := grid0.coords t 1

theorem idx0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![(grid0.coords t 0).val, (grid0.coords t 1).val, 0] :=
  (by decide +kernel : ∀ t : Fin grid0.N, win0_6.index t = ![(grid0.coords t 0).val, (grid0.coords t 1).val, 0])

theorem read0 (W : (b : Ref sig .tc) → Buf (Elt Ideal) ((c : Thread nD τ).loc b)) (t : Fin cfg0.N) (y : S1x512x1024.Idx) :
    ((cfg0.win 0).blk t).view.read (Elt Ideal) (W (Pipeline.arrRef spec0 0)) y = W main_arg0 ((win0_0.blk t).view.emb y) := rfl
theorem read1 (W : (b : Ref sig .tc) → Buf (Elt Ideal) ((c : Thread nD τ).loc b)) (t : Fin cfg0.N) (y : S1x1024.Idx) :
    ((cfg0.win 1).blk t).view.read (Elt Ideal) (W (Pipeline.arrRef spec0 1)) y = W main_v3 ((win0_1.blk t).view.emb y) := rfl
theorem read2 (W : (b : Ref sig .tc) → Buf (Elt Ideal) ((c : Thread nD τ).loc b)) (t : Fin cfg0.N) (y : S1024x5632.Idx) :
    ((cfg0.win 2).blk t).view.read (Elt Ideal) (W (Pipeline.arrRef spec0 2)) y = W main_v4 ((win0_2.blk t).view.emb y) := rfl
theorem read3 (W : (b : Ref sig .tc) → Buf (Elt Ideal) ((c : Thread nD τ).loc b)) (t : Fin cfg0.N) (y : S8x5632.Idx) :
    ((cfg0.win 3).blk t).view.read (Elt Ideal) (W (Pipeline.arrRef spec0 3)) y = W main_v2 ((win0_3.blk t).view.emb y) := rfl
theorem read4 (W : (b : Ref sig .tc) → Buf (Elt Ideal) ((c : Thread nD τ).loc b)) (t : Fin cfg0.N) (y : S2816x1024.Idx) :
    ((cfg0.win 4).blk t).view.read (Elt Ideal) (W (Pipeline.arrRef spec0 4)) y = W main_v5 ((win0_4.blk t).view.emb y) := rfl
theorem read5 (W : (b : Ref sig .tc) → Buf (Elt Ideal) ((c : Thread nD τ).loc b)) (t : Fin cfg0.N) (y : S1x1024.Idx) :
    ((cfg0.win 5).blk t).view.read (Elt Ideal) (W (Pipeline.arrRef spec0 5)) y = W main_v6 ((win0_5.blk t).view.emb y) := rfl

theorem emb0 (t : Fin cfg0.N) (r : Fin 512) (j : Fin 1024) : (win0_0.blk t).view.emb (ix3 0 r j) = ix3 (bat t) ⟨512 * (qb t).val + r.val, by omega⟩ j := by
  blk_ext [idx0 t, bat, qb]
theorem emb1 (t : Fin cfg0.N) (j : Fin 1024) : (win0_1.blk t).view.emb (ix2 0 j) = ix2 0 j := by
  blk_ext [idx1 t]
theorem emb2 (t : Fin cfg0.N) (i : Fin 1024) (j : Fin 5632) : (win0_2.blk t).view.emb (ix2 i j) = ix2 i j := by
  blk_ext [idx2 t]
theorem emb3 (t : Fin cfg0.N) (i : Fin 8) (j : Fin 5632) : (win0_3.blk t).view.emb (ix2 i j) = ix2 i j := by
  blk_ext [idx3 t]
theorem emb4 (t : Fin cfg0.N) (i : Fin 2816) (j : Fin 1024) : (win0_4.blk t).view.emb (ix2 i j) = ix2 i j := by
  blk_ext [idx4 t]
theorem emb5 (t : Fin cfg0.N) (j : Fin 1024) : (win0_5.blk t).view.emb (ix2 0 j) = ix2 0 j := by
  blk_ext [idx5 t]
theorem emb6 (t : Fin cfg0.N) (r : Fin 512) (j : Fin 1024) : (win0_6.blk t).view.emb (ix3 0 r j) = ix3 (bat t) ⟨512 * (qb t).val + r.val, by omega⟩ j := by
  blk_ext [idx6 t, bat, qb]

theorem block_x (t : Fin cfg0.N) (r : Fin 512) (j : Fin 1024) : (xAt m c t : FVec Ideal S1x512x1024 .f32) (ix3 0 r j)
    = (m ((c.tc : Thread nD τ).loc main_arg0) : FVec Ideal S4x8192x1024 .f32) (ix3 (bat t) ⟨512 * (qb t).val + r.val, by omega⟩ j) :=
  ((read0 c (V m c) t (ix3 0 r j)).trans (congrArg (V m c main_arg0) (emb0 t r j))).trans (congrFun (V_main_arg0 m c) _)
theorem block_g (t : Fin cfg0.N) (j : Fin 1024) : (gAt m c t : FVec Ideal S1x1024 .f32) (ix2 0 j) = (m ((c.tc : Thread nD τ).loc main_arg1) : FVec Ideal S1024 .f32) (ix1 j) :=
  ((read1 c (V m c) t (ix2 0 j)).trans (congrArg (V m c main_v3) (emb1 t j))).trans (entry_g m c j)
theorem block_up (t : Fin cfg0.N) (i : Fin 1024) (j : Fin 5632) : (w4At m c t : FVec Ideal S1024x5632 .bf16) (ix2 i j) = (m ((c.tc : Thread nD τ).loc main_arg2) : FVec Ideal S1024x5632 .f32) (ix2 i j) :=
  ((read2 c (V m c) t (ix2 i j)).trans (congrArg (V m c main_v4) (emb2 t i j))).trans (entry_up m c i j)
theorem block_taps (t : Fin cfg0.N) (i : Fin 8) (j : Fin 5632) : (tapsAt m c t : FVec Ideal S8x5632 .f32) (ix2 i j)
    = tapsHost (m ((c.tc : Thread nD τ).loc main_arg3)) (m ((c.tc : Thread nD τ).loc main_arg4)) (ix2 i j) :=
  ((read3 c (V m c) t (ix2 i j)).trans (congrArg (V m c main_v2) (emb3 t i j))).trans (congrFun (entry_taps m c) _)
theorem block_down (t : Fin cfg0.N) (i : Fin 2816) (j : Fin 1024) : (w6At m c t : FVec Ideal S2816x1024 .bf16) (ix2 i j) = (m ((c.tc : Thread nD τ).loc main_arg5) : FVec Ideal S2816x1024 .f32) (ix2 i j) :=
  ((read4 c (V m c) t (ix2 i j)).trans (congrArg (V m c main_v5) (emb4 t i j))).trans (entry_down m c i j)
theorem block_g7 (t : Fin cfg0.N) (j : Fin 1024) : (g7At m c t : FVec Ideal S1x1024 .f32) (ix2 0 j) = (m ((c.tc : Thread nD τ).loc main_arg6) : FVec Ideal S1024 .f32) (ix1 j) :=
  ((read5 c (V m c) t (ix2 0 j)).trans (congrArg (V m c main_v6) (emb5 t j))).trans (entry_g7 m c j)

/-- The point before a point that is not the first of its sequence: the same sequence, the block of rows before. -/
theorem prev_coords : ∀ t : Fin cfg0.N, (grid0.coords t 1).val ≠ 0 → grid0.coords (prev t) 0 = grid0.coords t 0 ∧ (grid0.coords (prev t) 1).val + 1 = (grid0.coords t 1).val :=
  (by decide +kernel : ∀ t : Fin grid0.N, (grid0.coords t 1).val ≠ 0 → grid0.coords ⟨t.val - 1, lt_of_le_of_lt (Nat.sub_le _ _) t.isLt⟩ 0 = grid0.coords t 0
    ∧ (grid0.coords ⟨t.val - 1, lt_of_le_of_lt (Nat.sub_le _ _) t.isLt⟩ 1).val + 1 = (grid0.coords t 1).val)

theorem isFirst_iff : ∀ t : Fin cfg0.N, isFirst (grid0.coords t) = 1#1 ↔ (grid0.coords t 1).val = 0 :=
  (by decide +kernel : ∀ t : Fin grid0.N, isFirst (grid0.coords t) = 1#1 ↔ (grid0.coords t 1).val = 0)

end Cert.Kernel2Ideal.Ffn
end
-- ==== Proof.Ffn.Equal.lean ====
/-
  Every grid point's block of the output is the reference's result at the block's rows; so the output array after the
  run is the reference's result.
-/
module

public import proofs.«01_k».proof.Proof.Ffn.Entry
public import Idealize.ShloMosaic.Lib.Pipeline.Value

@[expose] public section
set_option maxRecDepth 16384
noncomputable section
namespace Cert.Kernel2Ideal.Ffn
open Cert.Kernel2Ideal Cert.Kernel2Ideal.Gen
open Cert.Reference2Ideal.Read (normE rms wide padded convolved total ffn rms_at wide_at padded_at convolved_at gate_at total_at)
open Idealize.ShloMosaic Idealize.ShloMosaic.TcCoe Idealize.SL.Sem

variable (m : (ℓ : Loc nD τ sig) → Buf (Elt Ideal) ℓ) (c : Dev nD)

/-- The argument arrays. -/
abbrev A0 : FVec Ideal S4x8192x1024 .f32 := m ((c.tc : Thread nD τ).loc main_arg0)
abbrev A1 : FVec Ideal S1024 .f32 := m ((c.tc : Thread nD τ).loc main_arg1)
abbrev A2 : FVec Ideal S1024x5632 .f32 := m ((c.tc : Thread nD τ).loc main_arg2)
abbrev A3 : FVec Ideal S3x5632 .f32 := m ((c.tc : Thread nD τ).loc main_arg3)
abbrev A4 : FVec Ideal S5632 .f32 := m ((c.tc : Thread nD τ).loc main_arg4)
abbrev A5 : FVec Ideal S2816x1024 .f32 := m ((c.tc : Thread nD τ).loc main_arg5)
abbrev A6 : FVec Ideal S1024 .f32 := m ((c.tc : Thread nD τ).loc main_arg6)

/-- The reference's first product, its convolution, its gated products, and its result, of the kernel's arguments. -/
def wideM : FVec Ideal Cert.Reference2Ideal.S4x8192x5632 .f32 := wide (rms (A0 m c) (A1 m c)) (A2 m c)
def convM : FVec Ideal Cert.Reference2Ideal.S4x8192x5632 .f32 := convolved (padded (wideM m c)) (A3 m c) (A4 m c)
def gateM : FVec Ideal Cert.Reference2Ideal.S4x8192x2816 .f32 := Cert.Reference2Ideal.Read.gate (convM m c)
def totalM : FVec Ideal S4x8192x1024 .f32 := total (A0 m c) (gateM m c) (A5 m c)
def expected : FVec Ideal S4x8192x1024 .f32 := ffn (A0 m c) (A1 m c) (A2 m c) (A3 m c) (A4 m c) (A5 m c) (A6 m c)

theorem expected_eq : expected m c = rms (totalM m c) (A6 m c) := rfl

/-- A grid point's normed rows. -/
theorem xn_point (t : Fin cfg0.N) (r : Fin 512) (j : Fin 1024) :
    (xnAt m c t : FVec Ideal S1x512x1024 .bf16) (ix3 0 r j) = rms (A0 m c) (A1 m c) (ix3 (bat t) ⟨512 * (qb t).val + r.val, by omega⟩ j) := by
  unfold xnAt
  rw [startX_at, rms_at]
  simp only [block_x, block_g]

/-- A grid point's products with the first weight. -/
theorem prod_point (t : Fin cfg0.N) (k i : ℕ) (hk : k < 2) (hi : i < 11) (r : Fin 512) (l : Fin 256) :
    prodV (F := Ideal) (w4At m c t) (xnAt m c t) k i hk hi (ix2 r l) = wideM m c (ix3 (bat t) ⟨512 * (qb t).val + r.val, by omega⟩ ⟨col k i + l.val, by unfold col; omega⟩) := by
  unfold wideM
  rw [prodV_at, wide_at]
  refine Finset.sum_congr rfl fun j _ => ?_
  rw [xn_point, block_up]

/-- A grid point's row buffer: the padded products from two rows before the block on. -/
theorem rows_point (t : Fin cfg0.N) (k i : ℕ) (hk : k < 2) (hi : i < 11) (ρ : Fin 520) (hρ : 6 ≤ ρ.val) (l : Fin 256) :
    rowsV (F := Ideal) (w4At m c t) (xnAt m c t) (haloAt m c t) i hi (ix2 ρ ⟨lane k + l.val, by unfold lane; omega⟩)
      = padded (wideM m c) (ix3 (bat t) ⟨512 * (qb t).val + ρ.val - 6, by omega⟩ ⟨col k i + l.val, by unfold col; omega⟩) := by
  rw [padded_at]
  by_cases h8 : 8 ≤ ρ.val
  · rw [rows_new _ _ _ _ _ hk hi ρ h8 l, prod_point, dif_pos (by simp only []; omega)]
    congr 2
    apply Fin.ext
    simp only []
    omega
  · rw [rows_old _ _ _ _ _ hk hi ρ (by omega) l]
    unfold haloAt
    rw [halo_at]
    by_cases h0 : (qb t).val = 0
    · rw [if_pos ((isFirst_iff t).mpr h0), dif_neg (by simp only []; omega)]
    · obtain ⟨e0, e1⟩ := prev_coords t h0
      have e0' : bat (prev t) = bat t := e0
      have e1' : (qb (prev t)).val + 1 = (qb t).val := e1
      rw [if_neg (fun h => h0 ((isFirst_iff t).mp h)), dif_pos (by simp only []; omega)]
      unfold carried
      rw [lastRows_at, prod_point, e0']
      congr 2
      apply Fin.ext
      simp only []
      omega

/-- A grid point's convolution. -/
theorem conv_point (t : Fin cfg0.N) (k i : ℕ) (hk : k < 2) (hi : i < 11) (r : Fin 512) (l : Fin 256) :
    convV (F := Ideal) (tapsAt m c t) (rowsV (w4At m c t) (xnAt m c t) (haloAt m c t) i hi) k i hk hi (ix2 r l)
      = convM m c (ix3 (bat t) ⟨512 * (qb t).val + r.val, by omega⟩ ⟨col k i + l.val, by unfold col; omega⟩) := by
  unfold convM
  rw [convV_at, convolved_at, rows_point m c t k i hk hi _ (by simp only []; omega), rows_point m c t k i hk hi _ (by simp only []; omega), rows_point m c t k i hk hi _ (by simp only []; omega),
    block_taps, block_taps, block_taps, block_taps, taps0, taps1, taps2, taps3]
  have s0 : 512 * (qb t).val + (6 + r.val) - 6 = 512 * (qb t).val + r.val := by omega
  have s1 : 512 * (qb t).val + (7 + r.val) - 6 = 1 + (512 * (qb t).val + r.val) := by omega
  have s2 : 512 * (qb t).val + (8 + r.val) - 6 = 2 + (512 * (qb t).val + r.val) := by omega
  simp only [s0, s1, s2]
  generalize padded (wideM m c) _ = p0
  generalize padded (wideM m c) _ = p1
  generalize padded (wideM m c) _ = p2
  rw [mul_comm p0, mul_comm p1, mul_comm p2]
  abel

/-- A grid point's gated products. -/
theorem gate_point (t : Fin cfg0.N) (i : ℕ) (hi : i < 11) (r : Fin 512) (l : Fin 256) :
    gateV (F := Ideal) (tapsAt m c t) (rowsV (w4At m c t) (xnAt m c t) (haloAt m c t) i hi) i hi (ix2 r l)
      = gateM m c (ix3 (bat t) ⟨512 * (qb t).val + r.val, by omega⟩ ⟨i * 256 + l.val, by omega⟩) := by
  unfold gateV gateM
  rw [gated_at, gate_at, conv_point, conv_point]
  have f0 : (⟨col 0 i + l.val, by unfold col; omega⟩ : Fin 5632) = ⟨i * 256 + l.val, by omega⟩ := Fin.ext (by simp only [col]; omega)
  have f1 : (⟨col 1 i + l.val, by unfold col; omega⟩ : Fin 5632) = ⟨2816 + (i * 256 + l.val), by omega⟩ := Fin.ext (by simp only [col]; omega)
  rw [f0, f1]

/-- A grid point's block of the output. -/
theorem out_point (t : Fin cfg0.N) (r : Fin 512) (j : Fin 1024) :
    (outAt m c t : FVec Ideal S1x512x1024 .f32) (ix3 0 r j) = expected m c (ix3 (bat t) ⟨512 * (qb t).val + r.val, by omega⟩ j) := by
  have tot (j : Fin 1024) : sumV (F := Ideal) (w4At m c t) (xnAt m c t) (tapsAt m c t) (w6At m c t) (haloAt m c t) (startO (xAt m c t)) 11 (ix3 0 r j)
      = totalM m c (ix3 (bat t) ⟨512 * (qb t).val + r.val, by omega⟩ j) := by
    rw [sumV_at (A := fun e => gateM m c (ix3 (bat t) ⟨512 * (qb t).val + r.val, by omega⟩ e)) (hA := fun i hi l => gate_point m c t i hi r l)]
    unfold totalM
    rw [total_at, startO_at, block_x]
    simp only [block_down]
  rw [expected_eq, rms_at]
  unfold outAt
  rw [finishO_at]
  simp only [tot, block_g7]

/-- Every index of the output block. -/
theorem block_index (y : S1x512x1024.Idx) : ∃ (r : Fin 512) (j : Fin 1024), y = ix3 0 r j := by
  refine ⟨y 1, y 2, ?_⟩
  funext d
  fin_cases d
  · exact Subsingleton.elim (α := Fin 1) _ _
  · rfl
  · rfl

theorem point_eq (t : Fin cfg0.N) (y : S1x512x1024.Idx) : (outAt m c t : FVec Ideal S1x512x1024 .f32) y = expected m c ((win0_6.blk t).view.emb y) := by
  obtain ⟨r, j, rfl⟩ := block_index y
  rw [emb6]
  exact out_point m c t r j

/-- The output array after the run is the reference's result. -/
theorem array_eq : (dats m 0 c).arrAt 6 cfg0.N = expected m c := by
  refine (dats m 0 c).arrAt_eq_of_covers 6 (expected m c) (by decide +kernel) fun t hf y => ?_
  blk_simp
  rw [after0_6]
  exact point_eq m c t y

theorem kept_main_arg0 {F : FTy → Type} [FloatOps F] (m : (ℓ : Loc nD τ sig) → Buf (Elt F) ℓ) (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The run of the kernel: its result is the reference's, its arguments are kept. -/
theorem run_equal (g : Dev nD → PrngReg) : θ_run defs (onTc (τ := τ) (main (F := Ideal))) ⟨m, fun _ => 0, g⟩ fun r => ∀ c : Dev nD,
      r.2.mem ((c : Thread nD τ).loc main_v7) = expected m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 6).trans (array_eq m c), kept_main_arg0 m r h c,
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m g)

end Cert.Kernel2Ideal.Ffn
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Points
public import proofs.«01_k».proof.Proof.Gen.Kernel2Ideal.Skeleton
public import proofs.«01_k».proof.Proof.Gen.Reference2Ideal
public import proofs.«01_k».proof.Proof.Gen.Reference2Ideal.Run
public import proofs.«01_k».proof.Proof.Attn.FrameBits
public import proofs.«01_k».proof.Proof.Equal
public import proofs.«01_k».proof.Proof.Ffn.Printed
public import proofs.«01_k».proof.Proof.Ffn.Equal
public import Idealize.ShloMosaic.Adequacy
public import Idealize.ShloMosaic.Init
public import Idealize.ShloMosaic.Lib.Claim

@[expose] public section

noncomputable section

namespace Cert.Proof

open Idealize.ShloMosaic Idealize.SL.Sem

/-- The shape facts that the precondition states. -/
theorem finite_facts : Cert.Pre_finite.Facts := by
  constructor <;> decide

/-- The reference ends, keeps its arguments, and has no semaphore to leave standing. -/
theorem reference_frame [Cert.ReferenceIdeal.Facts] : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- From finite queries and keys, the kernel's result and the reference's are the same. -/
theorem equal : @Cert.algebraic_KernelIdeal_ReferenceIdeal_pre_finite Cert.KernelIdeal.Gen.facts Cert.ReferenceIdeal.Gen.facts finite_facts := by
  intro m g m' g' hp ha
  refine ⟨fun c => Cert.KernelIdeal.Attn.expected m c, ?_, ?_⟩
  · refine (θ_run Cert.KernelIdeal.defs _ _).mono (fun r h c => ⟨(h c).1.trans ?_, (h c).2⟩) (Cert.KernelIdeal.Attn.run_blocks m g)
    obtain ⟨h0, h1, h2, h3⟩ := @Cert.Factors.real_of_finite finite_facts _ _ _ _ _ (hp c)
    exact Cert.KernelIdeal.Attn.array_eq m c h0 h1 h2 h3
  · refine (θ_run Cert.ReferenceIdeal.defs _ _).mono (fun r h c => ⟨(h c).1.trans ?_, (h c).2⟩) (Cert.ReferenceIdeal.Value.run (F := Ideal) m' g')
    obtain ⟨e0, e1, e2, e3, e4⟩ := ha c
    refine (Cert.ReferenceIdeal.Read.res_eq m' c).trans ?_
    rw [e0, e1, e2, e3, e4]
    rfl

/-- The second reference ends, keeps its arguments, and has no semaphore to leave standing. -/
theorem reference2_frame [Cert.Reference2Ideal.Facts] : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The feed-forward kernel's result and its reference's are the same. -/
theorem equal2 : @Cert.algebraic_Kernel2Ideal_Reference2Ideal Cert.Kernel2Ideal.Gen.facts Cert.Reference2Ideal.Gen.facts := by
  intro m g m' g' _ ha
  refine ⟨fun c => Cert.Kernel2Ideal.Ffn.expected m c, Cert.Kernel2Ideal.Ffn.run_equal m g, ?_⟩
  refine (θ_run Cert.Reference2Ideal.defs _ _).mono (fun r h c => ⟨(h c).1.trans ?_, (h c).2⟩) (Cert.Reference2Ideal.Value.run (F := Ideal) m' g')
  obtain ⟨e0, e1, e2, e3, e4, e5, e6⟩ := ha c
  refine (Cert.Reference2Ideal.Read.res_eq m' c).trans ?_
  rw [e0, e1, e2, e3, e4, e5, e6]
  rfl

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, finite_facts,
    fun m g _ => Cert.Kernel.Attn.frame m g,
    fun m g _ => Cert.KernelIdeal.Attn.frame m g,
    fun m g _ => Cert.KernelIdeal.Attn.frame m g,
    reference_frame,
    fun m g _ => reference_frame m g trivial,
    Cert.Kernel2.Ffn.frame,
    fun m g _ => Cert.Kernel2Ideal.Ffn.frame m g,
    reference2_frame,
    IdealRules.named_const.statement Cert.KernelIdeal.κ "mask" .f32 0xF149F2CA#32 ⊥ rfl,
    equal,
    trivial,
    equal2⟩

end Cert.Proof

end
